-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.Statement Cert.KernelIdeal.S32x128 Cert.KernelIdeal.S16x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_v182) = v1 c
          ∧ r.2.mem ((c.tc : Thread Cert.ReferenceIdeal.nD Cert.ReferenceIdeal.τ).loc Cert.ReferenceIdeal.main_v185) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1536x14336 : Shape := ⟨3, ![8, 1536, 14336]⟩
abbrev S14336x2048 : Shape := ⟨2, ![14336, 2048]⟩
abbrev S448x128 : Shape := ⟨2, ![448, 128]⟩
abbrev S12288x14336 : Shape := ⟨2, ![12288, 14336]⟩
abbrev S12288x4096 : Shape := ⟨2, ![12288, 4096]⟩
abbrev S12288x7168 : Shape := ⟨2, ![12288, 7168]⟩
abbrev S12288x448 : Shape := ⟨2, ![12288, 448]⟩
abbrev S1024x512 : Shape := ⟨2, ![1024, 512]⟩
abbrev S512x2048 : Shape := ⟨2, ![512, 2048]⟩
abbrev S1024x4096 : Shape := ⟨2, ![1024, 4096]⟩
abbrev S1024x256 : Shape := ⟨2, ![1024, 256]⟩
abbrev S1024x448 : Shape := ⟨2, ![1024, 448]⟩
abbrev S2x1024x512 : Shape := ⟨3, ![2, 1024, 512]⟩
abbrev S2x512x4096 : Shape := ⟨3, ![2, 512, 4096]⟩
abbrev S256x512 : Shape := ⟨2, ![256, 512]⟩
abbrev S1x1024x512 : Shape := ⟨3, ![1, 1024, 512]⟩
abbrev S1x512x256 : Shape := ⟨3, ![1, 512, 256]⟩
abbrev S512x256 : Shape := ⟨2, ![512, 256]⟩
abbrev S8x128 : Shape := ⟨2, ![8, 128]⟩
abbrev S32x128 : Shape := ⟨2, ![32, 128]⟩
abbrev S1x128 : Shape := ⟨2, ![1, 128]⟩
abbrev S8x128x1 : Shape := ⟨3, ![8, 128, 1]⟩
abbrev S16x128 : Shape := ⟨2, ![16, 128]⟩
abbrev S1x32x128 : Shape := ⟨3, ![1, 32, 128]⟩
abbrev S16x128x1 : Shape := ⟨3, ![16, 128, 1]⟩

abbrev nBuf : Space → Nat
  | .hbm => 9
  | .vmem => 18
  | .smem => 0
  | _ => 0

abbrev bufTy : (tb : Table) → Fin (tcTables nBuf tb) → BufTy
  | .hbm, ⟨0, _⟩ => ⟨S8x1536x14336, .bf16⟩
  | .hbm, ⟨1, _⟩ => ⟨S8x1536x14336, .i32⟩
  | .hbm, ⟨2, _⟩ => ⟨S14336x2048, .i8⟩
  | .hbm, ⟨3, _⟩ => ⟨S448x128, .i8⟩
  | .hbm, ⟨4, _⟩ => ⟨S12288x14336, .bf16⟩
  | .hbm, ⟨5, _⟩ => ⟨S12288x14336, .i32⟩
  | .hbm, ⟨6, _⟩ => ⟨S12288x4096, .bf16⟩
  | .hbm, ⟨7, _⟩ => ⟨S12288x7168, .i8⟩
  | .hbm, ⟨8, _⟩ => ⟨S12288x448, .i8⟩
  | .local _ .vmem, ⟨0, _⟩ => ⟨S1024x512, .bf16⟩
  | .local _ .vmem, ⟨1, _⟩ => ⟨S1024x512, .bf16⟩
  | .local _ .vmem, ⟨2, _⟩ => ⟨S1024x512, .i32⟩
  | .local _ .vmem, ⟨3, _⟩ => ⟨S1024x512, .i32⟩
  | .local _ .vmem, ⟨4, _⟩ => ⟨S512x2048, .i8⟩
  | .local _ .vmem, ⟨5, _⟩ => ⟨S512x2048, .i8⟩
  | .local _ .vmem, ⟨6, _⟩ => ⟨S448x128, .i8⟩
  | .local _ .vmem, ⟨7, _⟩ => ⟨S1024x4096, .bf16⟩
  | .local _ .vmem, ⟨8, _⟩ => ⟨S1024x4096, .bf16⟩
  | .local _ .vmem, ⟨9, _⟩ => ⟨S1024x256, .i8⟩
  | .local _ .vmem, ⟨10, _⟩ => ⟨S1024x256, .i8⟩
  | .local _ .vmem, ⟨11, _⟩ => ⟨S1024x448, .i8⟩
  | .local _ .vmem, ⟨12, _⟩ => ⟨S1024x448, .i8⟩
  | .local _ .vmem, ⟨13, _⟩ => ⟨S1024x4096, .f32⟩
  | .local _ .vmem, ⟨14, _⟩ => ⟨S2x1024x512, .bf16⟩
  | .local _ .vmem, ⟨15, _⟩ => ⟨S2x512x4096, .bf16⟩
  | .local _ .vmem, ⟨16, _⟩ => ⟨S448x128, .i32⟩
  | .local _ .vmem, ⟨17, _⟩ => ⟨S256x512, .i32⟩
  | _, _ => ⟨S8x1536x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [BitOps F]

abbrev grid0 : Pipeline.Grid := ⟨1, ![337], ![false]⟩

@[reducible] def k0_t1_loop : Scf.Loop 32 :=
  let c0_i32_20 : BitVec 32 := 0#32
  let c16_i32_21 : BitVec 32 := 16#32
  let v48 : BitVec 32 := Scalar.addi c0_i32_20 c16_i32_21
  let c1_i32_22 : BitVec 32 := 1#32
  ⟨c0_i32_20, v48, c1_i32_22⟩
def k0_mult1 (k0_t1 : Fin k0_t1_loop.trips) : BitVec 32 :=
  let c0_i32_20 : BitVec 32 := 0#32
  let c1_i32_22 : BitVec 32 := 1#32
  let arg13 : BitVec 32 := Scf.iv c0_i32_20 c1_i32_22 k0_t1
  let c256_i32_31 : BitVec 32 := 256#32
  let v54 : BitVec 32 := Scalar.muli arg13 c256_i32_31
  v54
def k0_off1 (i : grid0.Coords) : Fin 3 → Nat :=
  let arg0 : BitVec 32 := BitVec.ofNat 32 (i 0).val
  let c1_i32_2 : BitVec 32 := 1#32
  let v6 : BitVec 32 := Scalar.addi arg0 c1_i32_2
  let c2_i32_3 : BitVec 32 := 2#32
  let v7 : BitVec 32 := Scalar.remsi v6 c2_i32_3
  let v56 : Index := Scalar.indexCast v7
  let c0 : Index := 0#32
  let c0_32 : Index := 0#32
  ![v56.toNat, 0, 0]
def k0_off2 (i : grid0.Coords) (k0_t1 : Fin k0_t1_loop.trips) : Fin 3 → Nat :=
  let arg0 : BitVec 32 := BitVec.ofNat 32 (i 0).val
  let c1_i32_2 : BitVec 32 := 1#32
  let v6 : BitVec 32 := Scalar.addi arg0 c1_i32_2
  let c2_i32_3 : BitVec 32 := 2#32
  let v7 : BitVec 32 := Scalar.remsi v6 c2_i32_3
  let v59 : Index := Scalar.indexCast v7
  let c0_33 : Index := 0#32
  let c0_i32_20 : BitVec 32 := 0#32
  let c1_i32_22 : BitVec 32 := 1#32
  let arg13 : BitVec 32 := Scf.iv c0_i32_20 c1_i32_22 k0_t1
  let c256_i32_31 : BitVec 32 := 256#32
  let v54 : BitVec 32 := Scalar.muli arg13 c256_i32_31
  let v55 : BitVec 32 := v54
  let v60 : Index := Scalar.indexCast v55
  ![v59.toNat, 0, v60.toNat]
def k0_off3 (k0_t1 : Fin k0_t1_loop.trips) : Fin 2 → Nat :=
  let c0_35 : Index := 0#32
  let c0_i32_20 : BitVec 32 := 0#32
  let c1_i32_22 : BitVec 32 := 1#32
  let arg13 : BitVec 32 := Scf.iv c0_i32_20 c1_i32_22 k0_t1
  let c256_i32_31 : BitVec 32 := 256#32
  let v54 : BitVec 32 := Scalar.muli arg13 c256_i32_31
  let v55 : BitVec 32 := v54
  let v65 : Index := Scalar.indexCast v55
  ![0, v65.toNat]
@[reducible] def k0_t2_loop : Scf.Loop 32 :=
  let c0_i32_24 : BitVec 32 := 0#32
  let c256_i32 : BitVec 32 := 256#32
  let v49 : BitVec 32 := Scalar.addi c0_i32_24 c256_i32
  let c1_i32_25 : BitVec 32 := 1#32
  ⟨c0_i32_24, v49, c1_i32_25⟩
def k0_mult2 (k0_t2 : Fin k0_t2_loop.trips) : BitVec 32 :=
  let c0_i32_24 : BitVec 32 := 0#32
  let c1_i32_25 : BitVec 32 := 1#32
  let arg13 : BitVec 32 := Scf.iv c0_i32_24 c1_i32_25 k0_t2
  let c0_i32_32 : BitVec 32 := 0#32
  let v55 : BitVec 1 := Scalar.cmpi .sgt arg13 c0_i32_32
  let v56 : BitVec 32 := Scalar.extui v55
  let c0_i32_33 : BitVec 32 := 0#32
  let v57 : BitVec 1 := Scalar.cmpi .slt arg13 c0_i32_33
  let v58 : BitVec 32 := Scalar.extui v57
  let v59 : BitVec 32 := Scalar.subi v56 v58
  let c16_i32_31 : BitVec 32 := 16#32
  let c0_i32_34 : BitVec 32 := 0#32
  let v60 : BitVec 1 := Scalar.cmpi .sgt c16_i32_31 c0_i32_34
  let v61 : BitVec 32 := Scalar.extui v60
  let c0_i32_35 : BitVec 32 := 0#32
  let v62 : BitVec 1 := Scalar.cmpi .slt c16_i32_31 c0_i32_35
  let v63 : BitVec 32 := Scalar.extui v62
  let v64 : BitVec 32 := Scalar.subi v61 v63
  let v65 : BitVec 1 := Scalar.cmpi .ne v59 v64
  let v66 : BitVec 32 := Scalar.remsi arg13 c16_i32_31
  let c0_i32_36 : BitVec 32 := 0#32
  let v67 : BitVec 1 := Scalar.cmpi .ne v66 c0_i32_36
  let v68 : BitVec 1 := Scalar.andi v65 v67
  let v54 : BitVec 32 := Scalar.divsi arg13 c16_i32_31
  let c1_i32_37 : BitVec 32 := 1#32
  let v69 : BitVec 32 := Scalar.subi v54 c1_i32_37
  let v70 : BitVec 32 := Scalar.select v68 v69 v54
  let c128_i32_39 : BitVec 32 := 128#32
  let v73 : BitVec 32 := Scalar.muli v70 c128_i32_39
  v73
def k0_mult3 (k0_t2 : Fin k0_t2_loop.trips) : BitVec 32 :=
  let c0_i32_24 : BitVec 32 := 0#32
  let c1_i32_25 : BitVec 32 := 1#32
  let arg13 : BitVec 32 := Scf.iv c0_i32_24 c1_i32_25 k0_t2
  let c16_i32_38 : BitVec 32 := 16#32
  let v71 : BitVec 32 := Scalar.remsi arg13 c16_i32_38
  let c32_i32_40 : BitVec 32 := 32#32
  let v75 : BitVec 32 := Scalar.muli v71 c32_i32_40
  v75
def k0_off4 (k0_t2 : Fin k0_t2_loop.trips) : Fin 2 → Nat :=
  let c0_i32_24 : BitVec 32 := 0#32
  let c1_i32_25 : BitVec 32 := 1#32
  let arg13 : BitVec 32 := Scf.iv c0_i32_24 c1_i32_25 k0_t2
  let c16_i32_38 : BitVec 32 := 16#32
  let v71 : BitVec 32 := Scalar.remsi arg13 c16_i32_38
  let c32_i32_40 : BitVec 32 := 32#32
  let v75 : BitVec 32 := Scalar.muli v71 c32_i32_40
  let v76 : BitVec 32 := v75
  let v77 : Index := Scalar.indexCast v76
  let c0_i32_32 : BitVec 32 := 0#32
  let v55 : BitVec 1 := Scalar.cmpi .sgt arg13 c0_i32_32
  let v56 : BitVec 32 := Scalar.extui v55
  let c0_i32_33 : BitVec 32 := 0#32
  let v57 : BitVec 1 := Scalar.cmpi .slt arg13 c0_i32_33
  let v58 : BitVec 32 := Scalar.extui v57
  let v59 : BitVec 32 := Scalar.subi v56 v58
  let c16_i32_31 : BitVec 32 := 16#32
  let c0_i32_34 : BitVec 32 := 0#32
  let v60 : BitVec 1 := Scalar.cmpi .sgt c16_i32_31 c0_i32_34
  let v61 : BitVec 32 := Scalar.extui v60
  let c0_i32_35 : BitVec 32 := 0#32
  let v62 : BitVec 1 := Scalar.cmpi .slt c16_i32_31 c0_i32_35
  let v63 : BitVec 32 := Scalar.extui v62
  let v64 : BitVec 32 := Scalar.subi v61 v63
  let v65 : BitVec 1 := Scalar.cmpi .ne v59 v64
  let v66 : BitVec 32 := Scalar.remsi arg13 c16_i32_31
  let c0_i32_36 : BitVec 32 := 0#32
  let v67 : BitVec 1 := Scalar.cmpi .ne v66 c0_i32_36
  let v68 : BitVec 1 := Scalar.andi v65 v67
  let v54 : BitVec 32 := Scalar.divsi arg13 c16_i32_31
  let c1_i32_37 : BitVec 32 := 1#32
  let v69 : BitVec 32 := Scalar.subi v54 c1_i32_37
  let v70 : BitVec 32 := Scalar.select v68 v69 v54
  let c128_i32_39 : BitVec 32 := 128#32
  let v73 : BitVec 32 := Scalar.muli v70 c128_i32_39
  let v74 : BitVec 32 := v73
  let v78 : Index := Scalar.indexCast v74
  ![v77.toNat, v78.toNat]
def k0_off5 (i : grid0.Coords) (k0_t2 : Fin k0_t2_loop.trips) : Fin 2 → Nat :=
  let arg0 : BitVec 32 := BitVec.ofNat 32 (i 0).val
  let c335_i32 : BitVec 32 := 335#32
  let v0 : BitVec 32 := Scalar.minsi arg0 c335_i32
  let c28_i32 : BitVec 32 := 28#32
  let v1 : BitVec 32 := Scalar.remsi v0 c28_i32
  let c16_i32_41 : BitVec 32 := 16#32
  let v81 : BitVec 32 := Scalar.muli v1 c16_i32_41
  let c0_i32_24 : BitVec 32 := 0#32
  let c1_i32_25 : BitVec 32 := 1#32
  let arg13 : BitVec 32 := Scf.iv c0_i32_24 c1_i32_25 k0_t2
  let c16_i32_38 : BitVec 32 := 16#32
  let v71 : BitVec 32 := Scalar.remsi arg13 c16_i32_38
  let v82 : BitVec 32 := Scalar.addi v81 v71
  let v83 : Index := Scalar.indexCast v82
  let c0 : Index := 0#32
  ![v83.toNat, 0]
def k0_mult4 (k0_t2 : Fin k0_t2_loop.trips) : BitVec 32 :=
  let c0_i32_24 : BitVec 32 := 0#32
  let c1_i32_25 : BitVec 32 := 1#32
  let arg13 : BitVec 32 := Scf.iv c0_i32_24 c1_i32_25 k0_t2
  let c0_i32_32 : BitVec 32 := 0#32
  let v55 : BitVec 1 := Scalar.cmpi .sgt arg13 c0_i32_32
  let v56 : BitVec 32 := Scalar.extui v55
  let c0_i32_33 : BitVec 32 := 0#32
  let v57 : BitVec 1 := Scalar.cmpi .slt arg13 c0_i32_33
  let v58 : BitVec 32 := Scalar.extui v57
  let v59 : BitVec 32 := Scalar.subi v56 v58
  let c16_i32_31 : BitVec 32 := 16#32
  let c0_i32_34 : BitVec 32 := 0#32
  let v60 : BitVec 1 := Scalar.cmpi .sgt c16_i32_31 c0_i32_34
  let v61 : BitVec 32 := Scalar.extui v60
  let c0_i32_35 : BitVec 32 := 0#32
  let v62 : BitVec 1 := Scalar.cmpi .slt c16_i32_31 c0_i32_35
  let v63 : BitVec 32 := Scalar.extui v62
  let v64 : BitVec 32 := Scalar.subi v61 v63
  let v65 : BitVec 1 := Scalar.cmpi .ne v59 v64
  let v66 : BitVec 32 := Scalar.remsi arg13 c16_i32_31
  let c0_i32_36 : BitVec 32 := 0#32
  let v67 : BitVec 1 := Scalar.cmpi .ne v66 c0_i32_36
  let v68 : BitVec 1 := Scalar.andi v65 v67
  let v54 : BitVec 32 := Scalar.divsi arg13 c16_i32_31
  let c1_i32_37 : BitVec 32 := 1#32
  let v69 : BitVec 32 := Scalar.subi v54 c1_i32_37
  let v70 : BitVec 32 := Scalar.select v68 v69 v54
  let c256_i32_52 : BitVec 32 := 256#32
  let v140 : BitVec 32 := Scalar.muli v70 c256_i32_52
  let c0_i32_53 : BitVec 32 := 0#32
  let v141 : BitVec 32 := Scalar.addi v140 c0_i32_53
  v141
def k0_off6 (i : grid0.Coords) (k0_t2 : Fin k0_t2_loop.trips) (c0_i32_53 : BitVec 32) : Fin 3 → Nat :=
  let arg0 : BitVec 32 := BitVec.ofNat 32 (i 0).val
  let c2_i32 : BitVec 32 := 2#32
  let v5 : BitVec 32 := Scalar.remsi arg0 c2_i32
  let v143 : Index := Scalar.indexCast v5
  let c0_i32_24 : BitVec 32 := 0#32
  let c1_i32_25 : BitVec 32 := 1#32
  let arg13 : BitVec 32 := Scf.iv c0_i32_24 c1_i32_25 k0_t2
  let c16_i32_38 : BitVec 32 := 16#32
  let v71 : BitVec 32 := Scalar.remsi arg13 c16_i32_38
  let c32_i32_40 : BitVec 32 := 32#32
  let v75 : BitVec 32 := Scalar.muli v71 c32_i32_40
  let v76 : BitVec 32 := v75
  let v144 : Index := Scalar.indexCast v76
  let c0_i32_32 : BitVec 32 := 0#32
  let v55 : BitVec 1 := Scalar.cmpi .sgt arg13 c0_i32_32
  let v56 : BitVec 32 := Scalar.extui v55
  let c0_i32_33 : BitVec 32 := 0#32
  let v57 : BitVec 1 := Scalar.cmpi .slt arg13 c0_i32_33
  let v58 : BitVec 32 := Scalar.extui v57
  let v59 : BitVec 32 := Scalar.subi v56 v58
  let c16_i32_31 : BitVec 32 := 16#32
  let c0_i32_34 : BitVec 32 := 0#32
  let v60 : BitVec 1 := Scalar.cmpi .sgt c16_i32_31 c0_i32_34
  let v61 : BitVec 32 := Scalar.extui v60
  let c0_i32_35 : BitVec 32 := 0#32
  let v62 : BitVec 1 := Scalar.cmpi .slt c16_i32_31 c0_i32_35
  let v63 : BitVec 32 := Scalar.extui v62
  let v64 : BitVec 32 := Scalar.subi v61 v63
  let v65 : BitVec 1 := Scalar.cmpi .ne v59 v64
  let v66 : BitVec 32 := Scalar.remsi arg13 c16_i32_31
  let c0_i32_36 : BitVec 32 := 0#32
  let v67 : BitVec 1 := Scalar.cmpi .ne v66 c0_i32_36
  let v68 : BitVec 1 := Scalar.andi v65 v67
  let v54 : BitVec 32 := Scalar.divsi arg13 c16_i32_31
  let c1_i32_37 : BitVec 32 := 1#32
  let v69 : BitVec 32 := Scalar.subi v54 c1_i32_37
  let v70 : BitVec 32 := Scalar.select v68 v69 v54
  let c256_i32_52 : BitVec 32 := 256#32
  let v140 : BitVec 32 := Scalar.muli v70 c256_i32_52
  let v141 : BitVec 32 := Scalar.addi v140 c0_i32_53
  let v142 : BitVec 32 := v141
  let v145 : Index := Scalar.indexCast v142
  ![v143.toNat, v144.toNat, v145.toNat]
def k0_mult5 (k0_t2 : Fin k0_t2_loop.trips) : BitVec 32 :=
  let c0_i32_24 : BitVec 32 := 0#32
  let c1_i32_25 : BitVec 32 := 1#32
  let arg13 : BitVec 32 := Scf.iv c0_i32_24 c1_i32_25 k0_t2
  let c0_i32_32 : BitVec 32 := 0#32
  let v55 : BitVec 1 := Scalar.cmpi .sgt arg13 c0_i32_32
  let v56 : BitVec 32 := Scalar.extui v55
  let c0_i32_33 : BitVec 32 := 0#32
  let v57 : BitVec 1 := Scalar.cmpi .slt arg13 c0_i32_33
  let v58 : BitVec 32 := Scalar.extui v57
  let v59 : BitVec 32 := Scalar.subi v56 v58
  let c16_i32_31 : BitVec 32 := 16#32
  let c0_i32_34 : BitVec 32 := 0#32
  let v60 : BitVec 1 := Scalar.cmpi .sgt c16_i32_31 c0_i32_34
  let v61 : BitVec 32 := Scalar.extui v60
  let c0_i32_35 : BitVec 32 := 0#32
  let v62 : BitVec 1 := Scalar.cmpi .slt c16_i32_31 c0_i32_35
  let v63 : BitVec 32 := Scalar.extui v62
  let v64 : BitVec 32 := Scalar.subi v61 v63
  let v65 : BitVec 1 := Scalar.cmpi .ne v59 v64
  let v66 : BitVec 32 := Scalar.remsi arg13 c16_i32_31
  let c0_i32_36 : BitVec 32 := 0#32
  let v67 : BitVec 1 := Scalar.cmpi .ne v66 c0_i32_36
  let v68 : BitVec 1 := Scalar.andi v65 v67
  let v54 : BitVec 32 := Scalar.divsi arg13 c16_i32_31
  let c1_i32_37 : BitVec 32 := 1#32
  let v69 : BitVec 32 := Scalar.subi v54 c1_i32_37
  let v70 : BitVec 32 := Scalar.select v68 v69 v54
  let c256_i32_72 : BitVec 32 := 256#32
  let v202 : BitVec 32 := Scalar.muli v70 c256_i32_72
  let c128_i32_73 : BitVec 32 := 128#32
  let v203 : BitVec 32 := Scalar.addi v202 c128_i32_73
  v203
@[reducible] def k0_t3_loop : Scf.Loop 32 :=
  let c0_i32_27 : BitVec 32 := 0#32
  let c32_i32 : BitVec 32 := 32#32
  let v50 : BitVec 32 := Scalar.addi c0_i32_27 c32_i32
  let c1_i32_28 : BitVec 32 := 1#32
  ⟨c0_i32_27, v50, c1_i32_28⟩
def k0_mult6 (k0_t3 : Fin k0_t3_loop.trips) : BitVec 32 :=
  let c0_i32_27 : BitVec 32 := 0#32
  let c1_i32_28 : BitVec 32 := 1#32
  let arg13 : BitVec 32 := Scf.iv c0_i32_27 c1_i32_28 k0_t3
  let c32_i32_31 : BitVec 32 := 32#32
  let v54 : BitVec 32 := Scalar.muli arg13 c32_i32_31
  v54
def k0_off7 (k0_t3 : Fin k0_t3_loop.trips) : Fin 2 → Nat :=
  let c0_i32_27 : BitVec 32 := 0#32
  let c1_i32_28 : BitVec 32 := 1#32
  let arg13 : BitVec 32 := Scf.iv c0_i32_27 c1_i32_28 k0_t3
  let c32_i32_31 : BitVec 32 := 32#32
  let v54 : BitVec 32 := Scalar.muli arg13 c32_i32_31
  let v55 : BitVec 32 := v54
  let v56 : Index := Scalar.indexCast v55
  let c0 : Index := 0#32
  ![v56.toNat, 0]
def k0_off8 (i : grid0.Coords) (k0_t3 : Fin k0_t3_loop.trips) : Fin 3 → Nat :=
  let arg0 : BitVec 32 := BitVec.ofNat 32 (i 0).val
  let c2_i32 : BitVec 32 := 2#32
  let v5 : BitVec 32 := Scalar.remsi arg0 c2_i32
  let v239 : Index := Scalar.indexCast v5
  let c0_i32_27 : BitVec 32 := 0#32
  let c1_i32_28 : BitVec 32 := 1#32
  let arg13 : BitVec 32 := Scf.iv c0_i32_27 c1_i32_28 k0_t3
  let c32_i32_31 : BitVec 32 := 32#32
  let v54 : BitVec 32 := Scalar.muli arg13 c32_i32_31
  let v55 : BitVec 32 := v54
  let v240 : Index := Scalar.indexCast v55
  let c0_59 : Index := 0#32
  ![v239.toNat, v240.toNat, 0]
def k0_off9 (k0_t3 : Fin k0_t3_loop.trips) : Fin 2 → Nat :=
  let c0_i32_27 : BitVec 32 := 0#32
  let c1_i32_28 : BitVec 32 := 1#32
  let arg13 : BitVec 32 := Scf.iv c0_i32_27 c1_i32_28 k0_t3
  let c32_i32_31 : BitVec 32 := 32#32
  let v54 : BitVec 32 := Scalar.muli arg13 c32_i32_31
  let v55 : BitVec 32 := v54
  let v244 : Index := Scalar.indexCast v55
  let c128 : Index := 128#32
  ![v244.toNat, 128]
def k0_off10 (i : grid0.Coords) (k0_t3 : Fin k0_t3_loop.trips) : Fin 3 → Nat :=
  let arg0 : BitVec 32 := BitVec.ofNat 32 (i 0).val
  let c2_i32 : BitVec 32 := 2#32
  let v5 : BitVec 32 := Scalar.remsi arg0 c2_i32
  let v427 : Index := Scalar.indexCast v5
  let c0_i32_27 : BitVec 32 := 0#32
  let c1_i32_28 : BitVec 32 := 1#32
  let arg13 : BitVec 32 := Scf.iv c0_i32_27 c1_i32_28 k0_t3
  let c32_i32_31 : BitVec 32 := 32#32
  let v54 : BitVec 32 := Scalar.muli arg13 c32_i32_31
  let v55 : BitVec 32 := v54
  let v428 : Index := Scalar.indexCast v55
  let c128_114 : Index := 128#32
  ![v427.toNat, v428.toNat, 128]
def k0_off11 (k0_t3 : Fin k0_t3_loop.trips) : Fin 2 → Nat :=
  let c0_i32_27 : BitVec 32 := 0#32
  let c1_i32_28 : BitVec 32 := 1#32
  let arg13 : BitVec 32 := Scf.iv c0_i32_27 c1_i32_28 k0_t3
  let c32_i32_31 : BitVec 32 := 32#32
  let v54 : BitVec 32 := Scalar.muli arg13 c32_i32_31
  let v55 : BitVec 32 := v54
  let v468 : Index := Scalar.indexCast v55
  let c0_126 : Index := 0#32
  ![v468.toNat, 0]
def k0_off12 (k0_t3 : Fin k0_t3_loop.trips) : Fin 2 → Nat :=
  let c0_i32_27 : BitVec 32 := 0#32
  let c1_i32_28 : BitVec 32 := 1#32
  let arg13 : BitVec 32 := Scf.iv c0_i32_27 c1_i32_28 k0_t3
  let c32_i32_31 : BitVec 32 := 32#32
  let v54 : BitVec 32 := Scalar.muli arg13 c32_i32_31
  let v55 : BitVec 32 := v54
  let v470 : Index := Scalar.indexCast v55
  let c256 : Index := 256#32
  ![v470.toNat, 256]
def k0_off13 (i : grid0.Coords) (k0_t3 : Fin k0_t3_loop.trips) : Fin 3 → Nat :=
  let arg0 : BitVec 32 := BitVec.ofNat 32 (i 0).val
  let c2_i32 : BitVec 32 := 2#32
  let v5 : BitVec 32 := Scalar.remsi arg0 c2_i32
  let v653 : Index := Scalar.indexCast v5
  let c0_i32_27 : BitVec 32 := 0#32
  let c1_i32_28 : BitVec 32 := 1#32
  let arg13 : BitVec 32 := Scf.iv c0_i32_27 c1_i32_28 k0_t3
  let c32_i32_31 : BitVec 32 := 32#32
  let v54 : BitVec 32 := Scalar.muli arg13 c32_i32_31
  let v55 : BitVec 32 := v54
  let v654 : Index := Scalar.indexCast v55
  let c256_181 : Index := 256#32
  ![v653.toNat, v654.toNat, 256]
def k0_off14 (k0_t3 : Fin k0_t3_loop.trips) : Fin 2 → Nat :=
  let c0_i32_27 : BitVec 32 := 0#32
  let c1_i32_28 : BitVec 32 := 1#32
  let arg13 : BitVec 32 := Scf.iv c0_i32_27 c1_i32_28 k0_t3
  let c32_i32_31 : BitVec 32 := 32#32
  let v54 : BitVec 32 := Scalar.muli arg13 c32_i32_31
  let v55 : BitVec 32 := v54
  let v664 : Index := Scalar.indexCast v55
  let c384 : Index := 384#32
  ![v664.toNat, 384]
def k0_off15 (i : grid0.Coords) (k0_t3 : Fin k0_t3_loop.trips) : Fin 3 → Nat :=
  let arg0 : BitVec 32 := BitVec.ofNat 32 (i 0).val
  let c2_i32 : BitVec 32 := 2#32
  let v5 : BitVec 32 := Scalar.remsi arg0 c2_i32
  let v847 : Index := Scalar.indexCast v5
  let c0_i32_27 : BitVec 32 := 0#32
  let c1_i32_28 : BitVec 32 := 1#32
  let arg13 : BitVec 32 := Scf.iv c0_i32_27 c1_i32_28 k0_t3
  let c32_i32_31 : BitVec 32 := 32#32
  let v54 : BitVec 32 := Scalar.muli arg13 c32_i32_31
  let v55 : BitVec 32 := v54
  let v848 : Index := Scalar.indexCast v55
  let c384_238 : Index := 384#32
  ![v847.toNat, v848.toNat, 384]
def k0_off16 (k0_t3 : Fin k0_t3_loop.trips) : Fin 2 → Nat :=
  let c0_i32_27 : BitVec 32 := 0#32
  let c1_i32_28 : BitVec 32 := 1#32
  let arg13 : BitVec 32 := Scf.iv c0_i32_27 c1_i32_28 k0_t3
  let c32_i32_31 : BitVec 32 := 32#32
  let v54 : BitVec 32 := Scalar.muli arg13 c32_i32_31
  let v55 : BitVec 32 := v54
  let v888 : Index := Scalar.indexCast v55
  let c128_251 : Index := 128#32
  ![v888.toNat, 128]
def k0_mult7 (k0_t3 : Fin k0_t3_loop.trips) : BitVec 32 :=
  let c0_i32_27 : BitVec 32 := 0#32
  let c1_i32_28 : BitVec 32 := 1#32
  let arg13 : BitVec 32 := Scf.iv c0_i32_27 c1_i32_28 k0_t3
  let c8_i32_257 : BitVec 32 := 8#32
  let v908 : BitVec 32 := Scalar.muli arg13 c8_i32_257
  v908
def k0_mult8 (i : grid0.Coords) : BitVec 32 :=
  let arg0 : BitVec 32 := BitVec.ofNat 32 (i 0).val
  let c335_i32 : BitVec 32 := 335#32
  let v0 : BitVec 32 := Scalar.minsi arg0 c335_i32
  let c28_i32 : BitVec 32 := 28#32
  let v1 : BitVec 32 := Scalar.remsi v0 c28_i32
  let c16_i32 : BitVec 32 := 16#32
  let v11 : BitVec 32 := Scalar.muli v1 c16_i32
  let c0_i32_5 : BitVec 32 := 0#32
  let v13 : BitVec 1 := Scalar.cmpi .sgt v11 c0_i32_5
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c128_i32 : BitVec 32 := 128#32
  let c0_i32_7 : BitVec 32 := 0#32
  let v18 : BitVec 1 := Scalar.cmpi .sgt c128_i32 c0_i32_7
  let v19 : BitVec 32 := Scalar.extui v18
  let c0_i32_8 : BitVec 32 := 0#32
  let v20 : BitVec 1 := Scalar.cmpi .slt c128_i32 c0_i32_8
  let v21 : BitVec 32 := Scalar.extui v20
  let v22 : BitVec 32 := Scalar.subi v19 v21
  let v23 : BitVec 1 := Scalar.cmpi .ne v17 v22
  let v24 : BitVec 32 := Scalar.remsi v11 c128_i32
  let c0_i32_9 : BitVec 32 := 0#32
  let v25 : BitVec 1 := Scalar.cmpi .ne v24 c0_i32_9
  let v26 : BitVec 1 := Scalar.andi v23 v25
  let v12 : BitVec 32 := Scalar.divsi v11 c128_i32
  let c1_i32_10 : BitVec 32 := 1#32
  let v27 : BitVec 32 := Scalar.subi v12 c1_i32_10
  let v28 : BitVec 32 := Scalar.select v26 v27 v12
  let c128_i32_258 : BitVec 32 := 128#32
  let v910 : BitVec 32 := Scalar.muli v28 c128_i32_258
  v910
def k0_off17 (i : grid0.Coords) (k0_t3 : Fin k0_t3_loop.trips) : Fin 2 → Nat :=
  let c0_i32_27 : BitVec 32 := 0#32
  let c1_i32_28 : BitVec 32 := 1#32
  let arg13 : BitVec 32 := Scf.iv c0_i32_27 c1_i32_28 k0_t3
  let c8_i32_257 : BitVec 32 := 8#32
  let v908 : BitVec 32 := Scalar.muli arg13 c8_i32_257
  let v909 : BitVec 32 := v908
  let v938 : Index := Scalar.indexCast v909
  let arg0 : BitVec 32 := BitVec.ofNat 32 (i 0).val
  let c335_i32 : BitVec 32 := 335#32
  let v0 : BitVec 32 := Scalar.minsi arg0 c335_i32
  let c28_i32 : BitVec 32 := 28#32
  let v1 : BitVec 32 := Scalar.remsi v0 c28_i32
  let c16_i32 : BitVec 32 := 16#32
  let v11 : BitVec 32 := Scalar.muli v1 c16_i32
  let c0_i32_5 : BitVec 32 := 0#32
  let v13 : BitVec 1 := Scalar.cmpi .sgt v11 c0_i32_5
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c128_i32 : BitVec 32 := 128#32
  let c0_i32_7 : BitVec 32 := 0#32
  let v18 : BitVec 1 := Scalar.cmpi .sgt c128_i32 c0_i32_7
  let v19 : BitVec 32 := Scalar.extui v18
  let c0_i32_8 : BitVec 32 := 0#32
  let v20 : BitVec 1 := Scalar.cmpi .slt c128_i32 c0_i32_8
  let v21 : BitVec 32 := Scalar.extui v20
  let v22 : BitVec 32 := Scalar.subi v19 v21
  let v23 : BitVec 1 := Scalar.cmpi .ne v17 v22
  let v24 : BitVec 32 := Scalar.remsi v11 c128_i32
  let c0_i32_9 : BitVec 32 := 0#32
  let v25 : BitVec 1 := Scalar.cmpi .ne v24 c0_i32_9
  let v26 : BitVec 1 := Scalar.andi v23 v25
  let v12 : BitVec 32 := Scalar.divsi v11 c128_i32
  let c1_i32_10 : BitVec 32 := 1#32
  let v27 : BitVec 32 := Scalar.subi v12 c1_i32_10
  let v28 : BitVec 32 := Scalar.select v26 v27 v12
  let c128_i32_258 : BitVec 32 := 128#32
  let v910 : BitVec 32 := Scalar.muli v28 c128_i32_258
  let v911 : BitVec 32 := v910
  let v939 : Index := Scalar.indexCast v911
  ![v938.toNat, v939.toNat]
def k0_cond2 (i : grid0.Coords) : BitVec 1 :=
  let arg0 : BitVec 32 := BitVec.ofNat 32 (i 0).val
  let c335_i32 : BitVec 32 := 335#32
  let v0 : BitVec 32 := Scalar.minsi arg0 c335_i32
  let c28_i32 : BitVec 32 := 28#32
  let v1 : BitVec 32 := Scalar.remsi v0 c28_i32
  let c27_i32 : BitVec 32 := 27#32
  let v51 : BitVec 1 := Scalar.cmpi .eq v1 c27_i32
  let v52 : BitVec 32 := Scalar.extui v51
  let c0_i32_30 : BitVec 32 := 0#32
  let v53 : BitVec 1 := Scalar.cmpi .ne v52 c0_i32_30
  v53

def cc0_transform_0 (i : grid0.Coords) : Fin 2 → Nat :=
  let arg0 : BitVec 32 := BitVec.ofNat 32 (i 0).val
  let c335_i32 : BitVec 32 := 335#32
  let v0 : BitVec 32 := Scalar.minsi arg0 c335_i32
  let c28_i32 : BitVec 32 := 28#32
  let v1 : BitVec 32 := Scalar.divsi v0 c28_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c28_i32 c0_i32_1
  let v8 : BitVec 32 := Scalar.extui v7
  let c0_i32_2 : BitVec 32 := 0#32
  let v9 : BitVec 1 := Scalar.cmpi .slt c28_i32 c0_i32_2
  let v10 : BitVec 32 := Scalar.extui v9
  let v11 : BitVec 32 := Scalar.subi v8 v10
  let v12 : BitVec 1 := Scalar.cmpi .ne v6 v11
  let v13 : BitVec 32 := Scalar.remsi v0 c28_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c28_i32_4 : BitVec 32 := 28#32
  let v18 : BitVec 32 := Scalar.remsi v0 c28_i32_4
  let c0_i32_5 : BitVec 32 := 0#32
  ![v17.toNat, v18.toNat]

def cc0_transform_1 (i : grid0.Coords) : Fin 2 → Nat :=
  let arg0 : BitVec 32 := BitVec.ofNat 32 (i 0).val
  let c335_i32 : BitVec 32 := 335#32
  let v0 : BitVec 32 := Scalar.minsi arg0 c335_i32
  let c28_i32 : BitVec 32 := 28#32
  let v1 : BitVec 32 := Scalar.divsi v0 c28_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c28_i32 c0_i32_1
  let v8 : BitVec 32 := Scalar.extui v7
  let c0_i32_2 : BitVec 32 := 0#32
  let v9 : BitVec 1 := Scalar.cmpi .slt c28_i32 c0_i32_2
  let v10 : BitVec 32 := Scalar.extui v9
  let v11 : BitVec 32 := Scalar.subi v8 v10
  let v12 : BitVec 1 := Scalar.cmpi .ne v6 v11
  let v13 : BitVec 32 := Scalar.remsi v0 c28_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c28_i32_4 : BitVec 32 := 28#32
  let v18 : BitVec 32 := Scalar.remsi v0 c28_i32_4
  let c0_i32_5 : BitVec 32 := 0#32
  ![v17.toNat, v18.toNat]

def cc0_transform_2 (i : grid0.Coords) : Fin 2 → Nat :=
  let arg0 : BitVec 32 := BitVec.ofNat 32 (i 0).val
  let c335_i32 : BitVec 32 := 335#32
  let v0 : BitVec 32 := Scalar.minsi arg0 c335_i32
  let c28_i32 : BitVec 32 := 28#32
  let v1 : BitVec 32 := Scalar.divsi v0 c28_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c28_i32 c0_i32_1
  let v8 : BitVec 32 := Scalar.extui v7
  let c0_i32_2 : BitVec 32 := 0#32
  let v9 : BitVec 1 := Scalar.cmpi .slt c28_i32 c0_i32_2
  let v10 : BitVec 32 := Scalar.extui v9
  let v11 : BitVec 32 := Scalar.subi v8 v10
  let v12 : BitVec 1 := Scalar.cmpi .ne v6 v11
  let v13 : BitVec 32 := Scalar.remsi v0 c28_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c28_i32_4 : BitVec 32 := 28#32
  let v18 : BitVec 32 := Scalar.remsi v0 c28_i32_4
  let c0_i32_5 : BitVec 32 := 0#32
  let c0_i32_6 : BitVec 32 := 0#32
  ![v18.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c28_i32 : BitVec 32 := 28#32
  let v2 : BitVec 32 := Scalar.divsi v1 c28_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c28_i32 c0_i32_2
  let v9 : BitVec 32 := Scalar.extui v8
  let c0_i32_3 : BitVec 32 := 0#32
  let v10 : BitVec 1 := Scalar.cmpi .slt c28_i32 c0_i32_3
  let v11 : BitVec 32 := Scalar.extui v10
  let v12 : BitVec 32 := Scalar.subi v9 v11
  let v13 : BitVec 1 := Scalar.cmpi .ne v7 v12
  let v14 : BitVec 32 := Scalar.remsi v1 c28_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

def cc0_transform_5 (i : grid0.Coords) : Fin 2 → Nat :=
  let arg0 : BitVec 32 := BitVec.ofNat 32 (i 0).val
  let c335_i32 : BitVec 32 := 335#32
  let v0 : BitVec 32 := Scalar.minsi arg0 c335_i32
  let c28_i32 : BitVec 32 := 28#32
  let v1 : BitVec 32 := Scalar.divsi v0 c28_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c28_i32 c0_i32_1
  let v8 : BitVec 32 := Scalar.extui v7
  let c0_i32_2 : BitVec 32 := 0#32
  let v9 : BitVec 1 := Scalar.cmpi .slt c28_i32 c0_i32_2
  let v10 : BitVec 32 := Scalar.extui v9
  let v11 : BitVec 32 := Scalar.subi v8 v10
  let v12 : BitVec 1 := Scalar.cmpi .ne v6 v11
  let v13 : BitVec 32 := Scalar.remsi v0 c28_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c28_i32_4 : BitVec 32 := 28#32
  let v18 : BitVec 32 := Scalar.remsi v0 c28_i32_4
  let c0_i32_5 : BitVec 32 := 0#32
  ![v17.toNat, v18.toNat]

def cc0_transform_6 (i : grid0.Coords) : Fin 2 → Nat :=
  let arg0 : BitVec 32 := BitVec.ofNat 32 (i 0).val
  let c335_i32 : BitVec 32 := 335#32
  let v0 : BitVec 32 := Scalar.minsi arg0 c335_i32
  let c28_i32 : BitVec 32 := 28#32
  let v1 : BitVec 32 := Scalar.divsi v0 c28_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c28_i32 c0_i32_1
  let v8 : BitVec 32 := Scalar.extui v7
  let c0_i32_2 : BitVec 32 := 0#32
  let v9 : BitVec 1 := Scalar.cmpi .slt c28_i32 c0_i32_2
  let v10 : BitVec 32 := Scalar.extui v9
  let v11 : BitVec 32 := Scalar.subi v8 v10
  let v12 : BitVec 1 := Scalar.cmpi .ne v6 v11
  let v13 : BitVec 32 := Scalar.remsi v0 c28_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c28_i32_4 : BitVec 32 := 28#32
  let v18 : BitVec 32 := Scalar.remsi v0 c28_i32_4
  let c0_i32_5 : BitVec 32 := 0#32
  let c0_i32_6 : BitVec 32 := 0#32
  ![v17.toNat, c0_i32_5.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S448x128 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x448 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F]
-- ==== ReferenceIdeal.lean ====
abbrev S8x1536x14336 : Shape := ⟨3, ![8, 1536, 14336]⟩
abbrev S14336x2048 : Shape := ⟨2, ![14336, 2048]⟩
abbrev S448x128 : Shape := ⟨2, ![448, 128]⟩
abbrev S12288x448x32 : Shape := ⟨3, ![12288, 448, 32]⟩
abbrev S_ : Shape := ⟨0, ![]⟩
abbrev S12288x448 : Shape := ⟨2, ![12288, 448]⟩
abbrev S255 : Shape := ⟨1, ![255]⟩
abbrev S12288x448x1 : Shape := ⟨3, ![12288, 448, 1]⟩
abbrev S1x1x255 : Shape := ⟨3, ![1, 1, 255]⟩
abbrev S12288x448x255 : Shape := ⟨3, ![12288, 448, 255]⟩
abbrev S12288x14336 : Shape := ⟨2, ![12288, 14336]⟩
abbrev S14336x2048x1 : Shape := ⟨3, ![14336, 2048, 1]⟩
abbrev S2 : Shape := ⟨1, ![2]⟩
abbrev S1x1x2 : Shape := ⟨3, ![1, 1, 2]⟩
abbrev S14336x2048x2 : Shape := ⟨3, ![14336, 2048, 2]⟩
abbrev S448x32x128x32 : Shape := ⟨4, ![448, 32, 128, 32]⟩
abbrev S448x1x128x1 : Shape := ⟨4, ![448, 1, 128, 1]⟩
abbrev S14336x4096 : Shape := ⟨2, ![14336, 4096]⟩
abbrev S12288x4096 : Shape := ⟨2, ![12288, 4096]⟩
abbrev S12288x7168x2 : Shape := ⟨3, ![12288, 7168, 2]⟩
abbrev S12288x7168x1 : Shape := ⟨3, ![12288, 7168, 1]⟩
abbrev S12288x7168 : Shape := ⟨2, ![12288, 7168]⟩

abbrev nBuf : Space → Nat
  | .hbm => 257
  | .vmem => 0
  | .smem => 0
  | _ => 0

abbrev hbmTy0_0 (i : Nat) : BufTy := match i % 128 with
  | 0 => ⟨S8x1536x14336, .bf16⟩
  | 1 => ⟨S8x1536x14336, .i32⟩
  | 2 => ⟨S14336x2048, .i8⟩
  | 3 => ⟨S448x128, .i8⟩
  | 4 => ⟨S8x1536x14336, .f32⟩
  | 5 => ⟨S12288x448x32, .f32⟩
  | 6 => ⟨S12288x448x32, .f32⟩
  | 7 => ⟨S_, .f32⟩
  | 8 => ⟨S12288x448, .f32⟩
  | 9 => ⟨S255, .i32⟩
  | 10 => ⟨S_, .i32⟩
  | 11 => ⟨S255, .i32⟩
  | 12 => ⟨S255, .i32⟩
  | 13 => ⟨S_, .i32⟩
  | 14 => ⟨S255, .i32⟩
  | 15 => ⟨S255, .i32⟩
  | 16 => ⟨S_, .i32⟩
  | 17 => ⟨S255, .i32⟩
  | 18 => ⟨S255, .i32⟩
  | 19 => ⟨S255, .f32⟩
  | 20 => ⟨S12288x448x1, .f32⟩
  | 21 => ⟨S1x1x255, .f32⟩
  | 22 => ⟨S12288x448x255, .f32⟩
  | 23 => ⟨S12288x448x255, .f32⟩
  | 24 => ⟨S12288x448x255, .i1⟩
  | 25 => ⟨S12288x448x255, .i32⟩
  | 26 => ⟨S_, .i32⟩
  | 27 => ⟨S12288x448, .i32⟩
  | 28 => ⟨S_, .i32⟩
  | 29 => ⟨S12288x448, .i32⟩
  | 30 => ⟨S12288x448, .i32⟩
  | 31 => ⟨S_, .f32⟩
  | 32 => ⟨S12288x448, .f32⟩
  | 33 => ⟨S12288x448, .i1⟩
  | 34 => ⟨S_, .i32⟩
  | 35 => ⟨S12288x448, .i32⟩
  | 36 => ⟨S12288x448, .i32⟩
  | 37 => ⟨S_, .i32⟩
  | 38 => ⟨S_, .i32⟩
  | 39 => ⟨S12288x448, .i32⟩
  | 40 => ⟨S12288x448, .i32⟩
  | 41 => ⟨S12288x448x32, .f32⟩
  | 42 => ⟨S12288x448, .i32⟩
  | 43 => ⟨S_, .i32⟩
  | 44 => ⟨S12288x448, .i32⟩
  | 45 => ⟨S12288x448, .i32⟩
  | 46 => ⟨S_, .i32⟩
  | 47 => ⟨S12288x448, .i32⟩
  | 48 => ⟨S12288x448, .i32⟩
  | 49 => ⟨S12288x448, .f32⟩
  | 50 => ⟨S12288x448x1, .f32⟩
  | 51 => ⟨S12288x448x32, .f32⟩
  | 52 => ⟨S12288x448x32, .f32⟩
  | 53 => ⟨S_, .f32⟩
  | 54 => ⟨S12288x448x32, .f32⟩
  | 55 => ⟨S12288x448x32, .f32⟩
  | 56 => ⟨S_, .f32⟩
  | 57 => ⟨S12288x448x32, .f32⟩
  | 58 => ⟨S12288x448x32, .i1⟩
  | 59 => ⟨S_, .f32⟩
  | 60 => ⟨S12288x448x32, .f32⟩
  | 61 => ⟨S12288x448x32, .i1⟩
  | 62 => ⟨S_, .f32⟩
  | 63 => ⟨S_, .f32⟩
  | 64 => ⟨S12288x448x32, .f32⟩
  | 65 => ⟨S12288x448x32, .f32⟩
  | 66 => ⟨S12288x448x32, .f32⟩
  | 67 => ⟨S_, .f32⟩
  | 68 => ⟨S12288x448x32, .f32⟩
  | 69 => ⟨S12288x448x32, .f32⟩
  | 70 => ⟨S_, .f32⟩
  | 71 => ⟨S12288x448x32, .f32⟩
  | 72 => ⟨S12288x448x32, .i1⟩
  | 73 => ⟨S_, .f32⟩
  | 74 => ⟨S12288x448x32, .f32⟩
  | 75 => ⟨S12288x448x32, .f32⟩
  | 76 => ⟨S12288x448x32, .f32⟩
  | 77 => ⟨S_, .f32⟩
  | 78 => ⟨S12288x448x32, .f32⟩
  | 79 => ⟨S12288x448x32, .f32⟩
  | 80 => ⟨S_, .f32⟩
  | 81 => ⟨S12288x448x32, .f32⟩
  | 82 => ⟨S12288x448x32, .i1⟩
  | 83 => ⟨S12288x448x32, .f32⟩
  | 84 => ⟨S_, .f32⟩
  | 85 => ⟨S12288x448x32, .f32⟩
  | 86 => ⟨S12288x448x32, .f32⟩
  | 87 => ⟨S_, .f32⟩
  | 88 => ⟨S12288x448x32, .f32⟩
  | 89 => ⟨S12288x448x32, .f32⟩
  | 90 => ⟨S12288x448x32, .f32⟩
  | 91 => ⟨S_, .f32⟩
  | 92 => ⟨S12288x448x32, .f32⟩
  | 93 => ⟨S12288x448x32, .f32⟩
  | 94 => ⟨S_, .f32⟩
  | 95 => ⟨S12288x448x32, .f32⟩
  | 96 => ⟨S12288x448x32, .f32⟩
  | 97 => ⟨S12288x448x32, .f32⟩
  | 98 => ⟨S12288x448x32, .f32⟩
  | 99 => ⟨S12288x448x32, .f32⟩
  | 100 => ⟨S_, .f32⟩
  | 101 => ⟨S12288x448x32, .f32⟩
  | 102 => ⟨S12288x448x32, .f32⟩
  | 103 => ⟨S12288x448x32, .f32⟩
  | 104 => ⟨S12288x448x32, .f32⟩
  | 105 => ⟨S12288x448x32, .i32⟩
  | 106 => ⟨S_, .i32⟩
  | 107 => ⟨S12288x448x32, .i32⟩
  | 108 => ⟨S12288x448x32, .i32⟩
  | 109 => ⟨S12288x448x32, .f32⟩
  | 110 => ⟨S_, .f32⟩
  | 111 => ⟨S12288x448x32, .f32⟩
  | 112 => ⟨S12288x448x32, .f32⟩
  | 113 => ⟨S12288x448x32, .i1⟩
  | 114 => ⟨S12288x448x32, .f32⟩
  | 115 => ⟨S12288x448x32, .f32⟩
  | 116 => ⟨S12288x448x32, .f32⟩
  | 117 => ⟨S_, .f32⟩
  | 118 => ⟨S12288x448x32, .f32⟩
  | 119 => ⟨S12288x448x32, .i1⟩
  | 120 => ⟨S12288x448x32, .f32⟩
  | 121 => ⟨S12288x448x32, .f32⟩
  | 122 => ⟨S12288x448x32, .bf16⟩
  | 123 => ⟨S_, .i32⟩
  | 124 => ⟨S12288x448, .i32⟩
  | 125 => ⟨S12288x448, .i32⟩
  | 126 => ⟨S_, .i32⟩
  | 127 => ⟨S12288x448, .i32⟩
  | _ => ⟨S8x1536x14336, .bf16⟩

abbrev hbmTy0_1 (i : Nat) : BufTy := match i % 128 with
  | 0 => ⟨S12288x448, .i32⟩
  | 1 => ⟨S12288x448, .f32⟩
  | 2 => ⟨S12288x448, .bf16⟩
  | 3 => ⟨S12288x448x1, .bf16⟩
  | 4 => ⟨S12288x448x32, .bf16⟩
  | 5 => ⟨S12288x448x32, .bf16⟩
  | 6 => ⟨S12288x14336, .bf16⟩
  | 7 => ⟨S14336x2048, .i32⟩
  | 8 => ⟨S14336x2048x1, .i32⟩
  | 9 => ⟨S2, .i32⟩
  | 10 => ⟨S_, .i32⟩
  | 11 => ⟨S2, .i32⟩
  | 12 => ⟨S2, .i32⟩
  | 13 => ⟨S1x1x2, .i32⟩
  | 14 => ⟨S14336x2048x2, .i32⟩
  | 15 => ⟨S14336x2048x2, .i32⟩
  | 16 => ⟨S14336x2048x2, .i32⟩
  | 17 => ⟨S_, .i32⟩
  | 18 => ⟨S14336x2048x2, .i32⟩
  | 19 => ⟨S14336x2048x2, .i32⟩
  | 20 => ⟨S_, .i32⟩
  | 21 => ⟨S14336x2048x2, .i32⟩
  | 22 => ⟨S14336x2048x2, .i32⟩
  | 23 => ⟨S_, .i32⟩
  | 24 => ⟨S14336x2048x2, .i32⟩
  | 25 => ⟨S14336x2048x2, .i32⟩
  | 26 => ⟨S_, .i32⟩
  | 27 => ⟨S14336x2048x2, .i32⟩
  | 28 => ⟨S14336x2048x2, .i32⟩
  | 29 => ⟨S14336x2048x2, .f32⟩
  | 30 => ⟨S_, .f32⟩
  | 31 => ⟨S14336x2048x2, .f32⟩
  | 32 => ⟨S14336x2048x2, .f32⟩
  | 33 => ⟨S_, .i32⟩
  | 34 => ⟨S14336x2048x2, .i32⟩
  | 35 => ⟨S14336x2048x2, .i1⟩
  | 36 => ⟨S_, .f32⟩
  | 37 => ⟨S14336x2048x2, .f32⟩
  | 38 => ⟨S14336x2048x2, .f32⟩
  | 39 => ⟨S_, .i32⟩
  | 40 => ⟨S14336x2048x2, .i32⟩
  | 41 => ⟨S14336x2048x2, .i32⟩
  | 42 => ⟨S_, .i32⟩
  | 43 => ⟨S14336x2048x2, .i32⟩
  | 44 => ⟨S14336x2048x2, .i32⟩
  | 45 => ⟨S_, .i32⟩
  | 46 => ⟨S14336x2048x2, .i32⟩
  | 47 => ⟨S14336x2048x2, .i32⟩
  | 48 => ⟨S14336x2048x2, .f32⟩
  | 49 => ⟨S14336x2048x2, .f32⟩
  | 50 => ⟨S14336x2048x2, .f32⟩
  | 51 => ⟨S_, .i32⟩
  | 52 => ⟨S14336x2048x2, .i32⟩
  | 53 => ⟨S14336x2048x2, .i32⟩
  | 54 => ⟨S_, .i32⟩
  | 55 => ⟨S14336x2048x2, .i32⟩
  | 56 => ⟨S14336x2048x2, .i1⟩
  | 57 => ⟨S14336x2048x2, .f32⟩
  | 58 => ⟨S14336x2048x2, .f32⟩
  | 59 => ⟨S14336x2048x2, .bf16⟩
  | 60 => ⟨S448x32x128x32, .bf16⟩
  | 61 => ⟨S448x128, .i32⟩
  | 62 => ⟨S_, .i32⟩
  | 63 => ⟨S448x128, .i32⟩
  | 64 => ⟨S448x128, .i32⟩
  | 65 => ⟨S_, .i32⟩
  | 66 => ⟨S448x128, .i32⟩
  | 67 => ⟨S448x128, .i32⟩
  | 68 => ⟨S_, .i32⟩
  | 69 => ⟨S448x128, .i32⟩
  | 70 => ⟨S448x128, .i32⟩
  | 71 => ⟨S448x128, .f32⟩
  | 72 => ⟨S448x128, .bf16⟩
  | 73 => ⟨S448x1x128x1, .bf16⟩
  | 74 => ⟨S448x32x128x32, .bf16⟩
  | 75 => ⟨S448x32x128x32, .bf16⟩
  | 76 => ⟨S14336x4096, .bf16⟩
  | 77 => ⟨S12288x4096, .f32⟩
  | 78 => ⟨S12288x4096, .bf16⟩
  | 79 => ⟨S_, .f32⟩
  | 80 => ⟨S12288x448x32, .f32⟩
  | 81 => ⟨S12288x448x32, .i1⟩
  | 82 => ⟨S_, .f32⟩
  | 83 => ⟨S12288x448x32, .f32⟩
  | 84 => ⟨S12288x448x32, .f32⟩
  | 85 => ⟨S_, .f32⟩
  | 86 => ⟨S12288x448x32, .f32⟩
  | 87 => ⟨S12288x448x32, .i1⟩
  | 88 => ⟨S_, .f32⟩
  | 89 => ⟨S12288x448x32, .f32⟩
  | 90 => ⟨S12288x448x32, .f32⟩
  | 91 => ⟨S_, .f32⟩
  | 92 => ⟨S12288x448x32, .f32⟩
  | 93 => ⟨S12288x448x32, .i1⟩
  | 94 => ⟨S_, .f32⟩
  | 95 => ⟨S_, .f32⟩
  | 96 => ⟨S12288x448x32, .f32⟩
  | 97 => ⟨S12288x448x32, .f32⟩
  | 98 => ⟨S12288x448x32, .f32⟩
  | 99 => ⟨S12288x448x32, .f32⟩
  | 100 => ⟨S12288x448x32, .f32⟩
  | 101 => ⟨S12288x448x32, .f32⟩
  | 102 => ⟨S12288x448x32, .i32⟩
  | 103 => ⟨S_, .f32⟩
  | 104 => ⟨S12288x448x32, .f32⟩
  | 105 => ⟨S12288x448x32, .i1⟩
  | 106 => ⟨S_, .f32⟩
  | 107 => ⟨S12288x448x32, .f32⟩
  | 108 => ⟨S12288x448x32, .i1⟩
  | 109 => ⟨S12288x448x32, .i1⟩
  | 110 => ⟨S12288x448x32, .i32⟩
  | 111 => ⟨S_, .i32⟩
  | 112 => ⟨S12288x448x32, .i32⟩
  | 113 => ⟨S12288x448x32, .i32⟩
  | 114 => ⟨S12288x448x32, .i32⟩
  | 115 => ⟨S12288x7168x2, .i32⟩
  | 116 => ⟨S12288x7168x1, .i32⟩
  | 117 => ⟨S12288x7168, .i32⟩
  | 118 => ⟨S12288x7168x1, .i32⟩
  | 119 => ⟨S12288x7168, .i32⟩
  | 120 => ⟨S_, .i32⟩
  | 121 => ⟨S12288x7168, .i32⟩
  | 122 => ⟨S12288x7168, .i32⟩
  | 123 => ⟨S12288x7168, .i32⟩
  | 124 => ⟨S12288x7168, .i8⟩
  | 125 => ⟨S_, .i32⟩
  | 126 => ⟨S12288x448, .i32⟩
  | 127 => ⟨S12288x448, .i32⟩
  | _ => ⟨S8x1536x14336, .bf16⟩

abbrev hbmTy0_2 (i : Nat) : BufTy := match i % 128 with
  | 0 => ⟨S12288x448, .i8⟩
  | _ => ⟨S8x1536x14336, .bf16⟩

abbrev hbmTy (i : Nat) : BufTy := match i / 128 with
  | 0 => hbmTy0_0 i
  | 1 => hbmTy0_1 i
  | 2 => hbmTy0_2 i
  | _ => ⟨S8x1536x14336, .bf16⟩

abbrev bufTy : (tb : Table) → Fin (tcTables nBuf tb) → BufTy
  | .hbm, ⟨i, _⟩ => hbmTy i
  | _, _ => ⟨S8x1536x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_call0_v0 : Ref sig .tc := ⟨.hbm, 38, rfl⟩
abbrev main_call0_v1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_c_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_cst_10 : Ref sig .tc := ⟨.hbm, 56, rfl⟩
abbrev main_v38 : Ref sig .tc := ⟨.hbm, 57, rfl⟩
abbrev main_v39 : Ref sig .tc := ⟨.hbm, 58, rfl⟩
abbrev main_cst_11 : Ref sig .tc := ⟨.hbm, 59, rfl⟩
abbrev main_v40 : Ref sig .tc := ⟨.hbm, 60, rfl⟩
abbrev main_v41 : Ref sig .tc := ⟨.hbm, 61, rfl⟩
abbrev main_cst_12 : Ref sig .tc := ⟨.hbm, 62, rfl⟩
abbrev main_cst_13 : Ref sig .tc := ⟨.hbm, 63, rfl⟩
abbrev main_call1_v0 : Ref sig .tc := ⟨.hbm, 64, rfl⟩
abbrev main_call1_v1 : Ref sig .tc := ⟨.hbm, 65, rfl⟩
abbrev main_v42 : Ref sig .tc := ⟨.hbm, 66, rfl⟩
abbrev main_cst_14 : Ref sig .tc := ⟨.hbm, 67, rfl⟩
abbrev main_call2_v0 : Ref sig .tc := ⟨.hbm, 68, rfl⟩
abbrev main_v43 : Ref sig .tc := ⟨.hbm, 69, rfl⟩
abbrev main_cst_15 : Ref sig .tc := ⟨.hbm, 70, rfl⟩
abbrev main_v44 : Ref sig .tc := ⟨.hbm, 71, rfl⟩
abbrev main_v45 : Ref sig .tc := ⟨.hbm, 72, rfl⟩
abbrev main_cst_16 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_17 : Ref sig .tc := ⟨.hbm, 77, rfl⟩
abbrev main_v49 : Ref sig .tc := ⟨.hbm, 78, rfl⟩
abbrev main_v50 : Ref sig .tc := ⟨.hbm, 79, rfl⟩
abbrev main_cst_18 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_19 : Ref sig .tc := ⟨.hbm, 84, rfl⟩
abbrev main_v54 : Ref sig .tc := ⟨.hbm, 85, rfl⟩
abbrev main_v55 : Ref sig .tc := ⟨.hbm, 86, rfl⟩
abbrev main_cst_20 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_21 : Ref sig .tc := ⟨.hbm, 91, rfl⟩
abbrev main_v59 : Ref sig .tc := ⟨.hbm, 92, rfl⟩
abbrev main_v60 : Ref sig .tc := ⟨.hbm, 93, rfl⟩
abbrev main_cst_22 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_23 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_c_24 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_25 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_26 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_c_27 : Ref sig .tc := ⟨.hbm, 123, rfl⟩
abbrev main_v85 : Ref sig .tc := ⟨.hbm, 124, rfl⟩
abbrev main_v86 : Ref sig .tc := ⟨.hbm, 125, rfl⟩
abbrev main_c_28 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_c_29 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_c_30 : Ref sig .tc := ⟨.hbm, 145, rfl⟩
abbrev main_v104 : Ref sig .tc := ⟨.hbm, 146, rfl⟩
abbrev main_v105 : Ref sig .tc := ⟨.hbm, 147, rfl⟩
abbrev main_c_31 : Ref sig .tc := ⟨.hbm, 148, rfl⟩
abbrev main_v106 : Ref sig .tc := ⟨.hbm, 149, rfl⟩
abbrev main_v107 : Ref sig .tc := ⟨.hbm, 150, rfl⟩
abbrev main_c_32 : Ref sig .tc := ⟨.hbm, 151, rfl⟩
abbrev main_v108 : Ref sig .tc := ⟨.hbm, 152, rfl⟩
abbrev main_v109 : Ref sig .tc := ⟨.hbm, 153, rfl⟩
abbrev main_c_33 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_cst_34 : Ref sig .tc := ⟨.hbm, 158, rfl⟩
abbrev main_v113 : Ref sig .tc := ⟨.hbm, 159, rfl⟩
abbrev main_v114 : Ref sig .tc := ⟨.hbm, 160, rfl⟩
abbrev main_c_35 : Ref sig .tc := ⟨.hbm, 161, rfl⟩
abbrev main_v115 : Ref sig .tc := ⟨.hbm, 162, rfl⟩
abbrev main_v116 : Ref sig .tc := ⟨.hbm, 163, rfl⟩
abbrev main_cst_36 : Ref sig .tc := ⟨.hbm, 164, rfl⟩
abbrev main_v117 : Ref sig .tc := ⟨.hbm, 165, rfl⟩
abbrev main_v118 : Ref sig .tc := ⟨.hbm, 166, rfl⟩
abbrev main_c_37 : Ref sig .tc := ⟨.hbm, 167, rfl⟩
abbrev main_v119 : Ref sig .tc := ⟨.hbm, 168, rfl⟩
abbrev main_v120 : Ref sig .tc := ⟨.hbm, 169, rfl⟩
abbrev main_c_38 : Ref sig .tc := ⟨.hbm, 170, rfl⟩
abbrev main_v121 : Ref sig .tc := ⟨.hbm, 171, rfl⟩
abbrev main_v122 : Ref sig .tc := ⟨.hbm, 172, rfl⟩
abbrev main_c_39 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_c_40 : Ref sig .tc := ⟨.hbm, 179, rfl⟩
abbrev main_v128 : Ref sig .tc := ⟨.hbm, 180, rfl⟩
abbrev main_v129 : Ref sig .tc := ⟨.hbm, 181, rfl⟩
abbrev main_c_41 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_c_42 : Ref sig .tc := ⟨.hbm, 190, rfl⟩
abbrev main_v137 : Ref sig .tc := ⟨.hbm, 191, rfl⟩
abbrev main_v138 : Ref sig .tc := ⟨.hbm, 192, rfl⟩
abbrev main_c_43 : Ref sig .tc := ⟨.hbm, 193, rfl⟩
abbrev main_v139 : Ref sig .tc := ⟨.hbm, 194, rfl⟩
abbrev main_v140 : Ref sig .tc := ⟨.hbm, 195, rfl⟩
abbrev main_c_44 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_cst_45 : Ref sig .tc := ⟨.hbm, 207, rfl⟩
abbrev main_v151 : Ref sig .tc := ⟨.hbm, 208, rfl⟩
abbrev main_v152 : Ref sig .tc := ⟨.hbm, 209, rfl⟩
abbrev main_cst_46 : Ref sig .tc := ⟨.hbm, 210, rfl⟩
abbrev main_v153 : Ref sig .tc := ⟨.hbm, 211, rfl⟩
abbrev main_v154 : Ref sig .tc := ⟨.hbm, 212, rfl⟩
abbrev main_cst_47 : Ref sig .tc := ⟨.hbm, 213, rfl⟩
abbrev main_v155 : Ref sig .tc := ⟨.hbm, 214, rfl⟩
abbrev main_v156 : Ref sig .tc := ⟨.hbm, 215, rfl⟩
abbrev main_cst_48 : Ref sig .tc := ⟨.hbm, 216, rfl⟩
abbrev main_v157 : Ref sig .tc := ⟨.hbm, 217, rfl⟩
abbrev main_v158 : Ref sig .tc := ⟨.hbm, 218, rfl⟩
abbrev main_cst_49 : Ref sig .tc := ⟨.hbm, 219, rfl⟩
abbrev main_v159 : Ref sig .tc := ⟨.hbm, 220, rfl⟩
abbrev main_v160 : Ref sig .tc := ⟨.hbm, 221, rfl⟩
abbrev main_cst_50 : Ref sig .tc := ⟨.hbm, 222, rfl⟩
abbrev main_cst_51 : Ref sig .tc := ⟨.hbm, 223, rfl⟩
abbrev main_call9_v0 : Ref sig .tc := ⟨.hbm, 224, rfl⟩
abbrev main_call9_v1 : Ref sig .tc := ⟨.hbm, 225, rfl⟩
abbrev main_v161 : Ref sig .tc := ⟨.hbm, 226, rfl⟩
abbrev main_call10_v0 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_cst_52 : Ref sig .tc := ⟨.hbm, 231, rfl⟩
abbrev main_v165 : Ref sig .tc := ⟨.hbm, 232, rfl⟩
abbrev main_v166 : Ref sig .tc := ⟨.hbm, 233, rfl⟩
abbrev main_cst_53 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_c_54 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_c_55 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_c_56 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩

abbrev nD : Nat := 1
abbrev τ : Topo := Topo.v7x

variable {F : FTy → Type} [FloatOps F]
-- ==== Proof.StepKernel.lean ====
/- One grid step of the kernel runs to its end from anything (`Kernel`): the statement the frame needs. -/
module

public import proofs.«01_k».proof.Proof.Gen.Kernel
public import proofs.«01_k».proof.Proof.Gen.Kernel.Frame
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import Idealize.ShloMosaic.Lib.Pipeline.FrameBody
public import Idealize.ShloMosaic.Lib.Tactic

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [BitOps F]

local notation "𝕄" => MT nD τ sig Unit (Elt F) ℕ (UR sig nD τ) ℕ

/-- Does grid point `i` load the weight scales (the first point)? -/
abbrev isFirst (i : grid0.Coords) : Prop := (Scalar.cmpi .ne (Scalar.extui (Scalar.cmpi .eq (BitVec.ofNat 32 (i 0).val) 0#32)) 0#32) = 1#1
/-- Does grid point `i` store the block's scales (the last step of a row of tiles)? -/
abbrev isLastK (i : grid0.Coords) : Prop := k0_cond2 i = 1#1

set_option maxHeartbeats 4000000 in
/-- One step of the kernel, whatever it finds in its outputs and scratch: it runs to the end, leaves its four inputs as
    they were, and everything else at some contents. -/
theorem step_runs (c : Dev nD) (i : grid0.Coords) (arg1 : Memref sig .tc .vmem S1024x512 .bf16) (harg1 : arg1.IsWhole) (arg2 : Memref sig .tc .vmem S1024x512 .i32) (harg2 : arg2.IsWhole) (arg3 : Memref sig .tc .vmem S512x2048 .i8) (harg3 : arg3.IsWhole) (arg4 : Memref sig .tc .vmem S448x128 .i8) (harg4 : arg4.IsWhole) (arg5 : Memref sig .tc .vmem S1024x4096 .bf16) (harg5 : arg5.IsWhole) (arg6 : Memref sig .tc .vmem S1024x256 .i8) (harg6 : arg6.IsWhole) (arg7 : Memref sig .tc .vmem S1024x448 .i8) (harg7 : arg7.IsWhole) (arg8 : Memref sig .tc .vmem S1024x4096 .f32) (harg8 : arg8.IsWhole) (arg9 : Memref sig .tc .vmem S2x1024x512 .bf16) (harg9 : arg9.IsWhole) (arg10 : Memref sig .tc .vmem S2x512x4096 .bf16) (harg10 : arg10.IsWhole) (arg11 : Memref sig .tc .vmem S448x128 .i32) (harg11 : arg11.IsWhole) (arg12 : Memref sig .tc .vmem S256x512 .i32) (harg12 : arg12.IsWhole)
    (x0 : Vec F S1024x512 .bf16) (x1 : Vec F S1024x512 .i32) (x2 : Vec F S512x2048 .i8) (x3 : Vec F S448x128 .i8) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_mxfp4_dgrad i arg1 harg1 arg2 harg2 arg3 harg3 arg4 harg4 arg5 harg5 arg6 harg6 arg7 harg7 arg8 harg8 arg9 harg9 arg10 harg10 arg11 harg11 arg12 harg12) K := by
  by_cases hc0 : isFirst i <;> by_cases hc1 : isLastK i
  all_goals
    simp only [cc0_mxfp4_dgrad_eq_skeleton]; unfold cc0_mxfp4_dgrad_skel
    simp only [k0_part23_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.FrameKernel.lean ====
/- The frame of `Kernel`: from any memory the program runs to its end, its arguments unchanged, every counter at zero. -/
module

public import proofs.«01_k».proof.Proof.Gen.Kernel
public import proofs.«01_k».proof.Proof.Gen.Kernel.Frame
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import Idealize.ShloMosaic.Lib.Pipeline.FrameBody
public import Idealize.ShloMosaic.Lib.Tactic
public import proofs.«01_k».proof.Proof.StepKernel

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [BitOps F]

local notation "𝕄" => MT nD τ sig Unit (Elt F) ℕ (UR sig nD τ) ℕ

variable (m : (ℓ : Loc nD τ sig) → Buf (Elt F) ℓ) (ρ : Dev nD → PrngReg)

/-! ## The memrefs the pipeline hands the body -/

abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S448x128 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x4096 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x448 .i8 := win0_6.stage (cfg0.slots t 6)
abbrev hs0_6 (t : Fin cfg0.N) : (ms0_6 t).IsWhole := hstage0_6 ((cfg0.slots t 6).cast nbuf0_6)
abbrev scM0_0 : Memref sig .tc .vmem S1024x4096 .f32 := Memref.whole cc0_scratch0
abbrev scM0_1 : Memref sig .tc .vmem S2x1024x512 .bf16 := Memref.whole cc0_scratch1
abbrev scM0_2 : Memref sig .tc .vmem S2x512x4096 .bf16 := Memref.whole cc0_scratch2
abbrev scM0_3 : Memref sig .tc .vmem S448x128 .i32 := Memref.whole cc0_scratch3
abbrev scM0_4 : Memref sig .tc .vmem S256x512 .i32 := Memref.whole cc0_scratch4

/-- The frame kit's invariant: the five scratch buffers at some contents, and the core's random register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- The three output windows: nothing is said of what the body leaves in them. -/
def forgets0 : Fin 7 → Bool := fun w => w.val == 4 || w.val == 5 || w.val == 6

/-- The proof data: inputs keep their blocks, outputs unnamed, the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem before0_0 (c : Dev nD) (t : Fin cfg0.N) (d) : (dats m 0 c).before 0 t d = iblk m c 0 t :=
  before0_0_of m (dats m 0 c) (A_eq m c 0) (after0_0 m c) t d
theorem liveAt0_0 : ∀ t : Fin cfg0.N, cfg0.idle 0 (grid0.coords t) = false := fun _ => rfl
theorem before0_1 (c : Dev nD) (t : Fin cfg0.N) (d) : (dats m 0 c).before 1 t d = iblk m c 1 t :=
  before0_1_of m (dats m 0 c) (A_eq m c 1) (after0_1 m c) t d
theorem liveAt0_1 : ∀ t : Fin cfg0.N, cfg0.idle 1 (grid0.coords t) = false := fun _ => rfl
theorem before0_2 (c : Dev nD) (t : Fin cfg0.N) (d) : (dats m 0 c).before 2 t d = iblk m c 2 t :=
  before0_2_of m (dats m 0 c) (A_eq m c 2) (after0_2 m c) t d
theorem liveAt0_2 : ∀ t : Fin cfg0.N, cfg0.idle 2 (grid0.coords t) = false := fun _ => rfl
theorem before0_3 (c : Dev nD) (t : Fin cfg0.N) (d) : (dats m 0 c).before 3 t d = iblk m c 3 t :=
  before0_3_of m (dats m 0 c) (A_eq m c 3) (after0_3 m c) t d
theorem liveAt0_3 : ∀ t : Fin cfg0.N, cfg0.idle 3 (grid0.coords t) = false := fun _ => rfl

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 4000000 in
/-- The body at any point: `step_runs` at the staging buffers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  iintro ⟨⟨⟨HS0, HS1, HS2, HS3, HS4⟩, Hg⟩, Ho, ⟨%d0, H0⟩, ⟨%d1, H1⟩, ⟨%d2, H2⟩, ⟨%d3, H3⟩, H4, H5, H6⟩
  iapply (step_runs c (grid0.coords t) _ _ _ _ _ _ _ _ _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- The launch: the inputs' arrays unchanged, every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m)
    (hmain := hmain m Variants.none) (hA := A_eq m) (hΦ := fun _ _ => rfl)

/-- THE FRAME of the program, at any float interpretation. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Pipeline.RDat.FramePost.arr_in h.1 c 2 rfl).trans ((A_eq m c 2).trans (V_main_arg2 m c)),
      (Pipeline.RDat.FramePost.arr_in h.1 c 3 rfl).trans ((A_eq m c 3).trans (V_main_arg3 m c))⟩, h.2⟩) (run_main_quiescent m ρ)

end Cert.Kernel.Gen

end
-- ==== Proof.StepKernelIdeal.lean ====
/- One grid step of the kernel runs to its end from anything (`KernelIdeal`): the statement the frame needs. -/
module

public import proofs.«01_k».proof.Proof.Gen.KernelIdeal
public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameBody
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Does grid point `i` load the weight scales (the first point)? -/
abbrev isFirst (i : grid0.Coords) : Prop := (Scalar.cmpi .ne (Scalar.extui (Scalar.cmpi .eq (BitVec.ofNat 32 (i 0).val) 0#32)) 0#32) = 1#1
/-- Does grid point `i` store the block's scales (the last step of a row of tiles)? -/
abbrev isLastK (i : grid0.Coords) : Prop := k0_cond2 i = 1#1

set_option maxHeartbeats 4000000 in
/-- One step of the kernel, whatever it finds in its outputs and scratch: it runs to the end, leaves its four inputs as
    they were, and everything else at some contents. -/
theorem step_runs (c : Dev nD) (i : grid0.Coords) (arg1 : Memref sig .tc .vmem S1024x512 .bf16) (harg1 : arg1.IsWhole) (arg2 : Memref sig .tc .vmem S1024x512 .i32) (harg2 : arg2.IsWhole) (arg3 : Memref sig .tc .vmem S512x2048 .i8) (harg3 : arg3.IsWhole) (arg4 : Memref sig .tc .vmem S448x128 .i8) (harg4 : arg4.IsWhole) (arg5 : Memref sig .tc .vmem S1024x4096 .bf16) (harg5 : arg5.IsWhole) (arg6 : Memref sig .tc .vmem S1024x256 .i8) (harg6 : arg6.IsWhole) (arg7 : Memref sig .tc .vmem S1024x448 .i8) (harg7 : arg7.IsWhole) (arg8 : Memref sig .tc .vmem S1024x4096 .f32) (harg8 : arg8.IsWhole) (arg9 : Memref sig .tc .vmem S2x1024x512 .bf16) (harg9 : arg9.IsWhole) (arg10 : Memref sig .tc .vmem S2x512x4096 .bf16) (harg10 : arg10.IsWhole) (arg11 : Memref sig .tc .vmem S448x128 .i32) (harg11 : arg11.IsWhole) (arg12 : Memref sig .tc .vmem S256x512 .i32) (harg12 : arg12.IsWhole)
    (x0 : Vec F S1024x512 .bf16) (x1 : Vec F S1024x512 .i32) (x2 : Vec F S512x2048 .i8) (x3 : Vec F S448x128 .i8) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_mxfp4_dgrad i arg1 harg1 arg2 harg2 arg3 harg3 arg4 harg4 arg5 harg5 arg6 harg6 arg7 harg7 arg8 harg8 arg9 harg9 arg10 harg10 arg11 harg11 arg12 harg12) K := by
  by_cases hc0 : isFirst i <;> by_cases hc1 : isLastK i
  all_goals
    simp only [cc0_mxfp4_dgrad_eq_skeleton]; unfold cc0_mxfp4_dgrad_skel
    simp only [k0_part24_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Gen

end
-- ==== Proof.FrameKernelIdeal.lean ====
/- The frame of `KernelIdeal`: from any memory the program runs to its end, its arguments unchanged, every counter at zero. -/
module

public import proofs.«01_k».proof.Proof.Gen.KernelIdeal
public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameBody
public import Idealize.ShloMosaic.Lib.Tactic
public import proofs.«01_k».proof.Proof.StepKernelIdeal

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the pipeline hands the body -/

abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S448x128 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x4096 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x448 .i8 := win0_6.stage (cfg0.slots t 6)
abbrev hs0_6 (t : Fin cfg0.N) : (ms0_6 t).IsWhole := hstage0_6 ((cfg0.slots t 6).cast nbuf0_6)
abbrev scM0_0 : Memref sig .tc .vmem S1024x4096 .f32 := Memref.whole cc0_scratch0
abbrev scM0_1 : Memref sig .tc .vmem S2x1024x512 .bf16 := Memref.whole cc0_scratch1
abbrev scM0_2 : Memref sig .tc .vmem S2x512x4096 .bf16 := Memref.whole cc0_scratch2
abbrev scM0_3 : Memref sig .tc .vmem S448x128 .i32 := Memref.whole cc0_scratch3
abbrev scM0_4 : Memref sig .tc .vmem S256x512 .i32 := Memref.whole cc0_scratch4

/-- The frame kit's invariant: the five scratch buffers at some contents, and the core's random register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- The three output windows: nothing is said of what the body leaves in them. -/
def forgets0 : Fin 7 → Bool := fun w => w.val == 4 || w.val == 5 || w.val == 6

/-- The proof data: inputs keep their blocks, outputs unnamed, the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem before0_0 (c : Dev nD) (t : Fin cfg0.N) (d) : (dats m 0 c).before 0 t d = iblk m c 0 t :=
  before0_0_of m (dats m 0 c) (A_eq m c 0) (after0_0 m c) t d
theorem liveAt0_0 : ∀ t : Fin cfg0.N, cfg0.idle 0 (grid0.coords t) = false := fun _ => rfl
theorem before0_1 (c : Dev nD) (t : Fin cfg0.N) (d) : (dats m 0 c).before 1 t d = iblk m c 1 t :=
  before0_1_of m (dats m 0 c) (A_eq m c 1) (after0_1 m c) t d
theorem liveAt0_1 : ∀ t : Fin cfg0.N, cfg0.idle 1 (grid0.coords t) = false := fun _ => rfl
theorem before0_2 (c : Dev nD) (t : Fin cfg0.N) (d) : (dats m 0 c).before 2 t d = iblk m c 2 t :=
  before0_2_of m (dats m 0 c) (A_eq m c 2) (after0_2 m c) t d
theorem liveAt0_2 : ∀ t : Fin cfg0.N, cfg0.idle 2 (grid0.coords t) = false := fun _ => rfl
theorem before0_3 (c : Dev nD) (t : Fin cfg0.N) (d) : (dats m 0 c).before 3 t d = iblk m c 3 t :=
  before0_3_of m (dats m 0 c) (A_eq m c 3) (after0_3 m c) t d
theorem liveAt0_3 : ∀ t : Fin cfg0.N, cfg0.idle 3 (grid0.coords t) = false := fun _ => rfl

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 4000000 in
/-- The body at any point: `step_runs` at the staging buffers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  iintro ⟨⟨⟨HS0, HS1, HS2, HS3, HS4⟩, Hg⟩, Ho, ⟨%d0, H0⟩, ⟨%d1, H1⟩, ⟨%d2, H2⟩, ⟨%d3, H3⟩, H4, H5, H6⟩
  iapply (step_runs c (grid0.coords t) _ _ _ _ _ _ _ _ _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- The launch: the inputs' arrays unchanged, every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m)
    (hmain := hmain m Variants.none) (hA := A_eq m) (hΦ := fun _ _ => rfl)

/-- THE FRAME of the program, at any float interpretation. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Pipeline.RDat.FramePost.arr_in h.1 c 2 rfl).trans ((A_eq m c 2).trans (V_main_arg2 m c)),
      (Pipeline.RDat.FramePost.arr_in h.1 c 3 rfl).trans ((A_eq m c 3).trans (V_main_arg3 m c))⟩, h.2⟩) (run_main_quiescent m ρ)

end Cert.KernelIdeal.Gen

end
-- ==== Proof.Quant.lean ====
/- What the quantising loop leaves in its scratch: one function of a 32x128 slice, for every slice of the tile. -/
module

public import proofs.«01_k».proof.Proof.Gen.KernelIdeal
public import proofs.«01_k».proof.Proof.Gen.KernelIdeal.Skeleton
public import proofs.«01_k».proof.Proof.Gen.KernelIdeal.Loops
public import Idealize.ShloMosaic.Lib.WritesUnit
public import Idealize.ShloMosaic.Lib.ValueIdx
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI

open Idealize.ShloMosaic.Pointwise

variable {F : FTy → Type} [FloatOps F]

/-- The dequantised slice: 32 rows by 128 columns of `x`, rounded with the words `r`, times its scale. -/
def dqV (x : Vec F S32x128 .bf16) (r : Vec F S32x128 .i32) : FVec F S32x128 .bf16 :=
  k0_pay30 (k0_pay14 x) (k0_pay22 (k0_pay19 (k0_pay16 x) k0_pay17 k0_pay18) k0_pay20)
    (k0_pay24 (k0_pay14 x) (k0_pay19 (k0_pay16 x) k0_pay17 k0_pay18) k0_pay20)
    (k0_pay26 (k0_pay14 x) (k0_pay19 (k0_pay16 x) k0_pay17 k0_pay18) k0_pay20)
    (k0_pay27 (k0_pay15 r))
    (k0_pay28 (k0_pay14 x) (k0_pay19 (k0_pay16 x) k0_pay17 k0_pay18) k0_pay20)

/-- The dequantised slice as the loop stores it. -/
def dqP (x : Vec F S32x128 .bf16) (r : Vec F S32x128 .i32) : FVec F S1x32x128 .bf16 :=
  shapeCast S1x32x128 (dqV x r) shapeCasts_S32x128_S1x32x128

/-- Rows `32 p …` and columns `128 q …` of a tile. -/
def sl {α : Type} (x : S1024x512.Idx → α) (p : Fin 32) (q : Fin 4) : S32x128.Idx → α := fun j =>
  x (ix2 ⟨32 * p.val + (j 0).val, by have : (j 0).val < 32 := (j 0).isLt; have := p.isLt; omega⟩
    ⟨128 * q.val + (j 1).val, by have : (j 1).val < 128 := (j 1).isLt; have := q.isLt; omega⟩)

/-- What the quantising loop holds at a tile's row and column. -/
def dqTile (x : S1024x512.Idx → Elt F .bf16) (r : S1024x512.Idx → Elt F .i32) (a : Fin 1024) (b : Fin 512) : F .bf16 :=
  dqV (F := F) (sl x ⟨a.val / 32, by omega⟩ ⟨b.val / 128, by omega⟩) (sl r ⟨a.val / 32, by omega⟩ ⟨b.val / 128, by omega⟩)
    (ix2 ⟨a.val % 32, by omega⟩ ⟨b.val % 128, by omega⟩)

theorem readAt_sl {e : EltTy} (arg : Memref sig .tc .vmem S1024x512 e) (X : BufTy.Contents (Elt F) arg.view.ty)
    (off : Fin 2 → ℕ) (inb) (p : Fin 32) (q : Fin 4) (h : off = ![32 * p.val, 128 * q.val]) :
    View.readAt (Elt F) arg.view (Rect.unit (s := S1024x512) off S32x128.size inb).toLoadRect X
      = sl (arg.view.read (Elt F) X) p q := by
  subst h
  funext j
  refine congrArg (arg.view.read (Elt F) X) (funext fun a => Fin.ext ?_)
  match a with
  | ⟨0, _⟩ => show 32 * p.val + 1 * (j 0).val = 32 * p.val + (j 0).val; omega
  | ⟨1, _⟩ => show 128 * q.val + 1 * (j 1).val = 128 * q.val + (j 1).val; omega

theorem dqP_apply (x : Vec F S32x128 .bf16) (r : Vec F S32x128 .i32) (j : S1x32x128.Idx) :
    dqP x r j = dqV x r (ix2 (j 1) (j 2)) := by
  unfold dqP
  rw [eq_ix3 j]
  pointwise

variable (𝒱 : Variants) (c : Dev nD) (bd : Option 𝒱.V) (i : grid0.Coords) (arg1 : Memref sig .tc .vmem S1024x512 .bf16) (harg1 : arg1.IsWhole) (arg2 : Memref sig .tc .vmem S1024x512 .i32) (harg2 : arg2.IsWhole) (arg3 : Memref sig .tc .vmem S512x2048 .i8) (harg3 : arg3.IsWhole) (arg4 : Memref sig .tc .vmem S448x128 .i8) (harg4 : arg4.IsWhole) (arg5 : Memref sig .tc .vmem S1024x4096 .bf16) (harg5 : arg5.IsWhole) (arg6 : Memref sig .tc .vmem S1024x256 .i8) (harg6 : arg6.IsWhole) (arg7 : Memref sig .tc .vmem S1024x448 .i8) (harg7 : arg7.IsWhole) (arg8 : Memref sig .tc .vmem S1024x4096 .f32) (harg8 : arg8.IsWhole) (arg9 : Memref sig .tc .vmem S2x1024x512 .bf16) (harg9 : arg9.IsWhole) (arg10 : Memref sig .tc .vmem S2x512x4096 .bf16) (harg10 : arg10.IsWhole) (arg11 : Memref sig .tc .vmem S448x128 .i32) (harg11 : arg11.IsWhole) (arg12 : Memref sig .tc .vmem S256x512 .i32) (harg12 : arg12.IsWhole) (v5 : BitVec 32) (v28 : BitVec 32) (v30 : BitVec 32) (c16_i32_13 : BitVec 32) (v31 : BitVec 32) (v33 : BitVec 32) (v34 : BitVec 1) (X_arg1 : BufTy.Contents (Elt F) arg1.view.ty) (X_arg2 : BufTy.Contents (Elt F) arg2.view.ty)

theorem trip3_pieces (k : Fin k0_t3_loop.trips) (f6 f9 f12) : (trip_k0_t3 (F := F) 𝒱 c bd i arg1 harg1 arg2 harg2 arg3 harg3 arg4 harg4 arg5 harg5 arg6 harg6 arg7 harg7 arg8 harg8 arg9 harg9 arg10 harg10 arg11 harg11 arg12 harg12 v5 v28 v30 c16_i32_13 v31 v33 v34 X_arg1 X_arg2 k).2.1 f6 f9 f12 =
    [⟨Rect.unit (s := S2x1024x512) (k0_off15 i k) S1x32x128.size (k0_off15_inb i k), dqP (View.readAt (Elt F) arg1.view (Rect.unit (s := S1024x512) (k0_off14 k) S32x128.size (k0_off14_inb k)).toLoadRect X_arg1) (View.readAt (Elt F) arg2.view (Rect.unit (s := S1024x512) (k0_off14 k) S32x128.size (k0_off14_inb k)).toLoadRect X_arg2)⟩,
     ⟨Rect.unit (s := S2x1024x512) (k0_off13 i k) S1x32x128.size (k0_off13_inb i k), dqP (View.readAt (Elt F) arg1.view (Rect.unit (s := S1024x512) (k0_off12 k) S32x128.size (k0_off12_inb k)).toLoadRect X_arg1) (View.readAt (Elt F) arg2.view (Rect.unit (s := S1024x512) (k0_off12 k) S32x128.size (k0_off12_inb k)).toLoadRect X_arg2)⟩,
     ⟨Rect.unit (s := S2x1024x512) (k0_off10 i k) S1x32x128.size (k0_off10_inb i k), dqP (View.readAt (Elt F) arg1.view (Rect.unit (s := S1024x512) (k0_off9 k) S32x128.size (k0_off9_inb k)).toLoadRect X_arg1) (View.readAt (Elt F) arg2.view (Rect.unit (s := S1024x512) (k0_off9 k) S32x128.size (k0_off9_inb k)).toLoadRect X_arg2)⟩,
     ⟨Rect.unit (s := S2x1024x512) (k0_off8 i k) S1x32x128.size (k0_off8_inb i k), dqP (View.readAt (Elt F) arg1.view (Rect.unit (s := S1024x512) (k0_off7 k) S32x128.size (k0_off7_inb k)).toLoadRect X_arg1) (View.readAt (Elt F) arg2.view (Rect.unit (s := S1024x512) (k0_off7 k) S32x128.size (k0_off7_inb k)).toLoadRect X_arg2)⟩] := by
  unfold trip_k0_t3
  dsimp only
  congr 1

variable (G_arg6 : BufTy.Contents (Elt F) arg6.view.ty) (G_arg9 : BufTy.Contents (Elt F) arg9.view.ty) (G_arg12 : BufTy.Contents (Elt F) arg12.view.ty)

theorem dq_hit (x : S1024x512.Idx → Elt F .bf16) (r : S1024x512.Idx → Elt F .i32) (k : ℕ) (hk : k < 32) (q : Fin 4)
    (a : Fin 1024) (b : Fin 512) (h1 : 32 * k ≤ a.val) (h1' : a.val < 32 * k + 32) (h2 : 128 * q.val ≤ b.val)
    (h2' : b.val < 128 * q.val + 128) :
    dqP (F := F) (sl x ⟨k, hk⟩ q) (sl r ⟨k, hk⟩ q) (ix3 0 ⟨a.val - 32 * k, by omega⟩ ⟨b.val - 128 * q.val, by omega⟩) = dqTile x r a b := by
  rw [dqP_apply]
  unfold dqTile
  have e1 : (⟨a.val / 32, by omega⟩ : Fin 32) = ⟨k, hk⟩ := Fin.ext (by show a.val / 32 = k; omega)
  have e2 : (⟨b.val / 128, by omega⟩ : Fin 4) = q := Fin.ext (by show b.val / 128 = q.val; omega)
  have e3 : (⟨a.val % 32, by omega⟩ : Fin 32) = ⟨a.val - 32 * k, by omega⟩ := Fin.ext (by show a.val % 32 = a.val - 32 * k; omega)
  have e4 : (⟨b.val % 128, by omega⟩ : Fin 128) = ⟨b.val - 128 * q.val, by omega⟩ := Fin.ext (by show b.val % 128 = b.val - 128 * q.val; omega)
  rw [e1, e2, e3, e4]
  rfl

/-- After `n` trips the new slot of the dequantised scratch holds its first `32 n` rows. -/
theorem quant_read (n : ℕ) (hn : n ≤ 32) (s : Fin 2) (a : Fin 1024) (b : Fin 512) (hs : s.val = (i 0).val % 2) (ha : a.val < 32 * n) :
    arg9.view.read (Elt F) (arg9.view.writes (Elt F) G_arg9 (pb_k0_t3 (F := F) 𝒱 c bd i arg1 harg1 arg2 harg2 arg3 harg3 arg4 harg4 arg5 harg5 arg6 harg6 arg7 harg7 arg8 harg8 arg9 harg9 arg10 harg10 arg11 harg11 arg12 harg12 v5 v28 v30 c16_i32_13 v31 v33 v34 X_arg1 X_arg2 G_arg6 G_arg9 G_arg12 n).2.1) (ix3 s a b)
      = dqTile (arg1.view.read (Elt F) X_arg1) (arg2.view.read (Elt F) X_arg2) a b := by
  induction n with
  | zero => omega
  | succ n ih =>
    have hk : n < k0_t3_loop.trips := by have : k0_t3_loop.trips = 32 := by decide +kernel
                                         omega
    rw [pb_k0_t3_succ (F := F) 𝒱 c bd i arg1 harg1 arg2 harg2 arg3 harg3 arg4 harg4 arg5 harg5 arg6 harg6 arg7 harg7 arg8 harg8 arg9 harg9 arg10 harg10 arg11 harg11 arg12 harg12 v5 v28 v30 c16_i32_13 v31 v33 v34 X_arg1 X_arg2 G_arg6 G_arg9 G_arg12 ⟨n, hk⟩]
    show arg9.view.read (Elt F) (arg9.view.writes (Elt F) G_arg9 ((trip_k0_t3 (F := F) 𝒱 c bd i arg1 harg1 arg2 harg2 arg3 harg3 arg4 harg4 arg5 harg5 arg6 harg6 arg7 harg7 arg8 harg8 arg9 harg9 arg10 harg10 arg11 harg11 arg12 harg12 v5 v28 v30 c16_i32_13 v31 v33 v34 X_arg1 X_arg2 ⟨n, hk⟩).2.1 _ _ _
      ++ (pb_k0_t3 (F := F) 𝒱 c bd i arg1 harg1 arg2 harg2 arg3 harg3 arg4 harg4 arg5 harg5 arg6 harg6 arg7 harg7 arg8 harg8 arg9 harg9 arg10 harg10 arg11 harg11 arg12 harg12 v5 v28 v30 c16_i32_13 v31 v33 v34 X_arg1 X_arg2 G_arg6 G_arg9 G_arg12 n).2.1)) (ix3 s a b) = _
    rw [trip3_pieces, List.cons_append, List.cons_append, List.cons_append, List.cons_append, List.nil_append]
    rw [readAt_sl arg1 X_arg1 _ _ ⟨n, by omega⟩ 3 (k0_off14_eq ⟨n, hk⟩), readAt_sl arg2 X_arg2 _ _ ⟨n, by omega⟩ 3 (k0_off14_eq ⟨n, hk⟩),
      readAt_sl arg1 X_arg1 _ _ ⟨n, by omega⟩ 2 (k0_off12_eq ⟨n, hk⟩), readAt_sl arg2 X_arg2 _ _ ⟨n, by omega⟩ 2 (k0_off12_eq ⟨n, hk⟩),
      readAt_sl arg1 X_arg1 _ _ ⟨n, by omega⟩ 1 (k0_off9_eq ⟨n, hk⟩), readAt_sl arg2 X_arg2 _ _ ⟨n, by omega⟩ 1 (k0_off9_eq ⟨n, hk⟩),
      readAt_sl arg1 X_arg1 _ _ ⟨n, by omega⟩ 0 (k0_off7_eq ⟨n, hk⟩), readAt_sl arg2 X_arg2 _ _ ⟨n, by omega⟩ 0 (k0_off7_eq ⟨n, hk⟩)]
    by_cases hlt : a.val < 32 * n
    · rw [View.read_writes_cons_unit_of_not_mem (size := S1x32x128.size) arg9.view G_arg9 _ _ _ (ix3 s a b) (k0_off15_eq i ⟨n, hk⟩) 1 (Or.inl hlt),
        View.read_writes_cons_unit_of_not_mem (size := S1x32x128.size) arg9.view G_arg9 _ _ _ (ix3 s a b) (k0_off13_eq i ⟨n, hk⟩) 1 (Or.inl hlt),
        View.read_writes_cons_unit_of_not_mem (size := S1x32x128.size) arg9.view G_arg9 _ _ _ (ix3 s a b) (k0_off10_eq i ⟨n, hk⟩) 1 (Or.inl hlt),
        View.read_writes_cons_unit_of_not_mem (size := S1x32x128.size) arg9.view G_arg9 _ _ _ (ix3 s a b) (k0_off8_eq i ⟨n, hk⟩) 1 (Or.inl hlt)]
      exact ih (by omega) hlt
    · have key : ∀ q : Fin 4, 128 * q.val ≤ b.val → (h2' : b.val < 128 * q.val + 128) →
          ∀ d, ((ix3 s a b : S2x1024x512.Idx) d).val = (![(i 0).val % 2, 32 * n, 128 * q.val] : Fin 3 → ℕ) d
            + ((ix3 0 ⟨a.val - 32 * n, by omega⟩ ⟨b.val - 128 * q.val, by omega⟩ : S1x32x128.Idx) d).val := fun q h2 h2' d => match d with
          | ⟨0, _⟩ => by show s.val = (i 0).val % 2 + 0; omega
          | ⟨1, _⟩ => by show a.val = 32 * n + (a.val - 32 * n); omega
          | ⟨2, _⟩ => by show b.val = 128 * q.val + (b.val - 128 * q.val); omega
      have hge : 32 * n ≤ a.val := by omega
      have h512 := b.isLt
      by_cases h3 : 384 ≤ b.val
      · rw [View.read_writes_cons_unit_of_mem (size := S1x32x128.size) arg9.view G_arg9 _ _ _ (ix3 s a b) _ (k0_off15_eq i ⟨n, hk⟩) (key 3 h3 h512)]
        exact dq_hit _ _ n (by omega) 3 a b hge (by omega) h3 h512
      rw [View.read_writes_cons_unit_of_not_mem (size := S1x32x128.size) arg9.view G_arg9 _ _ _ (ix3 s a b) (k0_off15_eq i ⟨n, hk⟩) 2 (Or.inl (not_le.mp h3))]
      by_cases h2 : 256 ≤ b.val
      · rw [View.read_writes_cons_unit_of_mem (size := S1x32x128.size) arg9.view G_arg9 _ _ _ (ix3 s a b) _ (k0_off13_eq i ⟨n, hk⟩) (key 2 h2 (not_le.mp h3))]
        exact dq_hit _ _ n (by omega) 2 a b hge (by omega) h2 (not_le.mp h3)
      rw [View.read_writes_cons_unit_of_not_mem (size := S1x32x128.size) arg9.view G_arg9 _ _ _ (ix3 s a b) (k0_off13_eq i ⟨n, hk⟩) 2 (Or.inl (not_le.mp h2))]
      by_cases h1 : 128 ≤ b.val
      · rw [View.read_writes_cons_unit_of_mem (size := S1x32x128.size) arg9.view G_arg9 _ _ _ (ix3 s a b) _ (k0_off10_eq i ⟨n, hk⟩) (key 1 h1 (not_le.mp h2))]
        exact dq_hit _ _ n (by omega) 1 a b hge (by omega) h1 (not_le.mp h2)
      rw [View.read_writes_cons_unit_of_not_mem (size := S1x32x128.size) arg9.view G_arg9 _ _ _ (ix3 s a b) (k0_off10_eq i ⟨n, hk⟩) 2 (Or.inl (not_le.mp h1))]
      refine (View.read_writes_cons_unit_of_mem (size := S1x32x128.size) arg9.view G_arg9 _ _ _ (ix3 s a b) _ (k0_off8_eq i ⟨n, hk⟩) (key 0 (Nat.zero_le _) (not_le.mp h1))).trans ?_
      exact dq_hit _ _ n (by omega) 0 a b hge (by omega) (Nat.zero_le _) (not_le.mp h1)

end Cert.KernelIdeal.Gen
-- ==== Proof.Codes.lean ====
/- What the quantising loop leaves of the packed codes: one function of two neighbouring 32x128 slices, for every pair of slices of the tile. -/
module

public import proofs.«01_k».proof.Proof.Quant

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI

open Idealize.ShloMosaic.Pointwise

variable {F : FTy → Type} [FloatOps F]

/-- A slice's four-bit codes, a byte to each and four to a word. -/
def nW (x : Vec F S32x128 .bf16) (r : Vec F S32x128 .i32) : IVec S8x128 32 :=
  k0_pay34
    (k0_pay32 (k0_pay14 x) (k0_pay23 (k0_pay14 x) (k0_pay19 (k0_pay16 x) k0_pay17 k0_pay18) k0_pay20)
      (k0_pay26 (k0_pay14 x) (k0_pay19 (k0_pay16 x) k0_pay17 k0_pay18) k0_pay20) (k0_pay27 (k0_pay15 r))
      (k0_pay28 (k0_pay14 x) (k0_pay19 (k0_pay16 x) k0_pay17 k0_pay18) k0_pay20))
    (k0_pay33 (k0_pay14 x) (k0_pay23 (k0_pay14 x) (k0_pay19 (k0_pay16 x) k0_pay17 k0_pay18) k0_pay20)
      (k0_pay26 (k0_pay14 x) (k0_pay19 (k0_pay16 x) k0_pay17 k0_pay18) k0_pay20) (k0_pay27 (k0_pay15 r))
      (k0_pay28 (k0_pay14 x) (k0_pay19 (k0_pay16 x) k0_pay17 k0_pay18) k0_pay20)) 134744072#32

/-- Two slices' codes packed two to a byte: neighbouring lanes joined, and the even lanes gathered. -/
def pkV (u v : IVec S8x128 32) : IVec S32x128 8 :=
  k0_pay64 (k0_pay61 u) (ori (dynamicRotate 1 1#32 none v rotates_S8x128_d1) (shli v (broadcast S8x128 4#32)))
    (iota .tc S8x128 32 [1] iota_S8x128_d1_w32) k0_pay63

/-- The packed codes of two slices. -/
def cdV (x : Vec F S32x128 .bf16) (r : Vec F S32x128 .i32) (x' : Vec F S32x128 .bf16) (r' : Vec F S32x128 .i32) : IVec S32x128 8 :=
  pkV (nW x r) (nW x' r')

/-- What the loop leaves of the codes at a tile's row and column. -/
def cdTile (x : S1024x512.Idx → Elt F .bf16) (r : S1024x512.Idx → Elt F .i32) (a : Fin 1024) (b : Fin 256) : BitVec 8 :=
  cdV (F := F) (sl x ⟨a.val / 32, by omega⟩ ⟨2 * (b.val / 128), by omega⟩) (sl r ⟨a.val / 32, by omega⟩ ⟨2 * (b.val / 128), by omega⟩)
    (sl x ⟨a.val / 32, by omega⟩ ⟨2 * (b.val / 128) + 1, by omega⟩) (sl r ⟨a.val / 32, by omega⟩ ⟨2 * (b.val / 128) + 1, by omega⟩)
    (ix2 ⟨a.val % 32, by omega⟩ ⟨b.val % 128, by omega⟩)

variable (𝒱 : Variants) (c : Dev nD) (bd : Option 𝒱.V) (i : grid0.Coords) (arg1 : Memref sig .tc .vmem S1024x512 .bf16) (harg1 : arg1.IsWhole) (arg2 : Memref sig .tc .vmem S1024x512 .i32) (harg2 : arg2.IsWhole) (arg3 : Memref sig .tc .vmem S512x2048 .i8) (harg3 : arg3.IsWhole) (arg4 : Memref sig .tc .vmem S448x128 .i8) (harg4 : arg4.IsWhole) (arg5 : Memref sig .tc .vmem S1024x4096 .bf16) (harg5 : arg5.IsWhole) (arg6 : Memref sig .tc .vmem S1024x256 .i8) (harg6 : arg6.IsWhole) (arg7 : Memref sig .tc .vmem S1024x448 .i8) (harg7 : arg7.IsWhole) (arg8 : Memref sig .tc .vmem S1024x4096 .f32) (harg8 : arg8.IsWhole) (arg9 : Memref sig .tc .vmem S2x1024x512 .bf16) (harg9 : arg9.IsWhole) (arg10 : Memref sig .tc .vmem S2x512x4096 .bf16) (harg10 : arg10.IsWhole) (arg11 : Memref sig .tc .vmem S448x128 .i32) (harg11 : arg11.IsWhole) (arg12 : Memref sig .tc .vmem S256x512 .i32) (harg12 : arg12.IsWhole) (v5 : BitVec 32) (v28 : BitVec 32) (v30 : BitVec 32) (c16_i32_13 : BitVec 32) (v31 : BitVec 32) (v33 : BitVec 32) (v34 : BitVec 1) (X_arg1 : BufTy.Contents (Elt F) arg1.view.ty) (X_arg2 : BufTy.Contents (Elt F) arg2.view.ty)

theorem trip3_codes (k : Fin k0_t3_loop.trips) (f6 f9 f12) : (trip_k0_t3 (F := F) 𝒱 c bd i arg1 harg1 arg2 harg2 arg3 harg3 arg4 harg4 arg5 harg5 arg6 harg6 arg7 harg7 arg8 harg8 arg9 harg9 arg10 harg10 arg11 harg11 arg12 harg12 v5 v28 v30 c16_i32_13 v31 v33 v34 X_arg1 X_arg2 k).1 f6 f9 f12 =
    [⟨Rect.unit (s := S1024x256) (k0_off16 k) S32x128.size (k0_off16_inb k), cdV (F := F) (View.readAt (Elt F) arg1.view (Rect.unit (s := S1024x512) (k0_off12 k) S32x128.size (k0_off12_inb k)).toLoadRect X_arg1) (View.readAt (Elt F) arg2.view (Rect.unit (s := S1024x512) (k0_off12 k) S32x128.size (k0_off12_inb k)).toLoadRect X_arg2) (View.readAt (Elt F) arg1.view (Rect.unit (s := S1024x512) (k0_off14 k) S32x128.size (k0_off14_inb k)).toLoadRect X_arg1) (View.readAt (Elt F) arg2.view (Rect.unit (s := S1024x512) (k0_off14 k) S32x128.size (k0_off14_inb k)).toLoadRect X_arg2)⟩,
     ⟨Rect.unit (s := S1024x256) (k0_off11 k) S32x128.size (k0_off11_inb k), cdV (F := F) (View.readAt (Elt F) arg1.view (Rect.unit (s := S1024x512) (k0_off7 k) S32x128.size (k0_off7_inb k)).toLoadRect X_arg1) (View.readAt (Elt F) arg2.view (Rect.unit (s := S1024x512) (k0_off7 k) S32x128.size (k0_off7_inb k)).toLoadRect X_arg2) (View.readAt (Elt F) arg1.view (Rect.unit (s := S1024x512) (k0_off9 k) S32x128.size (k0_off9_inb k)).toLoadRect X_arg1) (View.readAt (Elt F) arg2.view (Rect.unit (s := S1024x512) (k0_off9 k) S32x128.size (k0_off9_inb k)).toLoadRect X_arg2)⟩] := by
  unfold trip_k0_t3
  dsimp only
  congr 1

variable (G_arg6 : BufTy.Contents (Elt F) arg6.view.ty) (G_arg9 : BufTy.Contents (Elt F) arg9.view.ty) (G_arg12 : BufTy.Contents (Elt F) arg12.view.ty)

theorem cd_hit (x : S1024x512.Idx → Elt F .bf16) (r : S1024x512.Idx → Elt F .i32) (k : ℕ) (hk : k < 32) (q : Fin 2)
    (a : Fin 1024) (b : Fin 256) (h1 : 32 * k ≤ a.val) (h1' : a.val < 32 * k + 32) (h2 : 128 * q.val ≤ b.val)
    (h2' : b.val < 128 * q.val + 128) (q1 q2 : Fin 4) (hq1 : q1.val = 2 * q.val) (hq2 : q2.val = 2 * q.val + 1) :
    cdV (F := F) (sl x ⟨k, hk⟩ q1) (sl r ⟨k, hk⟩ q1) (sl x ⟨k, hk⟩ q2) (sl r ⟨k, hk⟩ q2) (ix2 ⟨a.val - 32 * k, by omega⟩ ⟨b.val - 128 * q.val, by omega⟩) = cdTile x r a b := by
  unfold cdTile
  have e1 : (⟨a.val / 32, by omega⟩ : Fin 32) = ⟨k, hk⟩ := Fin.ext (by show a.val / 32 = k; omega)
  have e2 : (⟨2 * (b.val / 128), by omega⟩ : Fin 4) = q1 := Fin.ext (by show 2 * (b.val / 128) = q1.val; omega)
  have e5 : (⟨2 * (b.val / 128) + 1, by omega⟩ : Fin 4) = q2 := Fin.ext (by show 2 * (b.val / 128) + 1 = q2.val; omega)
  have e3 : (⟨a.val % 32, by omega⟩ : Fin 32) = ⟨a.val - 32 * k, by omega⟩ := Fin.ext (by show a.val % 32 = a.val - 32 * k; omega)
  have e4 : (⟨b.val % 128, by omega⟩ : Fin 128) = ⟨b.val - 128 * q.val, by omega⟩ := Fin.ext (by show b.val % 128 = b.val - 128 * q.val; omega)
  rw [e1, e2, e5, e3, e4]

/-- After `n` trips the block of codes holds its first `32 n` rows. -/
theorem codes_read (n : ℕ) (hn : n ≤ 32) (a : Fin 1024) (b : Fin 256) (ha : a.val < 32 * n) :
    arg6.view.read (Elt F) (arg6.view.writes (Elt F) G_arg6 (pb_k0_t3 (F := F) 𝒱 c bd i arg1 harg1 arg2 harg2 arg3 harg3 arg4 harg4 arg5 harg5 arg6 harg6 arg7 harg7 arg8 harg8 arg9 harg9 arg10 harg10 arg11 harg11 arg12 harg12 v5 v28 v30 c16_i32_13 v31 v33 v34 X_arg1 X_arg2 G_arg6 G_arg9 G_arg12 n).1) (ix2 a b)
      = cdTile (arg1.view.read (Elt F) X_arg1) (arg2.view.read (Elt F) X_arg2) a b := by
  induction n with
  | zero => omega
  | succ n ih =>
    have hk : n < k0_t3_loop.trips := by have : k0_t3_loop.trips = 32 := by decide +kernel
                                         omega
    rw [pb_k0_t3_succ (F := F) 𝒱 c bd i arg1 harg1 arg2 harg2 arg3 harg3 arg4 harg4 arg5 harg5 arg6 harg6 arg7 harg7 arg8 harg8 arg9 harg9 arg10 harg10 arg11 harg11 arg12 harg12 v5 v28 v30 c16_i32_13 v31 v33 v34 X_arg1 X_arg2 G_arg6 G_arg9 G_arg12 ⟨n, hk⟩]
    show arg6.view.read (Elt F) (arg6.view.writes (Elt F) G_arg6 ((trip_k0_t3 (F := F) 𝒱 c bd i arg1 harg1 arg2 harg2 arg3 harg3 arg4 harg4 arg5 harg5 arg6 harg6 arg7 harg7 arg8 harg8 arg9 harg9 arg10 harg10 arg11 harg11 arg12 harg12 v5 v28 v30 c16_i32_13 v31 v33 v34 X_arg1 X_arg2 ⟨n, hk⟩).1 _ _ _
      ++ (pb_k0_t3 (F := F) 𝒱 c bd i arg1 harg1 arg2 harg2 arg3 harg3 arg4 harg4 arg5 harg5 arg6 harg6 arg7 harg7 arg8 harg8 arg9 harg9 arg10 harg10 arg11 harg11 arg12 harg12 v5 v28 v30 c16_i32_13 v31 v33 v34 X_arg1 X_arg2 G_arg6 G_arg9 G_arg12 n).1)) (ix2 a b) = _
    rw [trip3_codes, List.cons_append, List.cons_append, List.nil_append]
    rw [readAt_sl arg1 X_arg1 _ _ ⟨n, by omega⟩ 3 (k0_off14_eq ⟨n, hk⟩), readAt_sl arg2 X_arg2 _ _ ⟨n, by omega⟩ 3 (k0_off14_eq ⟨n, hk⟩),
      readAt_sl arg1 X_arg1 _ _ ⟨n, by omega⟩ 2 (k0_off12_eq ⟨n, hk⟩), readAt_sl arg2 X_arg2 _ _ ⟨n, by omega⟩ 2 (k0_off12_eq ⟨n, hk⟩),
      readAt_sl arg1 X_arg1 _ _ ⟨n, by omega⟩ 1 (k0_off9_eq ⟨n, hk⟩), readAt_sl arg2 X_arg2 _ _ ⟨n, by omega⟩ 1 (k0_off9_eq ⟨n, hk⟩),
      readAt_sl arg1 X_arg1 _ _ ⟨n, by omega⟩ 0 (k0_off7_eq ⟨n, hk⟩), readAt_sl arg2 X_arg2 _ _ ⟨n, by omega⟩ 0 (k0_off7_eq ⟨n, hk⟩)]
    by_cases hlt : a.val < 32 * n
    · rw [View.read_writes_cons_unit_of_not_mem (size := S32x128.size) arg6.view G_arg6 _ _ _ (ix2 a b) (k0_off16_eq ⟨n, hk⟩) 0 (Or.inl hlt),
        View.read_writes_cons_unit_of_not_mem (size := S32x128.size) arg6.view G_arg6 _ _ _ (ix2 a b) (k0_off11_eq ⟨n, hk⟩) 0 (Or.inl hlt)]
      exact ih (by omega) hlt
    · have key : ∀ q : Fin 2, 128 * q.val ≤ b.val → (h2' : b.val < 128 * q.val + 128) →
          ∀ d, ((ix2 a b : S1024x256.Idx) d).val = (![32 * n, 128 * q.val] : Fin 2 → ℕ) d
            + ((ix2 ⟨a.val - 32 * n, by omega⟩ ⟨b.val - 128 * q.val, by omega⟩ : S32x128.Idx) d).val := fun q h2 h2' d => match d with
          | ⟨0, _⟩ => by show a.val = 32 * n + (a.val - 32 * n); omega
          | ⟨1, _⟩ => by show b.val = 128 * q.val + (b.val - 128 * q.val); omega
      have hge : 32 * n ≤ a.val := by omega
      have h256 := b.isLt
      by_cases h1 : 128 ≤ b.val
      · rw [View.read_writes_cons_unit_of_mem (size := S32x128.size) arg6.view G_arg6 _ _ _ (ix2 a b) _ (k0_off16_eq ⟨n, hk⟩) (key 1 h1 h256)]
        exact cd_hit _ _ n (by omega) 1 a b hge (by omega) h1 h256 2 3 rfl rfl
      rw [View.read_writes_cons_unit_of_not_mem (size := S32x128.size) arg6.view G_arg6 _ _ _ (ix2 a b) (k0_off16_eq ⟨n, hk⟩) 1 (Or.inl (not_le.mp h1))]
      refine (View.read_writes_cons_unit_of_mem (size := S32x128.size) arg6.view G_arg6 _ _ _ (ix2 a b) _ (k0_off11_eq ⟨n, hk⟩) (key 0 (Nat.zero_le _) (not_le.mp h1))).trans ?_
      exact cd_hit _ _ n (by omega) 0 a b hge (by omega) (Nat.zero_le _) (not_le.mp h1) 0 1 rfl rfl

end Cert.KernelIdeal.Gen
-- ==== Proof.ReadAt.lean ====
/- A load's value at an index, read off the memory the view sees. -/
module

public import proofs.«01_k».proof.Proof.Gen.KernelIdeal
public import proofs.«01_k».proof.Proof.Gen.KernelIdeal.Skeleton
public import proofs.«01_k».proof.Proof.Gen.KernelIdeal.Loops
public import Idealize.ShloMosaic.Lib.WritesUnit
public import Idealize.ShloMosaic.Lib.ValueIdx
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI

/-- A load at a unit-stride rectangle reads, at an index, the view's value at the shifted index. -/
theorem readAt_val {κ : Kind} {sp : Space} {s : Shape} {e : EltTy} {Val : EltTy → Type} (v : View sig κ sp s e) (f : v.ty.Contents Val)
    {off off' size : Fin s.rank → ℕ} (inb : ∀ a, off a + size a ≤ s.size a) (h : off = off')
    (j : (Rect.unit off size inb).shape.Idx) (y : s.Idx) (hy : ∀ a, (y a).val = off' a + (j a).val) :
    v.readAt Val (Rect.unit off size inb).toLoadRect f j = v.read Val f y := by
  subst h
  refine congrArg (v.read Val f) (funext fun a => Fin.ext ?_)
  show off a + 1 * (j a).val = (y a).val
  rw [hy a, Nat.one_mul]

end Cert.KernelIdeal.Gen
-- ==== Proof.Decode.lean ====
/- What the decoding loop leaves in the scratch it writes: every weight's decoded value. -/
module

public import proofs.«01_k».proof.Proof.Gen.KernelIdeal
public import proofs.«01_k».proof.Proof.Gen.KernelIdeal.Skeleton
public import proofs.«01_k».proof.Proof.Gen.KernelIdeal.Loops
public import Idealize.ShloMosaic.Lib.WritesUnit
public import Idealize.ShloMosaic.Lib.ValueIdx
public import Idealize.ShloMosaic.Lib.Pointwise

public import proofs.«01_k».proof.Proof.ReadAt

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI

variable {F : FTy → Type} [FloatOps F]

/-- The trip's column group as the word the program computes. -/
def grpW (k : Fin k0_t2_loop.trips) : BitVec 32 :=
  let arg13 : BitVec 32 := Scf.iv 0#32 1#32 k
  let v54 : BitVec 32 := Scalar.divsi arg13 16#32
  v54

/-- The words `k` of the packed codes that one trip reads. -/
def wcS (x : S512x2048.Idx → Elt F .i8) (k : Fin 256) : S32x128.Idx → Elt F .i8 := fun j =>
  x (ix2 ⟨32 * (k.val % 16) + (j 0).val, by have := k.isLt; have : (j 0).val < 32 := (j 0).isLt; omega⟩
    ⟨128 * (k.val / 16) + (j 1).val, by have := k.isLt; have : (j 1).val < 128 := (j 1).isLt; omega⟩)

def scS (S : S448x128.Idx → Elt F .i32) (kq : Fin 28) (k : Fin 256) : S1x128.Idx → Elt F .i32 := fun j =>
  S (ix2 ⟨16 * kq.val + k.val % 16, by have := kq.isLt; omega⟩ (j 1))

/-- The lane of every element of a word block. -/
abbrev laneV : IVec S8x128 32 := iota .tc S8x128 32 [1] iota_S8x128_d1_w32

/-- The first 128 columns a trip writes. -/
def dwLo (g : BitVec 32) (w : Vec F S32x128 .i8) (srow : Vec F S1x128 .i32) : FVec F S32x128 .bf16 :=
  k0_pay10 g laneV (k0_pay7 w) (k0_pay8 srow) k0_pay9
/-- The second 128 columns a trip writes. -/
def dwHi (g : BitVec 32) (w : Vec F S32x128 .i8) (srow : Vec F S1x128 .i32) : FVec F S1x32x128 .bf16 :=
  k0_pay4 (k0_pay8 srow) (k0_pay12 laneV (k0_pay7 w)) (k0_pay13 laneV) (Scalar.addi (Scalar.muli 8#32 g) 4#32)

theorem k0_off4_eq (k : Fin k0_t2_loop.trips) : k0_off4 k = ![32 * (k.val % 16), 128 * (k.val / 16)] := by
  revert k
  decide +kernel

/-- The first point of the grid. -/
def i0 : grid0.Coords := fun a => ⟨0, match a with | ⟨0, _⟩ => by show 0 < 337; omega⟩

theorem k0_off6_eq0 (i : grid0.Coords) (k : Fin k0_t2_loop.trips) : k0_off6 i k 0#32 = ![(i 0).val % 2, 32 * (k.val % 16), 256 * (k.val / 16)] := by
  have h0 : k0_off6 i k 0#32 0 = (i 0).val % 2 := by
    have h := congrFun (k0_off8_eq i ⟨0, by decide +kernel⟩) 0
    exact h
  have h1 : ∀ k, k0_off6 i0 k 0#32 1 = 32 * (k.val % 16) := by decide +kernel
  have h2 : ∀ k, k0_off6 i0 k 0#32 2 = 256 * (k.val / 16) := by decide +kernel
  funext a
  match a with
  | ⟨0, _⟩ => exact h0
  | ⟨1, _⟩ => exact h1 k
  | ⟨2, _⟩ => exact h2 k

theorem k0_off6_eq1 (i : grid0.Coords) (k : Fin k0_t2_loop.trips) : k0_off6 i k 128#32 = ![(i 0).val % 2, 32 * (k.val % 16), 256 * (k.val / 16) + 128] := by
  have h0 : k0_off6 i k 128#32 0 = (i 0).val % 2 := by
    have h := congrFun (k0_off8_eq i ⟨0, by decide +kernel⟩) 0
    exact h
  have h1 : ∀ k, k0_off6 i0 k 128#32 1 = 32 * (k.val % 16) := by decide +kernel
  have h2 : ∀ k, k0_off6 i0 k 128#32 2 = 256 * (k.val / 16) + 128 := by decide +kernel
  funext a
  match a with
  | ⟨0, _⟩ => exact h0
  | ⟨1, _⟩ => exact h1 k
  | ⟨2, _⟩ => exact h2 k

variable (𝒱 : Variants) (c : Dev nD) (bd : Option 𝒱.V) (i : grid0.Coords) (arg1 : Memref sig .tc .vmem S1024x512 .bf16) (harg1 : arg1.IsWhole) (arg2 : Memref sig .tc .vmem S1024x512 .i32) (harg2 : arg2.IsWhole) (arg3 : Memref sig .tc .vmem S512x2048 .i8) (harg3 : arg3.IsWhole) (arg4 : Memref sig .tc .vmem S448x128 .i8) (harg4 : arg4.IsWhole) (arg5 : Memref sig .tc .vmem S1024x4096 .bf16) (harg5 : arg5.IsWhole) (arg6 : Memref sig .tc .vmem S1024x256 .i8) (harg6 : arg6.IsWhole) (arg7 : Memref sig .tc .vmem S1024x448 .i8) (harg7 : arg7.IsWhole) (arg8 : Memref sig .tc .vmem S1024x4096 .f32) (harg8 : arg8.IsWhole) (arg9 : Memref sig .tc .vmem S2x1024x512 .bf16) (harg9 : arg9.IsWhole) (arg10 : Memref sig .tc .vmem S2x512x4096 .bf16) (harg10 : arg10.IsWhole) (arg11 : Memref sig .tc .vmem S448x128 .i32) (harg11 : arg11.IsWhole) (arg12 : Memref sig .tc .vmem S256x512 .i32) (harg12 : arg12.IsWhole) (v1 v5 : BitVec 32) (X_arg3 : BufTy.Contents (Elt F) arg3.view.ty) (X_arg11 : BufTy.Contents (Elt F) arg11.view.ty)

/-- The scale rows' block of a step. -/
def kqOf (i : grid0.Coords) : Fin 28 := ⟨(min (i 0).val 335) % 28, Nat.mod_lt _ (by omega)⟩

theorem readAt_wc (arg : Memref sig .tc .vmem S512x2048 .i8) (X : BufTy.Contents (Elt F) arg.view.ty) (k : Fin k0_t2_loop.trips) (hk : k.val < 256) (inb) :
    View.readAt (Elt F) arg.view (Rect.unit (s := S512x2048) (k0_off4 k) S32x128.size inb).toLoadRect X
      = wcS (F := F) (arg.view.read (Elt F) X) ⟨k.val, hk⟩ := by
  funext j
  refine readAt_val arg.view X inb (k0_off4_eq k) j _ fun a => ?_
  match a with
  | ⟨0, _⟩ => rfl
  | ⟨1, _⟩ => rfl

theorem readAt_sc (arg : Memref sig .tc .vmem S448x128 .i32) (X : BufTy.Contents (Elt F) arg.view.ty) (k : Fin k0_t2_loop.trips) (hk : k.val < 256) (inb) :
    View.readAt (Elt F) arg.view (Rect.unit (s := S448x128) (k0_off5 i k) S1x128.size inb).toLoadRect X
      = scS (F := F) (arg.view.read (Elt F) X) (kqOf i) ⟨k.val, hk⟩ := by
  funext j
  refine readAt_val arg.view X inb (k0_off5_eq i k) j _ fun a => ?_
  have h0 : (j 0).val = 0 := Nat.lt_one_iff.mp (show (j 0).val < 1 from (j 0).isLt)
  match a with
  | ⟨0, _⟩ => show 16 * ((min (i 0).val 335) % 28) + (k.val % 16) = 16 * ((min (i 0).val 335) % 28) + (k.val % 16) + (j 0).val; omega
  | ⟨1, _⟩ => show (j 1).val = 0 + (j 1).val; omega

theorem trip2_pieces (k : Fin k0_t2_loop.trips) (hk : k.val < 256) : (trip_k0_t2 (F := F) 𝒱 c bd i arg1 harg1 arg2 harg2 arg3 harg3 arg4 harg4 arg5 harg5 arg6 harg6 arg7 harg7 arg8 harg8 arg9 harg9 arg10 harg10 arg11 harg11 arg12 harg12 v1 v5 X_arg3 X_arg11 k).1 =
    [⟨Rect.unit (s := S2x512x4096) (k0_off6 i k 128#32) S1x32x128.size (k0_off6_inb i k 1),
      dwHi (BitVec.ofNat 32 (k.val / 16)) (wcS (F := F) (arg3.view.read (Elt F) X_arg3) ⟨k.val, hk⟩) (scS (F := F) (arg11.view.read (Elt F) X_arg11) (kqOf i) ⟨k.val, hk⟩)⟩,
     ⟨Rect.unit (s := S2x512x4096) (k0_off6 i k 0#32) S1x32x128.size (k0_off6_inb i k 0),
      k0_pay11 (dwLo (BitVec.ofNat 32 (k.val / 16)) (wcS (F := F) (arg3.view.read (Elt F) X_arg3) ⟨k.val, hk⟩) (scS (F := F) (arg11.view.read (Elt F) X_arg11) (kqOf i) ⟨k.val, hk⟩))⟩] := by
  rw [← readAt_wc arg3 X_arg3 k hk (k0_off4_inb k), ← readAt_sc i arg11 X_arg11 k hk (k0_off5_inb i k)]
  have hg : trip_k0_t2.sl.v70 k = BitVec.ofNat 32 (k.val / 16) := by
    revert k; decide +kernel
  rw [← hg]
  unfold trip_k0_t2
  rfl

/-- What the decoding loop holds at a row and column. -/
def dwTile (w : S512x2048.Idx → Elt F .i8) (S : S448x128.Idx → Elt F .i32) (kq : Fin 28) (a : Fin 512) (b : Fin 4096) : F .bf16 :=
  if b.val % 256 < 128 then
    dwLo (F := F) (BitVec.ofNat 32 (b.val / 256)) (wcS (F := F) w ⟨16 * (b.val / 256) + a.val / 32, by omega⟩) (scS (F := F) S kq ⟨16 * (b.val / 256) + a.val / 32, by omega⟩)
      (ix2 ⟨a.val % 32, by omega⟩ ⟨b.val % 128, by omega⟩)
  else
    dwHi (F := F) (BitVec.ofNat 32 (b.val / 256)) (wcS (F := F) w ⟨16 * (b.val / 256) + a.val / 32, by omega⟩) (scS (F := F) S kq ⟨16 * (b.val / 256) + a.val / 32, by omega⟩)
      (ix3 0 ⟨a.val % 32, by omega⟩ ⟨b.val % 128, by omega⟩)

theorem k0_pay11_apply (v : FVec F S32x128 .bf16) (a : Fin 32) (b : Fin 128) : k0_pay11 v (ix3 0 a b) = v (ix2 a b) := by
  unfold k0_pay11
  pointwise

variable (G_arg10 : BufTy.Contents (Elt F) arg10.view.ty)

/-- After `n` trips the new slot of the decoded scratch holds the decoded values of the first `n` blocks. -/
theorem decode_read (n : ℕ) (hn : n ≤ 256) (s : Fin 2) (a : Fin 512) (b : Fin 4096) (hs : s.val = (i 0).val % 2) (hab : 16 * (b.val / 256) + a.val / 32 < n) :
    arg10.view.read (Elt F) (arg10.view.writes (Elt F) G_arg10 (pb_k0_t2 (F := F) 𝒱 c bd i arg1 harg1 arg2 harg2 arg3 harg3 arg4 harg4 arg5 harg5 arg6 harg6 arg7 harg7 arg8 harg8 arg9 harg9 arg10 harg10 arg11 harg11 arg12 harg12 v1 v5 X_arg3 X_arg11 n)) (ix3 s a b)
      = dwTile (arg3.view.read (Elt F) X_arg3) (arg11.view.read (Elt F) X_arg11) (kqOf i) a b := by
  induction n with
  | zero => omega
  | succ n ih =>
    have hk : n < k0_t2_loop.trips := by have : k0_t2_loop.trips = 256 := by decide +kernel
                                         omega
    rw [pb_k0_t2_succ (F := F) 𝒱 c bd i arg1 harg1 arg2 harg2 arg3 harg3 arg4 harg4 arg5 harg5 arg6 harg6 arg7 harg7 arg8 harg8 arg9 harg9 arg10 harg10 arg11 harg11 arg12 harg12 v1 v5 X_arg3 X_arg11 ⟨n, hk⟩]
    show arg10.view.read (Elt F) (arg10.view.writes (Elt F) G_arg10 ((trip_k0_t2 (F := F) 𝒱 c bd i arg1 harg1 arg2 harg2 arg3 harg3 arg4 harg4 arg5 harg5 arg6 harg6 arg7 harg7 arg8 harg8 arg9 harg9 arg10 harg10 arg11 harg11 arg12 harg12 v1 v5 X_arg3 X_arg11 ⟨n, hk⟩).1
      ++ (pb_k0_t2 (F := F) 𝒱 c bd i arg1 harg1 arg2 harg2 arg3 harg3 arg4 harg4 arg5 harg5 arg6 harg6 arg7 harg7 arg8 harg8 arg9 harg9 arg10 harg10 arg11 harg11 arg12 harg12 v1 v5 X_arg3 X_arg11 n))) (ix3 s a b) = _
    rw [trip2_pieces (F := F) 𝒱 c bd i arg1 harg1 arg2 harg2 arg3 harg3 arg4 harg4 arg5 harg5 arg6 harg6 arg7 harg7 arg8 harg8 arg9 harg9 arg10 harg10 arg11 harg11 arg12 harg12 v1 v5 X_arg3 X_arg11 ⟨n, hk⟩ (by show n < 256; omega), List.cons_append, List.cons_append, List.nil_append]
    by_cases hlt : 16 * (b.val / 256) + a.val / 32 < n
    · have out : a.val < 32 * (n % 16) ∨ 32 * (n % 16) + 32 ≤ a.val ∨ b.val < 256 * (n / 16) := by omega
      rcases out with h | h | h
      · rw [View.read_writes_cons_unit_of_not_mem (size := S1x32x128.size) arg10.view G_arg10 _ _ _ (ix3 s a b) (k0_off6_eq1 i ⟨n, hk⟩) 1 (Or.inl h),
          View.read_writes_cons_unit_of_not_mem (size := S1x32x128.size) arg10.view G_arg10 _ _ _ (ix3 s a b) (k0_off6_eq0 i ⟨n, hk⟩) 1 (Or.inl h)]
        exact ih (by omega) hlt
      · rw [View.read_writes_cons_unit_of_not_mem (size := S1x32x128.size) arg10.view G_arg10 _ _ _ (ix3 s a b) (k0_off6_eq1 i ⟨n, hk⟩) 1 (Or.inr h),
          View.read_writes_cons_unit_of_not_mem (size := S1x32x128.size) arg10.view G_arg10 _ _ _ (ix3 s a b) (k0_off6_eq0 i ⟨n, hk⟩) 1 (Or.inr h)]
        exact ih (by omega) hlt
      · rw [View.read_writes_cons_unit_of_not_mem (size := S1x32x128.size) arg10.view G_arg10 _ _ _ (ix3 s a b) (k0_off6_eq1 i ⟨n, hk⟩) 2 (Or.inl (by show b.val < 256 * (n / 16) + 128; omega)),
          View.read_writes_cons_unit_of_not_mem (size := S1x32x128.size) arg10.view G_arg10 _ _ _ (ix3 s a b) (k0_off6_eq0 i ⟨n, hk⟩) 2 (Or.inl h)]
        exact ih (by omega) hlt
    · have hn' : n = 16 * (b.val / 256) + a.val / 32 := by omega
      have e1 : n / 16 = b.val / 256 := by omega
      have e2 : n % 16 = a.val / 32 := by omega
      unfold dwTile
      have eN : (⟨16 * (b.val / 256) + a.val / 32, by omega⟩ : Fin 256) = ⟨n, by omega⟩ := Fin.ext hn'.symm
      rw [eN, ← e1]
      by_cases hh : b.val % 256 < 128
      · rw [if_pos hh]
        rw [View.read_writes_cons_unit_of_not_mem (size := S1x32x128.size) arg10.view G_arg10 _ _ _ (ix3 s a b) (k0_off6_eq1 i ⟨n, hk⟩) 2 (Or.inl (by show b.val < 256 * (n / 16) + 128; omega))]
        refine (View.read_writes_cons_unit_of_mem (size := S1x32x128.size) arg10.view G_arg10 _ _ _ (ix3 s a b) (ix3 0 ⟨a.val % 32, by omega⟩ ⟨b.val % 128, by omega⟩) (k0_off6_eq0 i ⟨n, hk⟩) fun d => ?_).trans ?_
        · match d with
          | ⟨0, _⟩ => show s.val = (i 0).val % 2 + 0; omega
          | ⟨1, _⟩ => show a.val = 32 * (n % 16) + a.val % 32; omega
          | ⟨2, _⟩ => show b.val = 256 * (n / 16) + b.val % 128; omega
        · exact k0_pay11_apply _ _ _
      · rw [if_neg hh]
        refine (View.read_writes_cons_unit_of_mem (size := S1x32x128.size) arg10.view G_arg10 _ _ _ (ix3 s a b) (ix3 0 ⟨a.val % 32, by omega⟩ ⟨b.val % 128, by omega⟩) (k0_off6_eq1 i ⟨n, hk⟩) fun d => ?_).trans ?_
        · match d with
          | ⟨0, _⟩ => show s.val = (i 0).val % 2 + 0; omega
          | ⟨1, _⟩ => show a.val = 32 * (n % 16) + a.val % 32; omega
          | ⟨2, _⟩ => show b.val = 256 * (n / 16) + 128 + b.val % 128; omega
        · rfl

end Cert.KernelIdeal.Gen
-- ==== Proof.Words.lean ====
/- The arithmetic of the problem on single numbers: powers of two by their exponent field, the counted exponent, and the rounded value. -/
module

public import Idealize.ShloMosaic.Lib.Pointwise
public import Idealize.ShloMosaic.PureOps.Ideal.Laws

@[expose] public section

noncomputable section

namespace Cert.Grad

open Idealize.ShloMosaic

/-- The value of a float pattern whose fraction is zero, by its sign and exponent fields. -/
def E8 (w : ℕ) : EReal :=
  if w % 256 = 255 then (if w / 256 % 2 = 1 then ⊥ else ⊤)
  else if w % 256 = 0 then 0
  else (((if w / 256 % 2 = 1 then -1 else 1) * (2 : ℝ) ^ (((w % 256 : ℕ) : ℤ) - 127) : ℝ) : EReal)

theorem bf_E8 (w : ℕ) : Ideal.ofBits .bf16 (BitVec.ofNat 16 (128 * w)) = E8 w := by
  have h1 : ((BitVec.ofNat 16 (128 * w)).extractLsb' (8 + 7) 1 == 1#1) = decide (w / 256 % 2 = 1) := by
    rw [Bool.eq_iff_iff, beq_iff_eq, decide_eq_true_iff, ← BitVec.toNat_inj]
    simp only [BitVec.extractLsb'_toNat, BitVec.toNat_ofNat, Nat.shiftRight_eq_div_pow]
    omega
  have h2 : ((BitVec.ofNat 16 (128 * w)).extractLsb' 7 8).toNat = w % 256 := by
    simp only [BitVec.extractLsb'_toNat, BitVec.toNat_ofNat, Nat.shiftRight_eq_div_pow]; omega
  have h3 : ((BitVec.ofNat 16 (128 * w)).extractLsb' 0 7).toNat = 0 := by
    simp only [BitVec.extractLsb'_toNat, BitVec.toNat_ofNat, Nat.shiftRight_eq_div_pow]; omega
  show Ideal.ieee 8 7 (BitVec.ofNat 16 (128 * w)) = E8 w
  unfold Ideal.ieee E8
  simp only [h1, h2, h3, decide_eq_true_iff]
  simp only [show (2 ^ 8 - 1 : ℕ) = 255 from rfl]
  by_cases c : w % 256 = 255
  · simp only [if_pos c]; simp
  · simp only [if_neg c]
    by_cases c0 : w % 256 = 0
    · simp only [if_pos c0]; simp
    · simp only [if_neg c0]
      congr 1
      rw [mul_assoc]
      congr 1
      rw [show ((2 ^ 7 + 0 : ℕ) : ℝ) = (2 : ℝ) ^ (7 : ℤ) by norm_num, ← zpow_add₀ (by norm_num)]
      congr 1
      norm_num

theorem f32_E8 (w : ℕ) : Ideal.ofBits .f32 (BitVec.ofNat 32 (8388608 * w)) = E8 w := by
  have h1 : ((BitVec.ofNat 32 (8388608 * w)).extractLsb' (8 + 23) 1 == 1#1) = decide (w / 256 % 2 = 1) := by
    rw [Bool.eq_iff_iff, beq_iff_eq, decide_eq_true_iff, ← BitVec.toNat_inj]
    simp only [BitVec.extractLsb'_toNat, BitVec.toNat_ofNat, Nat.shiftRight_eq_div_pow]
    omega
  have h2 : ((BitVec.ofNat 32 (8388608 * w)).extractLsb' 23 8).toNat = w % 256 := by
    simp only [BitVec.extractLsb'_toNat, BitVec.toNat_ofNat, Nat.shiftRight_eq_div_pow]; omega
  have h3 : ((BitVec.ofNat 32 (8388608 * w)).extractLsb' 0 23).toNat = 0 := by
    simp only [BitVec.extractLsb'_toNat, BitVec.toNat_ofNat, Nat.shiftRight_eq_div_pow]; omega
  show Ideal.ieee 8 23 (BitVec.ofNat 32 (8388608 * w)) = E8 w
  unfold Ideal.ieee E8
  simp only [h1, h2, h3, decide_eq_true_iff]
  simp only [show (2 ^ 8 - 1 : ℕ) = 255 from rfl]
  by_cases c : w % 256 = 255
  · simp only [if_pos c]; simp
  · simp only [if_neg c]
    by_cases c0 : w % 256 = 0
    · simp only [if_pos c0]; simp
    · simp only [if_neg c0]
      congr 1
      rw [mul_assoc]
      congr 1
      rw [show ((2 ^ 23 + 0 : ℕ) : ℝ) = (2 : ℝ) ^ (23 : ℤ) by norm_num, ← zpow_add₀ (by norm_num)]
      congr 1
      norm_num

theorem E8_pos {w : ℕ} (h1 : 1 ≤ w) (h2 : w ≤ 254) : E8 w = (((2 : ℝ) ^ ((w : ℤ) - 127) : ℝ) : EReal) := by
  unfold E8
  have hw : w % 256 = w := by omega
  rw [hw, if_neg (by omega), if_neg (by omega), if_neg (by omega), one_mul]

theorem E8_zero : E8 0 = 0 := by unfold E8; norm_num
theorem E8_top : E8 255 = ⊤ := by unfold E8; norm_num

theorem E8_nonneg {w : ℕ} (h : w ≤ 256) : 0 ≤ E8 w := by
  rcases Nat.lt_or_ge w 1 with h0 | h0
  · have : w = 0 := by omega
    rw [this, E8_zero]
  rcases Nat.lt_or_ge 254 w with h1 | h1
  · have : w = 255 ∨ w = 256 := by omega
    rcases this with rfl | rfl
    · rw [E8_top]; exact le_top
    · unfold E8; norm_num
  · rw [E8_pos h0 h1]
    exact EReal.coe_nonneg.mpr (by positivity)

theorem E8_mono {i j : ℕ} (h : i ≤ j) (hj : j ≤ 255) : E8 i ≤ E8 j := by
  rcases Nat.lt_or_ge j 255 with h1 | h1
  · rcases Nat.lt_or_ge i 1 with h0 | h0
    · have : i = 0 := by omega
      rw [this, E8_zero]; exact E8_nonneg (by omega)
    · rw [E8_pos h0 (by omega), E8_pos (by omega) (by omega)]
      exact EReal.coe_le_coe_iff.mpr (zpow_le_zpow_right₀ (by norm_num) (by omega))
  · have : j = 255 := by omega
    rw [this, E8_top]; exact le_top

/-- How many of the 255 powers of two a number reaches. -/
def cnt (am : EReal) : ℕ := ((Finset.range 255).filter fun j => E8 (j + 1) ≤ am).card

theorem cnt_le (am : EReal) : cnt am ≤ 255 := (Finset.card_filter_le _ _).trans (by rw [Finset.card_range])

theorem le_cnt_iff {am : EReal} (h0 : 0 ≤ am) {j : ℕ} (hj : j ≤ 255) : E8 j ≤ am ↔ j ≤ cnt am := by
  rcases j with _ | i
  · rw [E8_zero]; exact ⟨fun _ => Nat.zero_le _, fun _ => h0⟩
  constructor
  · intro h
    have hs : Finset.range (i + 1) ⊆ (Finset.range 255).filter fun j => E8 (j + 1) ≤ am := by
      intro k hk
      rw [Finset.mem_range] at hk
      rw [Finset.mem_filter, Finset.mem_range]
      exact ⟨by omega, (E8_mono (by omega) hj).trans h⟩
    have := Finset.card_le_card hs
    rwa [Finset.card_range] at this
  · intro h
    by_contra hc
    have hs : ((Finset.range 255).filter fun j => E8 (j + 1) ≤ am) ⊆ Finset.range i := by
      intro k hk
      rw [Finset.mem_filter, Finset.mem_range] at hk
      rw [Finset.mem_range]
      by_contra hki
      exact hc ((E8_mono (by omega) (by omega)).trans hk.2)
    have := Finset.card_le_card hs
    rw [Finset.card_range] at this
    change i + 1 ≤ ((Finset.range 255).filter fun j => E8 (j + 1) ≤ am).card at h
    omega

/-- The exponent field of a block's scale. -/
def scW (am : EReal) : ℕ := if am = 0 then 127 else (cnt am + 510) % 512
/-- The exponent field of its reciprocal. -/
def invW (am : EReal) : ℕ := if am = 0 then 127 else 256 - cnt am

/-- The scaled magnitude, clamped. -/
def clampA (am x : EReal) : EReal := min (max x (-x) * E8 (invW am)) 6

theorem clampA_real (am x : EReal) : ∃ a : ℝ, clampA am x = (a : EReal) ∧ 0 ≤ a ∧ a ≤ 6 := by
  have h0 : 0 ≤ clampA am x := by
    refine le_min (mul_nonneg ?_ (E8_nonneg ?_)) (by norm_num)
    · rcases le_total 0 x with h | h
      · exact le_max_of_le_left h
      · exact le_max_of_le_right (by simpa using h)
    · unfold invW; split <;> omega
  have h6 : clampA am x ≤ 6 := min_le_right _ _
  have hb : clampA am x ≠ ⊥ := fun h => by rw [h] at h0; simp at h0
  have ht : clampA am x ≠ ⊤ := fun h => by rw [h, top_le_iff] at h6; exact absurd h6 (by decide)
  refine ⟨(clampA am x).toReal, (EReal.coe_toReal ht hb).symm, EReal.toReal_nonneg h0, ?_⟩
  have : ((clampA am x).toReal : EReal) ≤ ((6 : ℝ) : EReal) := by rw [EReal.coe_toReal ht hb]; exact h6
  exact EReal.coe_le_coe_iff.mp this

/-- The grid's spacing at a magnitude. -/
def stepR (a : EReal) : EReal := if a < 2 then ((1 / 2 : ℝ) : EReal) else if a < 4 then 1 else 2
/-- The grid point at or below a magnitude. -/
def loR (a : EReal) : EReal :=
  if a < 2 then Ideal.liftRound Int.floor (a * 2) * ((1 / 2 : ℝ) : EReal)
  else if a < 4 then Ideal.liftRound Int.floor a
  else 4 + 2 * Ideal.liftRound Int.floor ((a - 4) * ((1 / 2 : ℝ) : EReal))
/-- The magnitude rounded, up or down as the random number says. -/
def roundR (a u : EReal) : EReal := if u < (a - loR a) * Ideal.div 1 (stepR a) then loR a + stepR a else loR a

/-- The same on the kernel's integer grid: the reciprocal spacing, -/
def invP (a : EReal) : EReal := if a < 2 then 2 else if a < 4 then 1 else ((1 / 2 : ℝ) : EReal)
/-- twice the spacing, -/
def twoP (a : EReal) : EReal := if a < 2 then 1 else if a < 4 then 2 else 4
/-- and the rounded value. -/
def roundK (a u : EReal) : EReal :=
  (if u < a * invP a - Ideal.liftRound Int.floor (a * invP a) then Ideal.liftRound Int.floor (a * invP a) + 1 else Ideal.liftRound Int.floor (a * invP a))
    * (twoP a * ((1 / 2 : ℝ) : EReal))

theorem lift_coe (r : ℝ) : Ideal.liftRound Int.floor (r : EReal) = ((⌊r⌋ : ℝ) : EReal) := rfl

theorem ite_lt_mul {u c d p q r s w : EReal} (hc : c = d) (hp : p * w = r) (hq : q * w = s) :
    (if u < c then p else q) * w = if u < d then r else s := by
  subst hc hp hq
  split <;> rfl

theorem div_coe (s : ℝ) (hs : s ≠ 0) : Ideal.div ((1 : ℝ) : EReal) (s : EReal) = ((1 / s : ℝ) : EReal) := by
  unfold Ideal.div
  rw [if_neg (by exact_mod_cast hs), ← EReal.coe_inv, ← EReal.coe_mul, one_mul, one_div]

theorem roundK_eq (a : ℝ) (u : EReal) : roundK a u = roundR a u := by
  have e2 : (2 : EReal) = ((2 : ℝ) : EReal) := rfl
  have e4 : (4 : EReal) = ((4 : ℝ) : EReal) := rfl
  have e1 : (1 : EReal) = ((1 : ℝ) : EReal) := rfl
  unfold roundK roundR loR stepR invP twoP
  by_cases h2 : (a : EReal) < 2
  · simp only [if_pos h2]
    refine ite_lt_mul ?_ ?_ ?_
    · rw [e2, e1, div_coe _ (by norm_num), ← EReal.coe_mul, lift_coe]
      simp only [← EReal.coe_mul, ← EReal.coe_sub]
      congr 1; ring
    · rw [e2, e1, ← EReal.coe_mul, lift_coe]
      simp only [← EReal.coe_mul, ← EReal.coe_add]
      congr 1; ring
    · rw [e2, e1, ← EReal.coe_mul, lift_coe]
      simp only [← EReal.coe_mul]
      congr 1; ring
  · simp only [if_neg h2]
    by_cases h4 : (a : EReal) < 4
    · simp only [if_pos h4]
      refine ite_lt_mul ?_ ?_ ?_
      · rw [mul_one, e1, div_coe _ (by norm_num), lift_coe]
        simp only [← EReal.coe_mul, ← EReal.coe_sub]
        congr 1; ring
      · rw [mul_one, e2, e1, lift_coe]
        simp only [← EReal.coe_mul, ← EReal.coe_add]
        congr 1; ring
      · rw [mul_one, e2, lift_coe]
        simp only [← EReal.coe_mul]
        congr 1; ring
    · simp only [if_neg h4]
      have hf : ⌊(a - 4) * (1 / 2)⌋ = ⌊a * (1 / 2)⌋ - 2 := by
        rw [show (a - 4) * (1 / 2) = a * (1 / 2) - ((2 : ℤ) : ℝ) by push_cast; ring, Int.floor_sub_intCast]
      refine ite_lt_mul ?_ ?_ ?_
      · rw [e2, e4, e1, div_coe _ (by norm_num), ← EReal.coe_mul, ← EReal.coe_sub, ← EReal.coe_mul, lift_coe, lift_coe, hf]
        simp only [← EReal.coe_mul, ← EReal.coe_sub, ← EReal.coe_add]
        congr 1; push_cast; ring
      · rw [e2, e4, e1]
        simp only [← EReal.coe_mul, ← EReal.coe_sub, ← EReal.coe_add, lift_coe, hf]
        congr 1; push_cast; ring
      · rw [e2, e4]
        simp only [← EReal.coe_mul, ← EReal.coe_sub, ← EReal.coe_add, lift_coe, hf]
        congr 1; push_cast; ring

/-- The uniform number of a random word. -/
def uni (r : BitVec 32) : EReal := (((r.toNat / 256 : ℕ) : ℝ) : EReal) * E8 103

/-- THE QUANTISED AND DEQUANTISED ENTRY: of an entry, its block's largest magnitude, and its random word. -/
def deq (am x : EReal) (r : BitVec 32) : EReal :=
  (if x < 0 then - roundR (clampA am x) (uni r) else roundR (clampA am x) (uni r)) * E8 (scW am)

end Cert.Grad

end
-- ==== Proof.Wt.lean ====
/- The value of a four-bit weight code. -/
module

public import proofs.«01_k».proof.Proof.Words

@[expose] public section

set_option maxRecDepth 8192

noncomputable section

namespace Cert.Grad

open Idealize.ShloMosaic

/-- The magnitudes of the eight unsigned codes. -/
def magW (n : ℕ) : ℝ := if n = 0 then 0 else if n = 1 then 1 / 2 else if n = 2 then 1 else if n = 3 then 3 / 2 else if n = 4 then 2 else if n = 5 then 3 else if n = 6 then 4 else 6
/-- The weight code's value: the top bit its sign, the others its magnitude. -/
def wtv (n : ℕ) : EReal := ((if n / 8 = 1 then - magW (n % 8) else magW (n % 8) : ℝ) : EReal)

/-- The eight-bit float pattern the code is moved to. -/
def pat (n : ℕ) : BitVec 8 := BitVec.ofNat 8 (n / 8 * 128 + n % 8 * 2)

theorem c16384 : Ideal.ofBits .bf16 0x4680#16 = ((16384 : ℝ) : EReal) := by
  refine (bf_E8 141).trans ?_
  unfold E8; norm_num

/-- The eight-bit pattern times two to the fourteenth is the code's value. -/
theorem pat_val (n : ℕ) (hn : n < 16) : Ideal.ofBits .fp8e5m2 (pat n) * Ideal.ofBits .bf16 0x4680#16 = wtv n := by
  rw [c16384]
  interval_cases n <;> simp [Ideal.ofBits, Ideal.ieee, pat, wtv, magW] <;> rw [← EReal.coe_mul] <;> norm_num <;> rw [← EReal.coe_mul] <;>
    first | exact congrArg Real.toEReal (by norm_num) | exact (congrArg Real.toEReal (by norm_num : _ = (1 : ℝ))).trans EReal.coe_one

/-- The code in a byte: its low four bits in an even column, its high four in an odd one. -/
def nib (B : ℕ) (p : ℕ) : ℕ := if p % 2 = 0 then B % 16 else B / 16

/-- One word's bytes moved to patterns: one byte of the result from the same byte of the word. -/
theorem byte_pat (W : BitVec 32) (q : ℕ) (hq : q < 4) :
    ((((W <<< 4) &&& 2155905152#32) ||| (((W <<< 4) >>> 3) &&& 235802126#32)).extractLsb' (8 * q) 8)
      = ((((W.extractLsb' (8 * q) 8) <<< 4) &&& 0x80#8) ||| ((((W.extractLsb' (8 * q) 8) <<< 4) >>> 3) &&& 0x0E#8)) := by
  apply BitVec.eq_of_getLsbD_eq
  intro i hi
  interval_cases q <;> interval_cases i <;> simp

theorem byte_pat' (W : BitVec 32) (q : ℕ) (hq : q < 4) :
    (((W &&& 2155905152#32) ||| ((W >>> 3) &&& 235802126#32)).extractLsb' (8 * q) 8)
      = (((W.extractLsb' (8 * q) 8) &&& 0x80#8) ||| (((W.extractLsb' (8 * q) 8) >>> 3) &&& 0x0E#8)) := by
  apply BitVec.eq_of_getLsbD_eq
  intro i hi
  interval_cases q <;> interval_cases i <;> simp

theorem pat_even : ∀ B : Fin 256, (((BitVec.ofNat 8 B.val <<< 4) &&& 0x80#8) ||| (((BitVec.ofNat 8 B.val <<< 4) >>> 3) &&& 0x0E#8)) = pat (B.val % 16) := by decide +kernel
theorem pat_odd : ∀ B : Fin 256, ((BitVec.ofNat 8 B.val &&& 0x80#8) ||| ((BitVec.ofNat 8 B.val >>> 3) &&& 0x0E#8)) = pat (B.val / 16) := by decide +kernel

/-- The scale byte as a float pattern, in both halves of a word. -/
theorem scale_half : ∀ (s : Fin 256) (h : Fin 2),
    ((BitVec.ofNat 32 s.val <<< 7) ||| (BitVec.ofNat 32 s.val <<< 23)).extractLsb' (16 * h.val) 16 = BitVec.ofNat 16 (128 * s.val) := by decide +kernel

end Cert.Grad

end
-- ==== Proof.DVal.lean ====
/- The decoded weight, entry by entry: the code's value times its block's power of two. -/
module

public import proofs.«01_k».proof.Proof.Gen.KernelIdeal
public import proofs.«01_k».proof.Proof.Gen.KernelIdeal.Skeleton
public import proofs.«01_k».proof.Proof.Gen.KernelIdeal.Loops
public import Idealize.ShloMosaic.Lib.WritesUnit
public import Idealize.ShloMosaic.Lib.ValueIdx
public import Idealize.ShloMosaic.Lib.Pointwise

public import proofs.«01_k».proof.Proof.Decode
public import proofs.«01_k».proof.Proof.Wt
public import Idealize.ShloMosaic.Lib.BitcastPair
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI

open Cert.Grad

theorem lane_read (r : Fin 8) (l : Fin 128) : laneV (ix2 r l) = BitVec.ofNat 32 l.val := by
  pointwise

/-- A gather's lane numbers, wrapped where negative. -/
def wrapV (v : IVec S8x128 32) : IVec S8x128 32 :=
  shapeCast S8x128 (shapeCast S8x128x1 (select (cmpi .slt v (broadcast S8x128 0#32)) (addi v (broadcast S8x128 128#32)) v) shapeCasts_S8x128_S8x128x1) shapeCasts_S8x128x1_S8x128

theorem wrapV_read (v : IVec S8x128 32) (r : Fin 8) (l : Fin 128) :
    wrapV v (ix2 r l) = if IntOp.cmpi .slt (v (ix2 r l)) 0#32 = 1#1 then IntOp.addi (v (ix2 r l)) 128#32 else v (ix2 r l) := by
  have : ∀ y : IVec S8x128 32, (shapeCast S8x128 (shapeCast S8x128x1 y shapeCasts_S8x128_S8x128x1) shapeCasts_S8x128x1_S8x128) (ix2 r l) = y (ix2 r l) := by
    intro y; pointwise
  unfold wrapV
  rw [this]
  rfl

/-- A gather along the lanes at a lane number. -/
theorem gath_read (x : IVec S8x128 32) (v : IVec S8x128 32) (r : Fin 8) (l m : Fin 128) (h : (wrapV v (ix2 r l)).toNat % 128 = m.val) :
    dynamicGather 1 x (wrapV v) (ix2 r l) = x (ix2 r m) := by
  rw [dynamicGather_apply]
  refine congrArg x (funext fun a => ?_)
  match a with
  | ⟨0, _⟩ => rfl
  | ⟨1, _⟩ => exact Fin.ext h

/-- Words of four codes each to their values. -/
def codeV (v98 : IVec S8x128 32) : FVec Ideal S32x128 .bf16 :=
  let v106 : IVec S8x128 32 := shli v98 (select (cmpi .eq (andi laneV (broadcast S8x128 1#32)) (broadcast S8x128 0#32)) (broadcast S8x128 4#32) (broadcast S8x128 0#32))
  let v113 : IVec S8x128 32 := ori (andi v106 (broadcast S8x128 2155905152#32)) (andi (shrui v106 (broadcast S8x128 3#32)) (broadcast S8x128 235802126#32))
  mulf (extf .bf16 (bitcastToFloat .fp8e5m2 (bitcast S32x128 8 v113 bitcasts_S8x128_w32_S32x128_w8)) bitsLt_fp8e5m2_bf16) (broadcast S32x128 (Scalar.ofBits .bf16 0x4680#16))

/-- Words of scale bytes to powers of two. -/
def scaleV (v131 : IVec S8x128 32) : FVec Ideal S32x128 .bf16 :=
  let v137 : FVec Ideal S16x128 .bf16 := bitcastToFloat .bf16 (bitcast S16x128 16 (ori (shli v131 (broadcast S8x128 7#32)) (shli v131 (broadcast S8x128 23#32))) bitcasts_S8x128_w32_S16x128_w16)
  concatenate S32x128 0 [⟨S16x128, v137⟩, ⟨S16x128, v137⟩] concatenates_S16x128_S16x128_S32x128_d0

theorem dwLo_eq (g : BitVec 32) (w : Vec Ideal S32x128 .i8) (srow : Vec Ideal S1x128 .i32) :
    dwLo g w srow = mulf (codeV (dynamicGather 1 (k0_pay7 w) (wrapV (addi (shrsi laneV (broadcast S8x128 1#32)) (broadcast S8x128 0#32)))))
      (scaleV (dynamicGather 1 (k0_pay8 srow) (wrapV (addi (shrsi laneV (broadcast S8x128 5#32)) (broadcast S8x128 (Scalar.addi (Scalar.muli 8#32 g) 0#32)))))) := rfl

theorem dwHi_eq (g : BitVec 32) (w : Vec Ideal S32x128 .i8) (srow : Vec Ideal S1x128 .i32) :
    dwHi g w srow = shapeCast S1x32x128 (mulf (codeV (dynamicGather 1 (k0_pay7 w) (wrapV (addi (shrsi laneV (broadcast S8x128 1#32)) (broadcast S8x128 64#32)))))
      (scaleV (dynamicGather 1 (k0_pay8 srow) (wrapV (addi (shrsi laneV (broadcast S8x128 5#32)) (broadcast S8x128 (Scalar.addi (Scalar.muli 8#32 g) 4#32))))))) shapeCasts_S32x128_S1x32x128 := rfl

/-! ### Bytes of words -/

theorem word_byte (w : Vec Ideal S32x128 .i8) (a : Fin 32) (l : Fin 128) :
    (k0_pay7 w (ix2 ⟨a.val / 4, by omega⟩ l)).extractLsb' (8 * (a.val % 4)) 8 = w (ix2 a l) := by
  apply BitVec.eq_of_getLsbD_eq
  intro i hi
  rw [BitVec.getLsbD_extractLsb', decide_eq_true hi, Bool.true_and]
  unfold k0_pay7
  rw [bitcast_getLsbD (v := 8) w bitcasts_S32x128_w8_S8x128_w32 (ix2 ⟨a.val / 4, by omega⟩ l) (8 * (a.val % 4) + i) (by omega) (by decide)]
  have hrow : S8x128.row (ix2 (⟨a.val / 4, by omega⟩ : Fin 8) l) = a.val / 4 := rfl
  have hb : (S8x128.row (ix2 (⟨a.val / 4, by omega⟩ : Fin 8) l) * 32 + (8 * (a.val % 4) + i)) % 8 = i := by rw [hrow]; omega
  rw [hb]
  refine congrArg (fun j => (w j).getLsbD i) (funext fun b => ?_)
  match b with
  | ⟨0, _⟩ => exact Fin.ext (by show (S8x128.row (ix2 (⟨a.val / 4, by omega⟩ : Fin 8) l) * 32 + (8 * (a.val % 4) + i)) / 8 = a.val; rw [hrow]; omega)
  | ⟨1, _⟩ => exact Fin.ext rfl

theorem byte_word (x : IVec S8x128 32) (a : Fin 32) (l : Fin 128) :
    bitcast S32x128 8 x bitcasts_S8x128_w32_S32x128_w8 (ix2 a l) = (x (ix2 ⟨a.val / 4, by omega⟩ l)).extractLsb' (8 * (a.val % 4)) 8 := by
  apply BitVec.eq_of_getLsbD_eq
  intro i hi
  rw [BitVec.getLsbD_extractLsb', decide_eq_true hi, Bool.true_and]
  rw [bitcast_getLsbD (v := 32) x bitcasts_S8x128_w32_S32x128_w8 (ix2 a l) i hi (by decide)]
  have hrow : S32x128.row (ix2 a l) = a.val := rfl
  have hb : (S32x128.row (ix2 a l) * 8 + i) % 32 = 8 * (a.val % 4) + i := by rw [hrow]; omega
  rw [hb]
  refine congrArg (fun j => (x j).getLsbD (8 * (a.val % 4) + i)) (funext fun b => ?_)
  match b with
  | ⟨0, _⟩ => exact Fin.ext (by show (S32x128.row (ix2 a l) * 8 + i) / 32 = a.val / 4; rw [hrow]; omega)
  | ⟨1, _⟩ => exact Fin.ext rfl

/-! ### The code's value -/

theorem lane_par : ∀ l : Fin 128, (if IntOp.cmpi .eq (IntOp.andi (BitVec.ofNat 32 l.val) 1#32) 0#32 = 1#1 then (4#32 : BitVec 32) else 0#32) = if l.val % 2 = 0 then 4#32 else 0#32 := by decide +kernel

theorem codeV_read (v98 : IVec S8x128 32) (a : Fin 32) (l : Fin 128) :
    codeV v98 (ix2 a l) = wtv (nib ((v98 (ix2 ⟨a.val / 4, by omega⟩ l)).extractLsb' (8 * (a.val % 4)) 8).toNat l.val) := by
  have hsh : (select (cmpi .eq (andi laneV (broadcast S8x128 1#32)) (broadcast S8x128 0#32)) (broadcast S8x128 4#32) (broadcast S8x128 0#32) : IVec S8x128 32) (ix2 ⟨a.val / 4, by omega⟩ l)
      = if l.val % 2 = 0 then 4#32 else 0#32 := by
    show (if IntOp.cmpi .eq (IntOp.andi (laneV (ix2 _ l)) 1#32) 0#32 = 1#1 then (4#32 : BitVec 32) else 0#32) = _
    rw [lane_read]; exact lane_par l
  have hB : ∀ B : BitVec 8, B = BitVec.ofNat 8 (⟨B.toNat, B.isLt⟩ : Fin 256).val := fun B => by simp
  have key : ∀ (W s : BitVec 32), (s = if l.val % 2 = 0 then 4#32 else 0#32) →
      (IntOp.ori (IntOp.andi (IntOp.shli .vector W s) 2155905152#32) (IntOp.andi (IntOp.shrui .vector (IntOp.shli .vector W s) 3#32) 235802126#32)).extractLsb' (8 * (a.val % 4)) 8
        = pat (nib (W.extractLsb' (8 * (a.val % 4)) 8).toNat l.val) := by
    intro W s hs
    unfold nib
    rcases Nat.mod_two_eq_zero_or_one l.val with h | h
    · rw [if_pos h] at hs ⊢
      subst hs
      refine (byte_pat W _ (Nat.mod_lt _ (by omega))).trans ?_
      generalize W.extractLsb' (8 * (a.val % 4)) 8 = B
      have := pat_even ⟨B.toNat, B.isLt⟩
      rw [← hB B] at this
      exact this
    · rw [if_neg (by omega)] at hs ⊢
      subst hs
      have h0 : IntOp.shli .vector W 0#32 = W := by
        show W <<< (0#32) = W
        simp
      rw [h0]
      refine (byte_pat' W _ (Nat.mod_lt _ (by omega))).trans ?_
      generalize W.extractLsb' (8 * (a.val % 4)) 8 = B
      have := pat_odd ⟨B.toNat, B.isLt⟩
      rw [← hB B] at this
      exact this
  unfold codeV
  show Ideal.ofBits .fp8e5m2 (bitcast S32x128 8 _ bitcasts_S8x128_w32_S32x128_w8 (ix2 a l)) * Ideal.ofBits .bf16 0x4680#16 = _
  rw [byte_word]
  refine (congrArg (fun b => Ideal.ofBits .fp8e5m2 b * Ideal.ofBits .bf16 0x4680#16) (key _ _ hsh)).trans (pat_val _ ?_)
  have := ((v98 (ix2 ⟨a.val / 4, by omega⟩ l)).extractLsb' (8 * (a.val % 4)) 8).isLt
  unfold nib
  split <;> omega

/-! ### The scale -/

theorem half_read (x : IVec S8x128 32) (a : Fin 16) (l : Fin 128) :
    bitcast S16x128 16 x bitcasts_S8x128_w32_S16x128_w16 (ix2 a l) = (x (ix2 ⟨a.val / 2, by omega⟩ l)).extractLsb' (16 * (a.val % 2)) 16 := by
  refine (bitcast_32_16 x bitcasts_S8x128_w32_S16x128_w16 (ix2 a l)).trans ?_
  have hrow : S16x128.row (ix2 a l) = a.val := rfl
  show (x _).extractLsb' (16 * (a.val % 2)) 16 = _
  refine congrArg (fun j => (x j).extractLsb' (16 * (a.val % 2)) 16) (funext fun b => ?_)
  match b with
  | ⟨0, _⟩ => exact Fin.ext rfl
  | ⟨1, _⟩ => exact Fin.ext rfl

theorem scaleV_read (v : IVec S8x128 32) (a : Fin 32) (l : Fin 128) (s : ℕ) (hs : s < 256) (hv : ∀ r : Fin 8, v (ix2 r l) = BitVec.ofNat 32 s) :
    scaleV v (ix2 a l) = E8 s := by
  have h16 : ∀ b : Fin 16, (bitcastToFloat (F := Ideal) .bf16 (bitcast S16x128 16 (ori (shli v (broadcast S8x128 7#32)) (shli v (broadcast S8x128 23#32))) bitcasts_S8x128_w32_S16x128_w16) : FVec Ideal S16x128 .bf16) (ix2 b l) = E8 s := by
    intro b
    show Ideal.ofBits .bf16 (bitcast S16x128 16 _ bitcasts_S8x128_w32_S16x128_w16 (ix2 b l)) = _
    rw [half_read, ← bf_E8]
    refine congrArg (Ideal.ofBits .bf16) ?_
    show ((v (ix2 _ l) <<< 7) ||| (v (ix2 _ l) <<< 23)).extractLsb' _ 16 = _
    rw [hv]
    exact scale_half ⟨s, hs⟩ ⟨b.val % 2, Nat.mod_lt _ (by omega)⟩
  unfold scaleV
  by_cases ha : a.val < 16
  · refine (concatenate_pair_apply_left 0 _ _ concatenates_S16x128_S16x128_S32x128_d0 (ix2 a l) rfl (ix2 (⟨a.val, ha⟩ : Fin 16) l) fun b => ?_).trans (h16 _)
    match b with
    | ⟨0, _⟩ => rfl
    | ⟨1, _⟩ => rfl
  · refine (concatenate_pair_apply_right 0 _ _ concatenates_S16x128_S16x128_S32x128_d0 (ix2 a l) rfl rfl (ix2 (⟨a.val - 16, by omega⟩ : Fin 16) l) (fun b hb => ?_) ?_).trans (h16 _)
    · match b with
      | ⟨0, _⟩ => exact absurd rfl hb
      | ⟨1, _⟩ => rfl
    · show a.val - 16 + 16 = a.val; omega

/-! ### The decoded entry -/

/-- The wrapped lane number of a small non-negative number. -/
def wrapW (w : BitVec 32) : BitVec 32 := if IntOp.cmpi .slt w 0#32 = 1#1 then IntOp.addi w 128#32 else w

theorem lane_lo : ∀ l : Fin 128, (wrapW (IntOp.addi (IntOp.shrsi .vector (BitVec.ofNat 32 l.val) 1#32) 0#32)).toNat % 128 = l.val / 2 := by decide +kernel
theorem lane_hi : ∀ l : Fin 128, (wrapW (IntOp.addi (IntOp.shrsi .vector (BitVec.ofNat 32 l.val) 1#32) 64#32)).toNat % 128 = 64 + l.val / 2 := by decide +kernel
theorem lane_slo : ∀ (g : Fin 16) (l : Fin 128), (wrapW (IntOp.addi (IntOp.shrsi .vector (BitVec.ofNat 32 l.val) 5#32) (Scalar.addi (Scalar.muli 8#32 (BitVec.ofNat 32 g.val)) 0#32))).toNat % 128 = 8 * g.val + l.val / 32 := by decide +kernel
theorem lane_shi : ∀ (g : Fin 16) (l : Fin 128), (wrapW (IntOp.addi (IntOp.shrsi .vector (BitVec.ofNat 32 l.val) 5#32) (Scalar.addi (Scalar.muli 8#32 (BitVec.ofNat 32 g.val)) 4#32))).toNat % 128 = 8 * g.val + 4 + l.val / 32 := by decide +kernel

theorem pay8_read (srow : Vec Ideal S1x128 .i32) (r : Fin 8) (l : Fin 128) : k0_pay8 srow (ix2 r l) = srow (ix2 0 l) := by
  unfold k0_pay8; pointwise

theorem wentry_read (w : Vec Ideal S32x128 .i8) (srow : Vec Ideal S1x128 .i32) (v u : IVec S8x128 32) (a : Fin 32) (l m n : Fin 128) (s : ℕ) (hs : s < 256)
    (hm : ∀ r : Fin 8, (wrapW (v (ix2 r l))).toNat % 128 = m.val) (hn : ∀ r : Fin 8, (wrapW (u (ix2 r l))).toNat % 128 = n.val) (hsr : srow (ix2 0 n) = BitVec.ofNat 32 s) :
    mulf (codeV (dynamicGather 1 (k0_pay7 w) (wrapV v))) (scaleV (dynamicGather 1 (k0_pay8 srow) (wrapV u))) (ix2 a l)
      = wtv (nib (w (ix2 a m)).toNat l.val) * E8 s := by
  show codeV _ (ix2 a l) * scaleV _ (ix2 a l) = _
  rw [codeV_read, gath_read _ v _ l m (by rw [wrapV_read]; exact hm _), word_byte,
    scaleV_read _ a l s hs fun r => by rw [gath_read _ u r l n (by rw [wrapV_read]; exact hn r), pay8_read, hsr]]

theorem toNat8 (x : BitVec 8) : x.setWidth 32 = BitVec.ofNat 32 x.toNat := by
  apply BitVec.eq_of_toNat_eq
  have := x.isLt
  simp

/-- THE DECODED WEIGHT: the code in the packed byte at the row and half the column, times its block's power of two. -/
theorem dwTile_read (w : S512x2048.Idx → Elt Ideal .i8) (S : S448x128.Idx → Elt Ideal .i8) (kq : Fin 28) (a : Fin 512) (b : Fin 4096) :
    dwTile (F := Ideal) w (k0_pay105 S) kq a b
      = wtv (nib (w (ix2 a ⟨b.val / 2, by omega⟩)).toNat b.val) * E8 (S (ix2 ⟨16 * kq.val + a.val / 32, by have := kq.isLt; omega⟩ ⟨b.val / 32, by omega⟩)).toNat := by
  have hS : ∀ j, k0_pay105 (F := Ideal) S j = BitVec.ofNat 32 (S j).toNat := fun j => by
    unfold k0_pay105
    refine (congrFun (shapeCast_id _ _) j).trans (toNat8 _)
  have hk : kq.val < 28 := kq.isLt
  have hrow : ∀ n : Fin 128, n.val = b.val / 32 → scS (F := Ideal) (k0_pay105 S) kq ⟨16 * (b.val / 256) + a.val / 32, by omega⟩ (ix2 0 n)
      = BitVec.ofNat 32 (S (ix2 ⟨16 * kq.val + a.val / 32, by omega⟩ ⟨b.val / 32, by omega⟩)).toNat := by
    intro n hn
    unfold scS
    rw [hS]
    refine congrArg (fun j => BitVec.ofNat 32 (S j).toNat) (funext fun c => ?_)
    match c with
    | ⟨0, _⟩ => exact Fin.ext (by show 16 * kq.val + (16 * (b.val / 256) + a.val / 32) % 16 = 16 * kq.val + a.val / 32; omega)
    | ⟨1, _⟩ => exact Fin.ext hn
  have hw : ∀ m : Fin 128, 128 * (b.val / 256) + m.val = b.val / 2 → wcS (F := Ideal) w ⟨16 * (b.val / 256) + a.val / 32, by omega⟩ (ix2 (⟨a.val % 32, by omega⟩ : Fin 32) m)
      = w (ix2 a ⟨b.val / 2, by omega⟩) := by
    intro m hm
    unfold wcS
    refine congrArg w (funext fun c => ?_)
    match c with
    | ⟨0, _⟩ => exact Fin.ext (by show 32 * ((16 * (b.val / 256) + a.val / 32) % 16) + a.val % 32 = a.val; omega)
    | ⟨1, _⟩ => exact Fin.ext (by show 128 * ((16 * (b.val / 256) + a.val / 32) / 16) + m.val = b.val / 2; omega)
  have hnib : ∀ B, nib B (b.val % 128) = nib B b.val := fun B => by unfold nib; rw [show b.val % 128 % 2 = b.val % 2 by omega]
  unfold dwTile
  split
  · rename_i hb
    rw [dwLo_eq]
    refine (wentry_read _ _ _ _ (⟨a.val % 32, by omega⟩ : Fin 32) (⟨b.val % 128, by omega⟩ : Fin 128) (⟨b.val % 128 / 2, by omega⟩ : Fin 128) (⟨8 * (b.val / 256) + b.val % 128 / 32, by omega⟩ : Fin 128) _ (BitVec.isLt _)
      (fun r => by
        show (wrapW (IntOp.addi (IntOp.shrsi .vector (laneV (ix2 r _)) 1#32) 0#32)).toNat % 128 = _
        rw [lane_read]; exact lane_lo ⟨b.val % 128, by omega⟩) (fun r => by
        show (wrapW (IntOp.addi (IntOp.shrsi .vector (laneV (ix2 r _)) 5#32) (Scalar.addi (Scalar.muli 8#32 (BitVec.ofNat 32 (b.val / 256))) 0#32))).toNat % 128 = _
        rw [lane_read]; exact lane_slo ⟨b.val / 256, by omega⟩ ⟨b.val % 128, by omega⟩) (hrow _ (by show 8 * (b.val / 256) + b.val % 128 / 32 = b.val / 32; omega))).trans ?_
    rw [hw _ (by show 128 * (b.val / 256) + b.val % 128 / 2 = b.val / 2; omega)]
    show wtv (nib _ (b.val % 128)) * _ = _
    rw [hnib]
  · rename_i hb
    have hc : ∀ (v : FVec Ideal S32x128 .bf16) (x : Fin 32) (y : Fin 128), shapeCast S1x32x128 v shapeCasts_S32x128_S1x32x128 (ix3 0 x y) = v (ix2 x y) := fun v x y => by pointwise
    rw [dwHi_eq, hc]
    refine (wentry_read _ _ _ _ (⟨a.val % 32, by omega⟩ : Fin 32) (⟨b.val % 128, by omega⟩ : Fin 128) (⟨64 + b.val % 128 / 2, by omega⟩ : Fin 128) (⟨8 * (b.val / 256) + 4 + b.val % 128 / 32, by omega⟩ : Fin 128) _ (BitVec.isLt _)
      (fun r => by
        show (wrapW (IntOp.addi (IntOp.shrsi .vector (laneV (ix2 r _)) 1#32) 64#32)).toNat % 128 = _
        rw [lane_read]; exact lane_hi ⟨b.val % 128, by omega⟩) (fun r => by
        show (wrapW (IntOp.addi (IntOp.shrsi .vector (laneV (ix2 r _)) 5#32) (Scalar.addi (Scalar.muli 8#32 (BitVec.ofNat 32 (b.val / 256))) 4#32))).toNat % 128 = _
        rw [lane_read]; exact lane_shi ⟨b.val / 256, by omega⟩ ⟨b.val % 128, by omega⟩) (hrow _ (by show 8 * (b.val / 256) + 4 + b.val % 128 / 32 = b.val / 32; omega))).trans ?_
    rw [hw _ (by show 128 * (b.val / 256) + (64 + b.val % 128 / 2) = b.val / 2; omega)]
    show wtv (nib _ (b.val % 128)) * _ = _
    rw [hnib]

end Cert.KernelIdeal.Gen

end
-- ==== Proof.Scales.lean ====
/- What the quantising loop leaves of the scale bytes: sixteen columns of words for a step, gathered from the tile's four slices. -/
module

public import proofs.«01_k».proof.Proof.Quant
public import proofs.«01_k».proof.Proof.DVal

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI

open Idealize.ShloMosaic.Pointwise

variable {F : FTy → Type} [FloatOps F]

/-- A slice's scale bytes, four to a word. -/
def sbW (x : Vec F S32x128 .bf16) : IVec S8x128 32 := k0_pay35 (k0_pay21 (k0_pay19 (k0_pay16 x) k0_pay17 k0_pay18) k0_pay20)

/-- The lanes numbered `n` in their group of 32 from one block of words, the others from the other. -/
def selV (n : BitVec 32) (z y : IVec S8x128 32) : IVec S8x128 32 :=
  select (cmpi .eq (andi laneV (broadcast S8x128 31#32)) (broadcast S8x128 n)) z y

/-- The lane a step's scale is gathered from. -/
def zLane : IVec S8x128 32 :=
  ori (shli (andi laneV (broadcast S8x128 3#32)) (broadcast S8x128 5#32)) (andi (shrsi laneV (broadcast S8x128 2#32)) (broadcast S8x128 3#32))

/-- Four slices' scale bytes, a lane to each block. -/
def zV (x0 x1 x2 x3 : Vec F S32x128 .bf16) : IVec S8x128 32 :=
  dynamicGather 1 (selV 3#32 (sbW x3) (selV 2#32 (sbW x2) (selV 1#32 (sbW x1) (sbW x0)))) (wrapV zLane)

/-- The group of sixteen lanes that a step's scales go to. -/
def slotW (v30 c16 v31 v33 : BitVec 32) (v34 : BitVec 1) : BitVec 32 :=
  Scalar.select (Scalar.andi (Scalar.cmpi .ne (Scalar.subi v33 (Scalar.extui v34)) (Scalar.subi (Scalar.extui (Scalar.cmpi .sgt c16 0#32)) (Scalar.extui (Scalar.cmpi .slt c16 0#32))))
    (Scalar.cmpi .ne (Scalar.remsi v30 c16) 0#32)) (Scalar.subi v31 1#32) v31

/-- The words stored: the step's in its group of lanes, what was there in the others. -/
def putV (s : BitVec 32) (z old : IVec S8x128 32) : IVec S8x128 32 :=
  shapeCast S8x128 (select (cmpi .eq (select k0_pay104 (subi k0_pay103 (broadcast S8x128 1#32)) k0_pay103) (broadcast S8x128 s)) z old) shapeCasts_S8x128_S8x128

/-- Whether a lane is in a group of sixteen, as the program finds it. -/
def grpC (v s : BitVec 32) : BitVec 1 :=
  IntOp.cmpi .eq (if IntOp.andi (IntOp.cmpi .ne (IntOp.subi ((IntOp.cmpi .sgt v 0#32).setWidth 32) ((IntOp.cmpi .slt v 0#32).setWidth 32))
        (Scalar.subi (Scalar.extui (Scalar.cmpi .sgt 16#32 0#32)) (Scalar.extui (Scalar.cmpi .slt 16#32 0#32))))
      (IntOp.cmpi .ne (IntOp.remsi .vector v 16#32) 0#32) = 1#1 then IntOp.subi (IntOp.divsi .vector v 16#32) 1#32 else IntOp.divsi .vector v 16#32) s

theorem lane_group : ∀ (l : Fin 128) (s : Fin 8), grpC (BitVec.ofNat 32 l.val) (BitVec.ofNat 32 s.val) = 1#1 ↔ l.val / 16 = s.val := by decide +kernel

theorem putV_read (s : Fin 8) (z old : IVec S8x128 32) (r : Fin 8) (l : Fin 128) :
    putV (BitVec.ofNat 32 s.val) z old (ix2 r l) = if l.val / 16 = s.val then z (ix2 r l) else old (ix2 r l) := by
  have h := lane_group l s
  unfold putV k0_pay104 k0_pay103
  rw [← lane_read r l] at h
  rw [shapeCast_id]
  generalize BitVec.ofNat 32 s.val = sw at h ⊢
  show (if grpC (laneV (ix2 r l)) sw = 1#1 then z (ix2 r l) else old (ix2 r l)) = _
  exact if_congr h rfl rfl

/-- A step's row of grid as a coordinate. -/
def coordOf (n : Fin 337) : grid0.Coords := fun a => match a with | ⟨0, _⟩ => n

/-- The group of lanes of a step, as the words that the program passes to the loop. -/
def slotI (i : grid0.Coords) : BitVec 32 :=
  let v29 : BitVec 32 := Scalar.muli (Scalar.remsi (Scalar.minsi (BitVec.ofNat 32 (i 0).val) 335#32) 28#32) 16#32
  let v30 : BitVec 32 := Scalar.remsi v29 128#32
  slotW v30 16#32 (Scalar.divsi v30 16#32) (Scalar.extui (Scalar.cmpi .sgt v30 0#32)) (Scalar.cmpi .slt v30 0#32)

theorem slotI_at : ∀ n : Fin 337, slotI (coordOf n) = BitVec.ofNat 32 (min n.val 335 % 28 % 8) := by decide +kernel

theorem coordOf_eq (i : grid0.Coords) : i = coordOf (i 0) := funext fun a => match a with | ⟨0, _⟩ => rfl

theorem slotI_eq (i : grid0.Coords) : slotI i = BitVec.ofNat 32 ((kqOf i).val % 8) := by
  have h := slotI_at (i 0)
  rw [← coordOf_eq] at h
  exact h

theorem k0_off17_col : ∀ (n : Fin 337) (k : Fin k0_t3_loop.trips), k0_off17 (coordOf n) k 1 = 128 * (min n.val 335 % 28 / 8) := by decide +kernel

theorem k0_off17_row : ∀ (n : Fin 337) (k : Fin k0_t3_loop.trips), k0_off17 (coordOf n) k 0 = 8 * k.val := by decide +kernel

theorem k0_off17_eq (i : grid0.Coords) (k : Fin k0_t3_loop.trips) : k0_off17 i k = ![8 * k.val, 128 * ((kqOf i).val / 8)] := by
  have h0 := k0_off17_row (i 0) k
  have h1 := k0_off17_col (i 0) k
  rw [← coordOf_eq] at h0 h1
  funext a
  match a with
  | ⟨0, _⟩ => exact h0
  | ⟨1, _⟩ => exact h1

/-- The scale words of a tile of rows and 512 columns, at a row of words and a lane. -/
def zTile (x : S1024x512.Idx → Elt F .bf16) (w : Fin 256) (l : Fin 128) : BitVec 32 :=
  zV (F := F) (sl x ⟨w.val / 8, by omega⟩ 0) (sl x ⟨w.val / 8, by omega⟩ 1) (sl x ⟨w.val / 8, by omega⟩ 2) (sl x ⟨w.val / 8, by omega⟩ 3) (ix2 ⟨w.val % 8, by omega⟩ l)

variable (𝒱 : Variants) (c : Dev nD) (bd : Option 𝒱.V) (i : grid0.Coords) (arg1 : Memref sig .tc .vmem S1024x512 .bf16) (harg1 : arg1.IsWhole) (arg2 : Memref sig .tc .vmem S1024x512 .i32) (harg2 : arg2.IsWhole) (arg3 : Memref sig .tc .vmem S512x2048 .i8) (harg3 : arg3.IsWhole) (arg4 : Memref sig .tc .vmem S448x128 .i8) (harg4 : arg4.IsWhole) (arg5 : Memref sig .tc .vmem S1024x4096 .bf16) (harg5 : arg5.IsWhole) (arg6 : Memref sig .tc .vmem S1024x256 .i8) (harg6 : arg6.IsWhole) (arg7 : Memref sig .tc .vmem S1024x448 .i8) (harg7 : arg7.IsWhole) (arg8 : Memref sig .tc .vmem S1024x4096 .f32) (harg8 : arg8.IsWhole) (arg9 : Memref sig .tc .vmem S2x1024x512 .bf16) (harg9 : arg9.IsWhole) (arg10 : Memref sig .tc .vmem S2x512x4096 .bf16) (harg10 : arg10.IsWhole) (arg11 : Memref sig .tc .vmem S448x128 .i32) (harg11 : arg11.IsWhole) (arg12 : Memref sig .tc .vmem S256x512 .i32) (harg12 : arg12.IsWhole) (v5 : BitVec 32) (v28 : BitVec 32) (v30 : BitVec 32) (c16_i32_13 : BitVec 32) (v31 : BitVec 32) (v33 : BitVec 32) (v34 : BitVec 1) (X_arg1 : BufTy.Contents (Elt F) arg1.view.ty) (X_arg2 : BufTy.Contents (Elt F) arg2.view.ty)

theorem trip3_scales (k : Fin k0_t3_loop.trips) (f6 f9 f12) : (trip_k0_t3 (F := F) 𝒱 c bd i arg1 harg1 arg2 harg2 arg3 harg3 arg4 harg4 arg5 harg5 arg6 harg6 arg7 harg7 arg8 harg8 arg9 harg9 arg10 harg10 arg11 harg11 arg12 harg12 v5 v28 v30 c16_i32_13 v31 v33 v34 X_arg1 X_arg2 k).2.2.1 f6 f9 f12 =
    [⟨Rect.unit (s := S256x512) (k0_off17 i k) S8x128.size (k0_off17_inb i k), putV (slotW v30 c16_i32_13 v31 v33 v34) (zV (F := F) (View.readAt (Elt F) arg1.view (Rect.unit (s := S1024x512) (k0_off7 k) S32x128.size (k0_off7_inb k)).toLoadRect X_arg1) (View.readAt (Elt F) arg1.view (Rect.unit (s := S1024x512) (k0_off9 k) S32x128.size (k0_off9_inb k)).toLoadRect X_arg1) (View.readAt (Elt F) arg1.view (Rect.unit (s := S1024x512) (k0_off12 k) S32x128.size (k0_off12_inb k)).toLoadRect X_arg1) (View.readAt (Elt F) arg1.view (Rect.unit (s := S1024x512) (k0_off14 k) S32x128.size (k0_off14_inb k)).toLoadRect X_arg1))
      (View.readAt (Elt F) arg12.view (Rect.unit (s := S256x512) (k0_off17 i k) S8x128.size (k0_off17_inb i k)).toLoadRect f12)⟩] := by
  unfold trip_k0_t3
  dsimp only
  congr 1

variable (G_arg6 : BufTy.Contents (Elt F) arg6.view.ty) (G_arg9 : BufTy.Contents (Elt F) arg9.view.ty) (G_arg12 : BufTy.Contents (Elt F) arg12.view.ty)

/-- After `n` trips the scale words hold the step's in their first `8 n` rows, and are as found elsewhere. -/
theorem scales_read (hs : slotW v30 c16_i32_13 v31 v33 v34 = BitVec.ofNat 32 ((kqOf i).val % 8)) (n : ℕ) (hn : n ≤ 32) (w : Fin 256) (b : Fin 512) :
    arg12.view.read (Elt F) (arg12.view.writes (Elt F) G_arg12 (pb_k0_t3 (F := F) 𝒱 c bd i arg1 harg1 arg2 harg2 arg3 harg3 arg4 harg4 arg5 harg5 arg6 harg6 arg7 harg7 arg8 harg8 arg9 harg9 arg10 harg10 arg11 harg11 arg12 harg12 v5 v28 v30 c16_i32_13 v31 v33 v34 X_arg1 X_arg2 G_arg6 G_arg9 G_arg12 n).2.2) (ix2 w b)
      = if w.val < 8 * n ∧ b.val / 16 = (kqOf i).val then zTile (arg1.view.read (Elt F) X_arg1) w ⟨b.val % 128, by omega⟩
        else arg12.view.read (Elt F) G_arg12 (ix2 w b) := by
  have hkq := (kqOf i).isLt
  induction n generalizing w b with
  | zero => rw [if_neg (by omega)]; rfl
  | succ n ih =>
    have hk : n < k0_t3_loop.trips := by have : k0_t3_loop.trips = 32 := by decide +kernel
                                         omega
    rw [pb_k0_t3_succ (F := F) 𝒱 c bd i arg1 harg1 arg2 harg2 arg3 harg3 arg4 harg4 arg5 harg5 arg6 harg6 arg7 harg7 arg8 harg8 arg9 harg9 arg10 harg10 arg11 harg11 arg12 harg12 v5 v28 v30 c16_i32_13 v31 v33 v34 X_arg1 X_arg2 G_arg6 G_arg9 G_arg12 ⟨n, hk⟩]
    show arg12.view.read (Elt F) (arg12.view.writes (Elt F) G_arg12 ((trip_k0_t3 (F := F) 𝒱 c bd i arg1 harg1 arg2 harg2 arg3 harg3 arg4 harg4 arg5 harg5 arg6 harg6 arg7 harg7 arg8 harg8 arg9 harg9 arg10 harg10 arg11 harg11 arg12 harg12 v5 v28 v30 c16_i32_13 v31 v33 v34 X_arg1 X_arg2 ⟨n, hk⟩).2.2.1 _ _ (arg12.view.writes (Elt F) G_arg12 (pb_k0_t3 (F := F) 𝒱 c bd i arg1 harg1 arg2 harg2 arg3 harg3 arg4 harg4 arg5 harg5 arg6 harg6 arg7 harg7 arg8 harg8 arg9 harg9 arg10 harg10 arg11 harg11 arg12 harg12 v5 v28 v30 c16_i32_13 v31 v33 v34 X_arg1 X_arg2 G_arg6 G_arg9 G_arg12 n).2.2)
      ++ (pb_k0_t3 (F := F) 𝒱 c bd i arg1 harg1 arg2 harg2 arg3 harg3 arg4 harg4 arg5 harg5 arg6 harg6 arg7 harg7 arg8 harg8 arg9 harg9 arg10 harg10 arg11 harg11 arg12 harg12 v5 v28 v30 c16_i32_13 v31 v33 v34 X_arg1 X_arg2 G_arg6 G_arg9 G_arg12 n).2.2)) (ix2 w b) = _
    rw [trip3_scales, List.cons_append, List.nil_append]
    rw [readAt_sl arg1 X_arg1 _ _ ⟨n, by omega⟩ 3 (k0_off14_eq ⟨n, hk⟩), readAt_sl arg1 X_arg1 _ _ ⟨n, by omega⟩ 2 (k0_off12_eq ⟨n, hk⟩),
      readAt_sl arg1 X_arg1 _ _ ⟨n, by omega⟩ 1 (k0_off9_eq ⟨n, hk⟩), readAt_sl arg1 X_arg1 _ _ ⟨n, by omega⟩ 0 (k0_off7_eq ⟨n, hk⟩), hs]
    by_cases h1 : w.val < 8 * n
    · rw [View.read_writes_cons_unit_of_not_mem (size := S8x128.size) arg12.view G_arg12 _ _ _ (ix2 w b) (k0_off17_eq i ⟨n, hk⟩) 0 (Or.inl h1), ih (by omega)]
      exact if_congr ⟨fun h => ⟨by omega, h.2⟩, fun h => ⟨h1, h.2⟩⟩ rfl rfl
    by_cases h2 : 8 * n + 8 ≤ w.val
    · rw [View.read_writes_cons_unit_of_not_mem (size := S8x128.size) arg12.view G_arg12 _ _ _ (ix2 w b) (k0_off17_eq i ⟨n, hk⟩) 0 (Or.inr h2), ih (by omega)]
      rw [if_neg (by omega), if_neg (by omega)]
    by_cases h3 : b.val / 128 = (kqOf i).val / 8
    · have hw : w.val - 8 * n < 8 := by omega
      have hl : b.val - 128 * ((kqOf i).val / 8) < 128 := by omega
      rw [View.read_writes_cons_unit_of_mem (size := S8x128.size) arg12.view G_arg12 _ _ _ (ix2 w b) (ix2 ⟨w.val - 8 * n, hw⟩ ⟨b.val - 128 * ((kqOf i).val / 8), hl⟩ : S8x128.Idx) (k0_off17_eq i ⟨n, hk⟩)
        (fun d => match d with
          | ⟨0, _⟩ => by show w.val = 8 * n + (w.val - 8 * n); omega
          | ⟨1, _⟩ => by show b.val = 128 * ((kqOf i).val / 8) + (b.val - 128 * ((kqOf i).val / 8)); omega)]
      refine (putV_read ⟨(kqOf i).val % 8, by omega⟩ _ _ ⟨w.val - 8 * n, hw⟩ ⟨b.val - 128 * ((kqOf i).val / 8), hl⟩).trans ?_
      have hiff : (b.val - 128 * ((kqOf i).val / 8)) / 16 = (kqOf i).val % 8 ↔ b.val / 16 = (kqOf i).val := by omega
      by_cases h4 : b.val / 16 = (kqOf i).val
      · rw [if_pos (hiff.mpr h4), if_pos ⟨by omega, h4⟩]
        unfold zTile
        have e1 : (⟨w.val / 8, by omega⟩ : Fin 32) = ⟨n, by omega⟩ := Fin.ext (by show w.val / 8 = n; omega)
        have e2 : (⟨w.val % 8, by omega⟩ : Fin 8) = ⟨w.val - 8 * n, hw⟩ := Fin.ext (by show w.val % 8 = w.val - 8 * n; omega)
        have e3 : (⟨b.val % 128, by omega⟩ : Fin 128) = ⟨b.val - 128 * ((kqOf i).val / 8), hl⟩ := Fin.ext (by show b.val % 128 = b.val - 128 * ((kqOf i).val / 8); omega)
        rw [e1, e2, e3]
      · rw [if_neg (fun h => h4 (hiff.mp h)), if_neg (fun h => h4 h.2)]
        refine (readAt_val arg12.view _ _ (k0_off17_eq i ⟨n, hk⟩) _ (ix2 w b) fun d => ?_).trans ?_
        · match d with
          | ⟨0, _⟩ => show w.val = 8 * n + (w.val - 8 * n); omega
          | ⟨1, _⟩ => show b.val = 128 * ((kqOf i).val / 8) + (b.val - 128 * ((kqOf i).val / 8)); omega
        · rw [ih (by omega), if_neg (fun h => h4 h.2)]
    · have out : b.val < 128 * ((kqOf i).val / 8) ∨ 128 * ((kqOf i).val / 8) + 128 ≤ b.val := by omega
      rw [View.read_writes_cons_unit_of_not_mem (size := S8x128.size) arg12.view G_arg12 _ _ _ (ix2 w b) (k0_off17_eq i ⟨n, hk⟩) 1 out, ih (by omega)]
      rw [if_neg (by omega), if_neg (by omega)]

end Cert.KernelIdeal.Gen

end
-- ==== Proof.Column.lean ====
/- What the product loop leaves in the accumulator and in the result's block: every column tile's sum. -/
module

public import proofs.«01_k».proof.Proof.Gen.KernelIdeal
public import proofs.«01_k».proof.Proof.Gen.KernelIdeal.Skeleton
public import proofs.«01_k».proof.Proof.Gen.KernelIdeal.Loops
public import Idealize.ShloMosaic.Lib.WritesUnit
public import Idealize.ShloMosaic.Lib.ValueIdx
public import Idealize.ShloMosaic.Lib.Pointwise

public import proofs.«01_k».proof.Proof.ReadAt

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI

variable {F : FTy → Type} [FloatOps F]

/-- One slot of the dequantised scratch. -/
def qSlot {α : Type} (Q : S2x1024x512.Idx → α) (s : Fin 2) : S1x1024x512.Idx → α := fun j => Q (ix3 s (j 1) (j 2))
/-- One slot, 256 columns, of the decoded scratch. -/
def wSlot {α : Type} (W : S2x512x4096.Idx → α) (s : Fin 2) (n : Fin 16) : S1x512x256.Idx → α := fun j =>
  W (ix3 s (j 1) ⟨256 * n.val + (j 2).val, by have : (j 2).val < 256 := (j 2).isLt; have := n.isLt; omega⟩)
/-- 256 columns of the accumulator. -/
def aCols {α : Type} (A : S1024x4096.Idx → α) (n : Fin 16) : S1024x256.Idx → α := fun j =>
  A (ix2 (j 0) ⟨256 * n.val + (j 1).val, by have : (j 1).val < 256 := (j 1).isLt; have := n.isLt; omega⟩)

/-- The sum the loop leaves at a row and column. -/
def colVal (v4 : BitVec 32) (s : Fin 2) (Q : S2x1024x512.Idx → Elt F .bf16) (W : S2x512x4096.Idx → Elt F .bf16)
    (A : S1024x4096.Idx → Elt F .f32) (a : Fin 1024) (b : Fin 4096) : F .f32 :=
  k0_pay1 (F := F) v4 (qSlot Q s) (wSlot W s ⟨b.val / 256, by omega⟩) (aCols A ⟨b.val / 256, by omega⟩)
    (ix2 a ⟨b.val % 256, by omega⟩)

variable (𝒱 : Variants) (c : Dev nD) (bd : Option 𝒱.V) (i : grid0.Coords) (arg1 : Memref sig .tc .vmem S1024x512 .bf16) (harg1 : arg1.IsWhole) (arg2 : Memref sig .tc .vmem S1024x512 .i32) (harg2 : arg2.IsWhole) (arg3 : Memref sig .tc .vmem S512x2048 .i8) (harg3 : arg3.IsWhole) (arg4 : Memref sig .tc .vmem S448x128 .i8) (harg4 : arg4.IsWhole) (arg5 : Memref sig .tc .vmem S1024x4096 .bf16) (harg5 : arg5.IsWhole) (arg6 : Memref sig .tc .vmem S1024x256 .i8) (harg6 : arg6.IsWhole) (arg7 : Memref sig .tc .vmem S1024x448 .i8) (harg7 : arg7.IsWhole) (arg8 : Memref sig .tc .vmem S1024x4096 .f32) (harg8 : arg8.IsWhole) (arg9 : Memref sig .tc .vmem S2x1024x512 .bf16) (harg9 : arg9.IsWhole) (arg10 : Memref sig .tc .vmem S2x512x4096 .bf16) (harg10 : arg10.IsWhole) (arg11 : Memref sig .tc .vmem S448x128 .i32) (harg11 : arg11.IsWhole) (arg12 : Memref sig .tc .vmem S256x512 .i32) (harg12 : arg12.IsWhole) (v4 : BitVec 32) (X_arg9 : BufTy.Contents (Elt F) arg9.view.ty) (X_arg10 : BufTy.Contents (Elt F) arg10.view.ty)

/-- The offset's first coordinate as a slot. -/
def oldSlot (i : grid0.Coords) : Fin 2 := ⟨((i 0).val + 1) % 2, Nat.mod_lt _ (by omega)⟩
/-- The slot a step writes. -/
def newSlot (i : grid0.Coords) : Fin 2 := ⟨(i 0).val % 2, Nat.mod_lt _ (by omega)⟩

theorem readAt_q (arg : Memref sig .tc .vmem S2x1024x512 .bf16) (X : BufTy.Contents (Elt F) arg.view.ty) (inb) :
    View.readAt (Elt F) arg.view (Rect.unit (s := S2x1024x512) (k0_off1 i) S1x1024x512.size inb).toLoadRect X
      = qSlot (arg.view.read (Elt F) X) (oldSlot i) := by
  funext j
  refine readAt_val arg.view X inb (k0_off1_eq i) j _ fun a => ?_
  have h0 : (j 0).val = 0 := Nat.lt_one_iff.mp (show (j 0).val < 1 from (j 0).isLt)
  match a with
  | ⟨0, _⟩ => show ((i 0).val + 1) % 2 = ((i 0).val + 1) % 2 + (j 0).val; omega
  | ⟨1, _⟩ => show (j 1).val = 0 + (j 1).val; omega
  | ⟨2, _⟩ => show (j 2).val = 0 + (j 2).val; omega

theorem readAt_w (arg : Memref sig .tc .vmem S2x512x4096 .bf16) (X : BufTy.Contents (Elt F) arg.view.ty) (k : Fin k0_t1_loop.trips) (hk : k.val < 16) (inb) :
    View.readAt (Elt F) arg.view (Rect.unit (s := S2x512x4096) (k0_off2 i k) S1x512x256.size inb).toLoadRect X
      = wSlot (arg.view.read (Elt F) X) (oldSlot i) ⟨k.val, hk⟩ := by
  funext j
  refine readAt_val arg.view X inb (k0_off2_eq i k) j _ fun a => ?_
  have h0 : (j 0).val = 0 := Nat.lt_one_iff.mp (show (j 0).val < 1 from (j 0).isLt)
  match a with
  | ⟨0, _⟩ => show ((i 0).val + 1) % 2 = ((i 0).val + 1) % 2 + (j 0).val; omega
  | ⟨1, _⟩ => show (j 1).val = 0 + (j 1).val; omega
  | ⟨2, _⟩ => show 256 * k.val + (j 2).val = 256 * k.val + (j 2).val; rfl

theorem readAt_a (arg : Memref sig .tc .vmem S1024x4096 .f32) (X : BufTy.Contents (Elt F) arg.view.ty) (k : Fin k0_t1_loop.trips) (hk : k.val < 16) (inb) :
    View.readAt (Elt F) arg.view (Rect.unit (s := S1024x4096) (k0_off3 k) S1024x256.size inb).toLoadRect X
      = aCols (arg.view.read (Elt F) X) ⟨k.val, hk⟩ := by
  funext j
  refine readAt_val arg.view X inb (k0_off3_eq k) j _ fun a => ?_
  match a with
  | ⟨0, _⟩ => show (j 0).val = 0 + (j 0).val; omega
  | ⟨1, _⟩ => rfl

theorem trip1_pieces5 (k : Fin k0_t1_loop.trips) (hk : k.val < 16) (f5 f8) : (trip_k0_t1 (F := F) 𝒱 c bd i arg1 harg1 arg2 harg2 arg3 harg3 arg4 harg4 arg5 harg5 arg6 harg6 arg7 harg7 arg8 harg8 arg9 harg9 arg10 harg10 arg11 harg11 arg12 harg12 v4 X_arg9 X_arg10 k).1 f5 f8 =
    [⟨Rect.unit (s := S1024x4096) (k0_off3 k) S1024x256.size (k0_off3_inb k),
      k0_pay3 v4 (qSlot (arg9.view.read (Elt F) X_arg9) (oldSlot i)) (wSlot (arg10.view.read (Elt F) X_arg10) (oldSlot i) ⟨k.val, hk⟩) (aCols (arg8.view.read (Elt F) f8) ⟨k.val, hk⟩)⟩] := by
  rw [← readAt_q i arg9 X_arg9 (k0_off1_inb i), ← readAt_w i arg10 X_arg10 k hk (k0_off2_inb i k), ← readAt_a arg8 f8 k hk (k0_off3_inb k)]
  unfold trip_k0_t1
  rfl

theorem trip1_pieces8 (k : Fin k0_t1_loop.trips) (hk : k.val < 16) (f5 f8) : (trip_k0_t1 (F := F) 𝒱 c bd i arg1 harg1 arg2 harg2 arg3 harg3 arg4 harg4 arg5 harg5 arg6 harg6 arg7 harg7 arg8 harg8 arg9 harg9 arg10 harg10 arg11 harg11 arg12 harg12 v4 X_arg9 X_arg10 k).2.1 f5 f8 =
    [⟨Rect.unit (s := S1024x4096) (k0_off3 k) S1024x256.size (k0_off3_inb k),
      k0_pay2 v4 (qSlot (arg9.view.read (Elt F) X_arg9) (oldSlot i)) (wSlot (arg10.view.read (Elt F) X_arg10) (oldSlot i) ⟨k.val, hk⟩) (aCols (arg8.view.read (Elt F) f8) ⟨k.val, hk⟩)⟩] := by
  rw [← readAt_q i arg9 X_arg9 (k0_off1_inb i), ← readAt_w i arg10 X_arg10 k hk (k0_off2_inb i k), ← readAt_a arg8 f8 k hk (k0_off3_inb k)]
  unfold trip_k0_t1
  rfl

variable (G_arg5 : BufTy.Contents (Elt F) arg5.view.ty) (G_arg8 : BufTy.Contents (Elt F) arg8.view.ty)

theorem k0_pay2_eq (v4 : BitVec 32) (v57 : Vec F S1x1024x512 .bf16) (v61 : Vec F S1x512x256 .bf16) (v66 : Vec F S1024x256 .f32) :
    k0_pay2 v4 v57 v61 v66 = k0_pay1 v4 v57 v61 v66 := by
  funext j
  unfold k0_pay2
  rw [eq_ix2 j]
  pointwise

/-- After `n` trips the accumulator holds the sums of its first `256 n` columns, and the entry contents beyond. -/
theorem col_read8 (n : ℕ) (hn : n ≤ 16) (a : Fin 1024) (b : Fin 4096) :
    arg8.view.read (Elt F) (arg8.view.writes (Elt F) G_arg8 (pb_k0_t1 (F := F) 𝒱 c bd i arg1 harg1 arg2 harg2 arg3 harg3 arg4 harg4 arg5 harg5 arg6 harg6 arg7 harg7 arg8 harg8 arg9 harg9 arg10 harg10 arg11 harg11 arg12 harg12 v4 X_arg9 X_arg10 G_arg5 G_arg8 n).2) (ix2 a b)
      = if b.val < 256 * n then colVal v4 (oldSlot i) (arg9.view.read (Elt F) X_arg9) (arg10.view.read (Elt F) X_arg10) (arg8.view.read (Elt F) G_arg8) a b
        else arg8.view.read (Elt F) G_arg8 (ix2 a b) := by
  induction n generalizing a b with
  | zero => rw [if_neg (by omega)]; rfl
  | succ n ih =>
    have hk : n < k0_t1_loop.trips := by have : k0_t1_loop.trips = 16 := by decide +kernel
                                         omega
    rw [pb_k0_t1_succ (F := F) 𝒱 c bd i arg1 harg1 arg2 harg2 arg3 harg3 arg4 harg4 arg5 harg5 arg6 harg6 arg7 harg7 arg8 harg8 arg9 harg9 arg10 harg10 arg11 harg11 arg12 harg12 v4 X_arg9 X_arg10 G_arg5 G_arg8 ⟨n, hk⟩]
    show arg8.view.read (Elt F) (arg8.view.writes (Elt F) G_arg8 ((trip_k0_t1 (F := F) 𝒱 c bd i arg1 harg1 arg2 harg2 arg3 harg3 arg4 harg4 arg5 harg5 arg6 harg6 arg7 harg7 arg8 harg8 arg9 harg9 arg10 harg10 arg11 harg11 arg12 harg12 v4 X_arg9 X_arg10 ⟨n, hk⟩).2.1 _ _
      ++ (pb_k0_t1 (F := F) 𝒱 c bd i arg1 harg1 arg2 harg2 arg3 harg3 arg4 harg4 arg5 harg5 arg6 harg6 arg7 harg7 arg8 harg8 arg9 harg9 arg10 harg10 arg11 harg11 arg12 harg12 v4 X_arg9 X_arg10 G_arg5 G_arg8 n).2)) (ix2 a b) = _
    rw [trip1_pieces8 (F := F) 𝒱 c bd i arg1 harg1 arg2 harg2 arg3 harg3 arg4 harg4 arg5 harg5 arg6 harg6 arg7 harg7 arg8 harg8 arg9 harg9 arg10 harg10 arg11 harg11 arg12 harg12 v4 X_arg9 X_arg10 ⟨n, hk⟩ (by show n < 16; omega), List.cons_append, List.nil_append]
    by_cases hlt : b.val < 256 * n
    · rw [View.read_writes_cons_unit_of_not_mem (size := S1024x256.size) arg8.view G_arg8 _ _ _ (ix2 a b) (k0_off3_eq ⟨n, hk⟩) 1 (Or.inl hlt)]
      rw [ih (by omega), if_pos hlt, if_pos (by omega)]
    by_cases hge : 256 * n + 256 ≤ b.val
    · rw [View.read_writes_cons_unit_of_not_mem (size := S1024x256.size) arg8.view G_arg8 _ _ _ (ix2 a b) (k0_off3_eq ⟨n, hk⟩) 1 (Or.inr hge)]
      rw [ih (by omega), if_neg hlt, if_neg (by omega)]
    rw [View.read_writes_cons_unit_of_mem (size := S1024x256.size) arg8.view G_arg8 _ _ _ (ix2 a b) (ix2 a ⟨b.val - 256 * n, by omega⟩) (k0_off3_eq ⟨n, hk⟩) (fun d => match d with
          | ⟨0, _⟩ => by show a.val = 0 + a.val; omega
          | ⟨1, _⟩ => by show b.val = 256 * n + (b.val - 256 * n); omega)]
    rw [if_pos (by omega), k0_pay2_eq]
    unfold colVal
    have e1 : (⟨b.val / 256, by omega⟩ : Fin 16) = ⟨n, by omega⟩ := Fin.ext (by show b.val / 256 = n; omega)
    have e2 : (⟨b.val % 256, by omega⟩ : Fin 256) = ⟨b.val - 256 * n, by omega⟩ := Fin.ext (by show b.val % 256 = b.val - 256 * n; omega)
    rw [e1, e2]
    congr 1
    funext j
    unfold aCols
    have hj : (j 1).val < 256 := (j 1).isLt
    exact (ih (by omega) (j 0) ⟨256 * n + (j 1).val, by omega⟩).trans (if_neg (by show ¬ 256 * n + (j 1).val < 256 * n; omega))

/-- After `n` trips the result's block holds the (narrowed) sums of its first `256 n` columns. -/
theorem col_read5 (n : ℕ) (hn : n ≤ 16) (a : Fin 1024) (b : Fin 4096) (hb : b.val < 256 * n) :
    arg5.view.read (Elt F) (arg5.view.writes (Elt F) G_arg5 (pb_k0_t1 (F := F) 𝒱 c bd i arg1 harg1 arg2 harg2 arg3 harg3 arg4 harg4 arg5 harg5 arg6 harg6 arg7 harg7 arg8 harg8 arg9 harg9 arg10 harg10 arg11 harg11 arg12 harg12 v4 X_arg9 X_arg10 G_arg5 G_arg8 n).1) (ix2 a b)
      = FloatOps.truncf .bf16 bitsLt_bf16_f32 (colVal v4 (oldSlot i) (arg9.view.read (Elt F) X_arg9) (arg10.view.read (Elt F) X_arg10) (arg8.view.read (Elt F) G_arg8) a b) := by
  induction n generalizing a b with
  | zero => omega
  | succ n ih =>
    have hk : n < k0_t1_loop.trips := by have : k0_t1_loop.trips = 16 := by decide +kernel
                                         omega
    rw [pb_k0_t1_succ (F := F) 𝒱 c bd i arg1 harg1 arg2 harg2 arg3 harg3 arg4 harg4 arg5 harg5 arg6 harg6 arg7 harg7 arg8 harg8 arg9 harg9 arg10 harg10 arg11 harg11 arg12 harg12 v4 X_arg9 X_arg10 G_arg5 G_arg8 ⟨n, hk⟩]
    show arg5.view.read (Elt F) (arg5.view.writes (Elt F) G_arg5 ((trip_k0_t1 (F := F) 𝒱 c bd i arg1 harg1 arg2 harg2 arg3 harg3 arg4 harg4 arg5 harg5 arg6 harg6 arg7 harg7 arg8 harg8 arg9 harg9 arg10 harg10 arg11 harg11 arg12 harg12 v4 X_arg9 X_arg10 ⟨n, hk⟩).1 _
        (arg8.view.writes (Elt F) G_arg8 (pb_k0_t1 (F := F) 𝒱 c bd i arg1 harg1 arg2 harg2 arg3 harg3 arg4 harg4 arg5 harg5 arg6 harg6 arg7 harg7 arg8 harg8 arg9 harg9 arg10 harg10 arg11 harg11 arg12 harg12 v4 X_arg9 X_arg10 G_arg5 G_arg8 n).2)
      ++ (pb_k0_t1 (F := F) 𝒱 c bd i arg1 harg1 arg2 harg2 arg3 harg3 arg4 harg4 arg5 harg5 arg6 harg6 arg7 harg7 arg8 harg8 arg9 harg9 arg10 harg10 arg11 harg11 arg12 harg12 v4 X_arg9 X_arg10 G_arg5 G_arg8 n).1)) (ix2 a b) = _
    rw [trip1_pieces5 (F := F) 𝒱 c bd i arg1 harg1 arg2 harg2 arg3 harg3 arg4 harg4 arg5 harg5 arg6 harg6 arg7 harg7 arg8 harg8 arg9 harg9 arg10 harg10 arg11 harg11 arg12 harg12 v4 X_arg9 X_arg10 ⟨n, hk⟩ (by show n < 16; omega), List.cons_append, List.nil_append]
    by_cases hlt : b.val < 256 * n
    · rw [View.read_writes_cons_unit_of_not_mem (size := S1024x256.size) arg5.view G_arg5 _ _ _ (ix2 a b) (k0_off3_eq ⟨n, hk⟩) 1 (Or.inl hlt)]
      exact ih (by omega) a b hlt
    refine (View.read_writes_cons_unit_of_mem (size := S1024x256.size) arg5.view G_arg5 _ _ _ (ix2 a b) (ix2 a ⟨b.val - 256 * n, by omega⟩) (k0_off3_eq ⟨n, hk⟩) (fun d => match d with
          | ⟨0, _⟩ => by show a.val = 0 + a.val; omega
          | ⟨1, _⟩ => by show b.val = 256 * n + (b.val - 256 * n); omega)).trans ?_
    unfold k0_pay3
    show FloatOps.truncf .bf16 bitsLt_bf16_f32 (k0_pay1 _ _ _ _ _) = _
    unfold colVal
    have e1 : (⟨b.val / 256, by omega⟩ : Fin 16) = ⟨n, by omega⟩ := Fin.ext (by show b.val / 256 = n; omega)
    have e2 : (⟨b.val % 256, by omega⟩ : Fin 256) = ⟨b.val - 256 * n, by omega⟩ := Fin.ext (by show b.val % 256 = b.val - 256 * n; omega)
    rw [e1, e2]
    congr 2
    funext j
    unfold aCols
    have hj : (j 1).val < 256 := (j 1).isLt
    exact (col_read8 (F := F) 𝒱 c bd i arg1 harg1 arg2 harg2 arg3 harg3 arg4 harg4 arg5 harg5 arg6 harg6 arg7 harg7 arg8 harg8 arg9 harg9 arg10 harg10 arg11 harg11 arg12 harg12 v4 X_arg9 X_arg10 G_arg5 G_arg8 n (by omega) (j 0) ⟨256 * n + (j 1).val, by omega⟩).trans (if_neg (by show ¬ 256 * n + (j 1).val < 256 * n; omega))

end Cert.KernelIdeal.Gen
-- ==== Proof.KStep.lean ====
/- One grid step of the kernel: what it leaves in the result's block and in the scratch it carries to the next step. -/
module

public import proofs.«01_k».proof.Proof.Gen.KernelIdeal
public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameBody
public import Idealize.ShloMosaic.Lib.Tactic
public import Idealize.ShloMosaic.Lib.WholeRead
public import Idealize.ShloMosaic.Lib.VecWindow
public import proofs.«01_k».proof.Proof.StepKernelIdeal
public import proofs.«01_k».proof.Proof.Quant
public import proofs.«01_k».proof.Proof.Codes
public import proofs.«01_k».proof.Proof.Scales
public import proofs.«01_k».proof.Proof.Column
public import proofs.«01_k».proof.Proof.Decode

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word saying which step of its tile the product belongs to. -/
def kmW (i : grid0.Coords) : BitVec 32 := Scalar.remsi (Scalar.subi (Scalar.addi (BitVec.ofNat 32 (i 0).val) 28#32) 1#32) 28#32

/-- The result's block after a step: the narrowed running sums. -/
def Left5 (i : grid0.Coords) (Q : Vec F S2x1024x512 .bf16) (W : Vec F S2x512x4096 .bf16) (A : Vec F S1024x4096 .f32) (d : Vec F S1024x4096 .bf16) : Prop :=
  ∀ (a : Fin 1024) (b : Fin 4096), d (ix2 a b) = FloatOps.truncf .bf16 bitsLt_bf16_f32 (colVal (kmW i) (oldSlot i) Q W A a b)
/-- The codes' block after a step: the step's packed codes. -/
def Left6 (x0 : Vec F S1024x512 .bf16) (x1 : Vec F S1024x512 .i32) (d : Vec F S1024x256 .i8) : Prop :=
  ∀ (a : Fin 1024) (b : Fin 256), d (ix2 a b) = cdTile (F := F) x0 x1 a b
/-- The accumulator after a step: the running sums. -/
def Left8 (i : grid0.Coords) (Q : Vec F S2x1024x512 .bf16) (W : Vec F S2x512x4096 .bf16) (A : Vec F S1024x4096 .f32) (d : Vec F S1024x4096 .f32) : Prop :=
  ∀ (a : Fin 1024) (b : Fin 4096), d (ix2 a b) = colVal (kmW i) (oldSlot i) Q W A a b
/-- The dequantised scratch after a step: its new slot holds the step's quantised tile. -/
def Left9 (i : grid0.Coords) (x0 : Vec F S1024x512 .bf16) (x1 : Vec F S1024x512 .i32) (d : Vec F S2x1024x512 .bf16) : Prop :=
  ∀ (a : Fin 1024) (b : Fin 512), d (ix3 (newSlot i) a b) = dqTile x0 x1 a b
/-- The decoded scratch after a step: its new slot holds the step's decoded weights. -/
def Left10 (i : grid0.Coords) (x2 : Vec F S512x2048 .i8) (S : Vec F S448x128 .i32) (d : Vec F S2x512x4096 .bf16) : Prop :=
  ∀ (a : Fin 512) (b : Fin 4096), d (ix3 (newSlot i) a b) = dwTile (F := F) x2 S (kqOf i) a b
/-- The widened weight scales after a step: written by the first, kept by the others. -/
def Left11 (i : grid0.Coords) (x3 : Vec F S448x128 .i8) (S d : Vec F S448x128 .i32) : Prop :=
  (isFirst i → d = k0_pay105 (F := F) x3) ∧ (¬ isFirst i → d = S)

/-- The scale words after a step: its own sixteen columns written, the others kept. -/
def Left12 (i : grid0.Coords) (x0 : Vec F S1024x512 .bf16) (C d : Vec F S256x512 .i32) : Prop :=
  ∀ (w : Fin 256) (b : Fin 512), d (ix2 w b) = if b.val / 16 = (kqOf i).val then zTile (F := F) x0 w ⟨b.val % 128, by omega⟩ else C (ix2 w b)
/-- The scales' block after a step: at the last step of a tile of rows, the bytes of the scale words. -/
def Left7 (i : grid0.Coords) (x0 : Vec F S1024x512 .bf16) (C : Vec F S256x512 .i32) (d : Vec F S1024x448 .i8) : Prop :=
  isLastK i → ∃ C', Left12 i x0 C C' ∧ d = k0_pay6 (F := F) C'

/-- Storing the bytes of the scale words over the whole block leaves exactly them. -/
theorem store7 (arg7 : Memref sig .tc .vmem S1024x448 .i8) (arg12 : Memref sig .tc .vmem S256x512 .i32)
    (G : BufTy.Contents (Elt F) arg7.view.ty) (X : BufTy.Contents (Elt F) arg12.view.ty) :
    arg7.view.read (Elt F) (arg7.view.writes (Elt F) G [⟨Rect.unit (s := S1024x448) ![0, 0] S1024x448.size inb_S1024x448_S1024x448_0_0,
      k0_pay6 (F := F) (View.readAt (Elt F) arg12.view (Rect.unit (s := S256x512) ![0, 0] S256x512.size inb_S256x512_S256x512_0_0).toLoadRect X)⟩])
      = k0_pay6 (F := F) (arg12.view.read (Elt F) X) := by
  funext y
  refine (View.read_writes_cons_unit_of_mem (size := S1024x448.size) (off' := ![0, 0]) arg7.view G _ _ _ y y rfl fun a => ?_).trans ?_
  · match a with
    | ⟨0, _⟩ => exact (Nat.zero_add _).symm
    | ⟨1, _⟩ => exact (Nat.zero_add _).symm
  · rw [View.readAt_full]

/-- Storing the widened scales over the whole buffer leaves exactly them. -/
theorem store11 (arg4 : Memref sig .tc .vmem S448x128 .i8) (harg4 : arg4.IsWhole) (arg11 : Memref sig .tc .vmem S448x128 .i32)
    (x3 : Vec F S448x128 .i8) (G : BufTy.Contents (Elt F) arg11.view.ty) :
    arg11.view.read (Elt F) (arg11.view.writes (Elt F) G [⟨Rect.unit (s := S448x128) ![0, 0] S448x128.size inb_S448x128_S448x128_0_0,
      k0_pay105 (F := F) (View.readAt (Elt F) arg4.view (Rect.unit (s := S448x128) ![0, 0] S448x128.size inb_S448x128_S448x128_0_0).toLoadRect (harg4.unread x3))⟩])
      = k0_pay105 (F := F) x3 := by
  funext y
  refine (View.read_writes_cons_unit_of_mem (size := S448x128.size) (off' := ![0, 0]) arg11.view G _ _ _ y y rfl fun a => ?_).trans ?_
  · match a with
    | ⟨0, _⟩ => exact (Nat.zero_add _).symm
    | ⟨1, _⟩ => exact (Nat.zero_add _).symm
  · rw [View.readAt_full, harg4.read_unread]

theorem trips1 : k0_t1_loop.trips = 16 := by decide +kernel
theorem trips2 : k0_t2_loop.trips = 256 := by decide +kernel
theorem trips3 : k0_t3_loop.trips = 32 := by decide +kernel

set_option maxHeartbeats 4000000 in
/-- One step of the kernel, from any contents of its scratch: what it leaves, in terms of what it finds. -/
theorem step_leaves (c : Dev nD) (i : grid0.Coords) (arg1 : Memref sig .tc .vmem S1024x512 .bf16) (harg1 : arg1.IsWhole) (arg2 : Memref sig .tc .vmem S1024x512 .i32) (harg2 : arg2.IsWhole) (arg3 : Memref sig .tc .vmem S512x2048 .i8) (harg3 : arg3.IsWhole) (arg4 : Memref sig .tc .vmem S448x128 .i8) (harg4 : arg4.IsWhole) (arg5 : Memref sig .tc .vmem S1024x4096 .bf16) (harg5 : arg5.IsWhole) (arg6 : Memref sig .tc .vmem S1024x256 .i8) (harg6 : arg6.IsWhole) (arg7 : Memref sig .tc .vmem S1024x448 .i8) (harg7 : arg7.IsWhole) (arg8 : Memref sig .tc .vmem S1024x4096 .f32) (harg8 : arg8.IsWhole) (arg9 : Memref sig .tc .vmem S2x1024x512 .bf16) (harg9 : arg9.IsWhole) (arg10 : Memref sig .tc .vmem S2x512x4096 .bf16) (harg10 : arg10.IsWhole) (arg11 : Memref sig .tc .vmem S448x128 .i32) (harg11 : arg11.IsWhole) (arg12 : Memref sig .tc .vmem S256x512 .i32) (harg12 : arg12.IsWhole)
    (x0 : Vec F S1024x512 .bf16) (x1 : Vec F S1024x512 .i32) (x2 : Vec F S512x2048 .i8) (x3 : Vec F S448x128 .i8)
    (A : Vec F S1024x4096 .f32) (Q : Vec F S2x1024x512 .bf16) (W : Vec F S2x512x4096 .bf16) (S : Vec F S448x128 .i32) (C : Vec F S256x512 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare A ∗ owns (c : Thread nD τ) arg9 fullShare Q ∗ owns (c : Thread nD τ) arg10 fullShare W ∗ owns (c : Thread nD τ) arg11 fullShare S ∗ owns (c : Thread nD τ) arg12 fullShare C
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, ⌜Left5 i Q W A d⌝ ∗ owns (c : Thread nD τ) arg5 fullShare d) ∗ (∃ d, ⌜Left6 x0 x1 d⌝ ∗ owns (c : Thread nD τ) arg6 fullShare d) ∗ (∃ d, ⌜Left7 i x0 C d⌝ ∗ owns (c : Thread nD τ) arg7 fullShare d) ∗ (∃ d, ⌜Left8 i Q W A d⌝ ∗ owns (c : Thread nD τ) arg8 fullShare d) ∗ (∃ d, ⌜Left9 i x0 x1 d⌝ ∗ owns (c : Thread nD τ) arg9 fullShare d) ∗ (∃ d, ⌜∃ S', Left11 i x3 S S' ∧ Left10 i x2 S' d⌝ ∗ owns (c : Thread nD τ) arg10 fullShare d) ∗ (∃ d, ⌜Left11 i x3 S d⌝ ∗ owns (c : Thread nD τ) arg11 fullShare d) ∗ (∃ d, ⌜Left12 i x0 C d⌝ ∗ owns (c : Thread nD τ) arg12 fullShare d)) -∗ K ⟨⟩))
      ⊢ wp frame (wpE (defs₀ (F := F)) Variants.none c none) E (cc0_mxfp4_dgrad i arg1 harg1 arg2 harg2 arg3 harg3 arg4 harg4 arg5 harg5 arg6 harg6 arg7 harg7 arg8 harg8 arg9 harg9 arg10 harg10 arg11 harg11 arg12 harg12) K := by
  by_cases hc0 : isFirst i <;> by_cases hc1 : isLastK i
  all_goals
    simp only [cc0_mxfp4_dgrad_eq_skeleton]; unfold cc0_mxfp4_dgrad_skel
    simp only [k0_part24_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hs0, HS0⟩, ⟨%fs1, %hs1, HS1⟩, ⟨%fs2, %hs2, HS2⟩, ⟨%fs3, %hs3, HS3⟩, ⟨%fs4, %hs4, HS4⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap
      · iexists _; isplitr; swap; · iexact H4
        ipureintro; rfl
      ipureintro
      intro a b
      refine (col_read5 _ _ _ _ _ _ _ _ _ _ _ _ _ _ _ _ _ _ _ _ _ _ _ _ _ _ _ _ _ _ _ _ _ k0_t1_loop.trips trips1.le a b (by rw [trips1]; omega)).trans ?_
      rw [hs0, hs1, hs2]; rfl
    isplitl [H5]
    · iexists _; isplitr; swap
      · iexists _; isplitr; swap; · iexact H5
        ipureintro; rfl
      ipureintro
      intro a b
      refine (codes_read _ _ _ _ _ _ _ _ _ _ _ _ _ _ _ _ _ _ _ _ _ _ _ _ _ _ _ _ _ _ _ _ _ _ _ _ _ _ _ _ k0_t3_loop.trips trips3.le a b (by rw [trips3]; omega)).trans ?_
      rw [harg1.read_unread, harg2.read_unread]
    isplitl [H6]
    · iexists _; isplitr; swap
      · iexists _; isplitr; swap; · iexact H6
        ipureintro; rfl
      ipureintro
      first
        | exact fun h => absurd h hc1
        | refine fun _ => ⟨_, ?_, store7 _ _ _ _⟩
          intro w b
          refine (scales_read _ _ _ _ _ _ _ _ _ _ _ _ _ _ _ _ _ _ _ _ _ _ _ _ _ _ _ _ _ _ _ _ _ _ _ _ _ _ _ _ ?hs k0_t3_loop.trips trips3.le w b).trans ?_
          case hs => exact slotI_eq i
          rw [harg1.read_unread, hs4]
          exact if_congr ⟨fun h => h.2, fun h => ⟨by rw [trips3]; omega, h⟩⟩ rfl rfl
    isplitl [HS0]
    · iexists _; isplitr; swap
      · iexists _; isplitr; swap; · iexact HS0
        ipureintro; rfl
      ipureintro
      intro a b
      refine (col_read8 _ _ _ _ _ _ _ _ _ _ _ _ _ _ _ _ _ _ _ _ _ _ _ _ _ _ _ _ _ _ _ _ _ k0_t1_loop.trips trips1.le a b).trans ?_
      rw [if_pos (by rw [trips1]; omega), hs0, hs1, hs2]; rfl
    isplitl [HS1]
    · iexists _; isplitr; swap
      · iexists _; isplitr; swap; · iexact HS1
        ipureintro; rfl
      ipureintro
      intro a b
      refine (quant_read _ _ _ _ _ _ _ _ _ _ _ _ _ _ _ _ _ _ _ _ _ _ _ _ _ _ _ _ _ _ _ _ _ _ _ _ _ _ _ _ k0_t3_loop.trips trips3.le (newSlot i) a b rfl (by rw [trips3]; omega)).trans ?_
      rw [harg1.read_unread, harg2.read_unread]
    isplitl [HS2]
    · iexists _; isplitr; swap
      · iexists _; isplitr; swap; · iexact HS2
        ipureintro; rfl
      ipureintro
      apply Exists.intro
      refine And.intro ?_ ?_
      rotate_left
      · intro a b
        refine (decode_read _ _ _ _ _ _ _ _ _ _ _ _ _ _ _ _ _ _ _ _ _ _ _ _ _ _ _ _ _ _ _ _ _ k0_t2_loop.trips trips2.le (newSlot i) a b rfl (by rw [trips2]; omega)).trans ?_
        rw [harg3.read_unread]
      · first
          | exact ⟨fun _ => store11 arg4 harg4 arg11 x3 _, fun h => absurd hc0 h⟩
          | exact ⟨fun h => absurd h hc0, fun _ => hs3⟩
    isplitl [HS3]
    · iexists _; isplitr; swap
      · iexists _; isplitr; swap; · iexact HS3
        ipureintro; rfl
      ipureintro
      first
        | exact ⟨fun _ => store11 arg4 harg4 arg11 x3 _, fun h => absurd hc0 h⟩
        | exact ⟨fun h => absurd h hc0, fun _ => hs3⟩
    iexists _; isplitr; swap
    · iexists _; isplitr; swap; · iexact HS4
      ipureintro; rfl
    ipureintro
    intro w b
    refine (scales_read _ _ _ _ _ _ _ _ _ _ _ _ _ _ _ _ _ _ _ _ _ _ _ _ _ _ _ _ _ _ _ _ _ _ _ _ _ _ _ _ ?hs k0_t3_loop.trips trips3.le w b).trans ?_
    case hs => exact slotI_eq i
    rw [harg1.read_unread, hs4]
    exact if_congr ⟨fun h => h.2, fun h => ⟨by rw [trips3]; omega, h⟩⟩ rfl rfl

end Cert.KernelIdeal.Gen

end
-- ==== Proof.Track.lean ====
/- What the grid's steps carry: the running sums, and the two scratch slots that a step fills for the next. -/
module

public import proofs.«01_k».proof.Proof.Gen.KernelIdeal
public import proofs.«01_k».proof.Proof.Gen.KernelIdeal.Skeleton
public import proofs.«01_k».proof.Proof.Gen.KernelIdeal.Loops
public import Idealize.ShloMosaic.Lib.WritesUnit
public import Idealize.ShloMosaic.Lib.ValueIdx
public import Idealize.ShloMosaic.Lib.Pointwise

public import proofs.«01_k».proof.Proof.KStep
public import proofs.«01_k».proof.Proof.FrameKernelIdeal
public import Idealize.ShloMosaic.Lib.MatmulPlain
public import Idealize.ShloMosaic.Lib.Pointwise.IndexBridge

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI

open Idealize.ShloMosaic.Pipeline (Dat Cfg Window BodyObligation cellOf)

variable (m : (ℓ : Loc nD τ sig) → Buf (Elt Ideal) ℓ) (c : Dev nD)

/-- The point of a number. -/
def pt (n : ℕ) : Fin cfg0.N := ⟨n % 337, Nat.mod_lt _ (by omega)⟩

theorem pt_val (t : Fin cfg0.N) : pt t.val = t := Fin.ext (Nat.mod_eq_of_lt t.isLt)

/-- The quantised tile of a step. -/
def qT (n : ℕ) (a : Fin 1024) (k : Fin 512) : EReal := dqTile (F := Ideal) (iblk m c 0 (pt n)) (iblk m c 1 (pt n)) a k
/-- The widened weight scales. -/
def wS : Vec Ideal S448x128 .i32 := k0_pay105 (F := Ideal) (iblk m c 3 (pt 0))
/-- The decoded weights of a step. -/
def wT (n : ℕ) (k : Fin 512) (b : Fin 4096) : EReal := dwTile (F := Ideal) (iblk m c 2 (pt n)) (wS m c) (kqOf (grid0.coords (pt n))) k b
/-- The product of a step's two tiles. -/
def prodT (n : ℕ) (a : Fin 1024) (b : Fin 4096) : EReal := ∑ k : Fin 512, qT m c n a k * wT m c n k b
/-- The sum of the products of a row tile, up to a step. -/
def partT (n : ℕ) (a : Fin 1024) (b : Fin 4096) : EReal := ∑ j ∈ Finset.range (n % 28 + 1), prodT m c (28 * (n / 28) + j) a b

theorem partT_step (n : ℕ) (a : Fin 1024) (b : Fin 4096) :
    partT m c n a b = (if n % 28 = 0 then 0 else partT m c (n - 1) a b) + prodT m c n a b := by
  unfold partT
  rw [Finset.sum_range_succ, Nat.div_add_mod n 28]
  congr 1
  split
  · next h => rw [h, Finset.sum_range_zero]
  · next h =>
    have h1 : (n - 1) / 28 = n / 28 := by omega
    have h2 : (n - 1) % 28 + 1 = n % 28 := by omega
    rw [h1, h2]

/-- What the scale words hold after step `n`: the columns of the tiles so far of the step's row of tiles. -/
def HoldsZ (n : ℕ) (C : Vec Ideal S256x512 .i32) : Prop :=
  ∀ (w : Fin 256) (b : Fin 512), b.val / 16 ≤ min n 335 % 28 →
    ∃ s : Fin cfg0.N, min s.val 335 = 28 * (min n 335 / 28) + b.val / 16 ∧ C (ix2 w b) = zTile (F := Ideal) (iblk m c 0 s) w ⟨b.val % 128, by omega⟩

/-- What the scratch holds before step `n`. -/
structure Inv (n : ℕ) (A : Vec Ideal S1024x4096 .f32) (Q : Vec Ideal S2x1024x512 .bf16) (W : Vec Ideal S2x512x4096 .bf16) (S : Vec Ideal S448x128 .i32) (C : Vec Ideal S256x512 .i32) : Prop where
  s : 1 ≤ n → S = wS m c
  q : 1 ≤ n → ∀ (s : Fin 2) (a : Fin 1024) (b : Fin 512), s.val = (n - 1) % 2 → Q (ix3 s a b) = qT m c (n - 1) a b
  w : 1 ≤ n → ∀ (s : Fin 2) (a : Fin 512) (b : Fin 4096), s.val = (n - 1) % 2 → W (ix3 s a b) = wT m c (n - 1) a b
  a : 2 ≤ n → ∀ (a : Fin 1024) (b : Fin 4096), A (ix2 a b) = partT m c (n - 2) a b
  z : 1 ≤ n → HoldsZ m c (n - 1) C

theorem inv_zero (A Q W S C) : Inv m c 0 A Q W S C := ⟨fun h => by omega, fun h => by omega, fun h => by omega, fun h => by omega, fun h => by omega⟩

/-- A step's sum, over the extended reals. -/
theorem colVal_ideal (v4 : BitVec 32) (s : Fin 2) (Q : S2x1024x512.Idx → Elt Ideal .bf16) (W : S2x512x4096.Idx → Elt Ideal .bf16)
    (A : S1024x4096.Idx → Elt Ideal .f32) (a : Fin 1024) (b : Fin 4096) :
    colVal (F := Ideal) v4 s Q W A a b
      = (if v4 = 0#32 then (0 : EReal) else A (ix2 a b)) + ∑ k : Fin 512, (Q (ix3 s a k) : EReal) * W (ix3 s k b) := by
  have hdot : ∀ (x : FVec Ideal S1024x512 .bf16) (y : FVec Ideal S512x256 .bf16) (r : Fin 1024) (q : Fin 256),
      matmul dot_S1024x512_S512x256_S1024x256_1_0_0_1_n_n none x y (constant S1024x256 .f32 0x00000000#32) (ix2 r q)
        = ∑ k : Fin 512, (x (ix2 r k) : EReal) * y (ix2 k q) := by
    intro x y r q
    have h0 : (constant (F := Ideal) S1024x256 .f32 0x00000000#32) (ix2 r q) = (0 : EReal) := by pointwise
    simp only [ix2_eq_valueIdx] at h0 ⊢
    refine (Ideal.matmul_plain_apply none x y _ r q).trans ?_
    rw [h0, zero_add]
  unfold colVal k0_pay1
  have hb : A (ix2 a b) = aCols A ⟨b.val / 256, by omega⟩ (ix2 a ⟨b.val % 256, by omega⟩) := by
    refine congrArg A (congrArg (ix2 a) (Fin.ext ?_))
    show b.val = 256 * (b.val / 256) + b.val % 256
    omega
  have hq : ∀ k : Fin 512, (shapeCast S1024x512 (qSlot Q s) shapeCasts_S1x1024x512_S1024x512) (ix2 a k) = Q (ix3 s a k) := by
    intro k; pointwise; rfl
  have hw : ∀ k : Fin 512, (shapeCast S512x256 (wSlot W s ⟨b.val / 256, by omega⟩) shapeCasts_S1x512x256_S512x256) (ix2 k ⟨b.val % 256, by omega⟩) = W (ix3 s k b) := by
    intro k; pointwise
    refine congrArg W (congrArg (ix3 s k) (Fin.ext ?_))
    show 256 * (b.val / 256) + b.val % 256 = b.val
    omega
  have hsum := (hdot (shapeCast S1024x512 (qSlot Q s) shapeCasts_S1x1024x512_S1024x512)
      (shapeCast S512x256 (wSlot W s ⟨b.val / 256, by omega⟩) shapeCasts_S1x512x256_S512x256) a ⟨b.val % 256, by omega⟩).symm
  simp only [hq, hw] at hsum
  rw [hsum, hb]
  by_cases h : v4 = 0#32
  · subst h
    rw [if_pos rfl, zero_add]; rfl
  · rw [if_neg h]
    have hc : Scalar.cmpi .eq v4 0#32 = 0#1 := by
      have h2 : (v4 == 0#32) = false := by simpa using h
      show BitVec.ofBool (v4 == 0#32) = 0#1
      rw [h2]; rfl
    rw [hc]; rfl

theorem kmW_iff : ∀ t : Fin cfg0.N, (kmW (grid0.coords t) = 0#32) ↔ (t.val + 27) % 28 = 0 := by decide +kernel
theorem isFirst_iff : ∀ t : Fin cfg0.N, isFirst (grid0.coords t) ↔ t.val = 0 := by unfold isFirst; decide +kernel
theorem coords_val : ∀ t : Fin cfg0.N, (grid0.coords t 0).val = t.val := by decide +kernel

theorem sum_step (t : Fin cfg0.N) {A Q W S C} (h : Inv m c t.val A Q W S C) (ht : 1 ≤ t.val) (a : Fin 1024) (b : Fin 4096) :
    colVal (F := Ideal) (kmW (grid0.coords t)) (oldSlot (grid0.coords t)) Q W A a b = partT m c (t.val - 1) a b := by
  have hs : (oldSlot (grid0.coords t)).val = (t.val - 1) % 2 := by
    show ((grid0.coords t 0).val + 1) % 2 = _
    rw [coords_val]; omega
  rw [colVal_ideal, partT_step]
  congr 1
  · by_cases hk : kmW (grid0.coords t) = 0#32
    · rw [if_pos hk, if_pos (by have := (kmW_iff t).mp hk; omega)]
    · have hk' := mt (kmW_iff t).mpr hk
      rw [if_neg hk, if_neg (by omega), h.a (by omega)]
      congr 1
  · exact Finset.sum_congr rfl fun k _ => by rw [h.q ht _ _ _ hs, h.w ht _ _ _ hs]

theorem isLastK_iff : ∀ t : Fin cfg0.N, isLastK (grid0.coords t) ↔ min t.val 335 % 28 = 27 := by unfold isLastK; decide +kernel

/-- A step adds its own columns of scale words. -/
theorem z_step (t : Fin cfg0.N) {A Q W S C C'} (h : Inv m c t.val A Q W S C) (h12 : Left12 (F := Ideal) (grid0.coords t) (iblk m c 0 t) C C') :
    HoldsZ m c t.val C' := by
  intro w b hb
  have hq : (kqOf (grid0.coords t)).val = min t.val 335 % 28 := by
    show (min (grid0.coords t 0).val 335) % 28 = _
    rw [coords_val]
  have hl := h12 w b
  rw [hq] at hl
  by_cases he : b.val / 16 = min t.val 335 % 28
  · rw [if_pos he] at hl
    exact ⟨t, by omega, hl⟩
  · rw [if_neg he] at hl
    have ht : t.val < 337 := t.isLt
    obtain ⟨s, hs, hc⟩ := h.z (by omega) w b (by omega)
    exact ⟨s, by omega, hl.trans hc⟩

/-- One step carries the invariant on. -/
theorem inv_step (t : Fin cfg0.N) {A Q W S C A' Q' W' S' S'' C'} (h : Inv m c t.val A Q W S C)
    (h8 : Left8 (F := Ideal) (grid0.coords t) Q W A A') (h9 : Left9 (F := Ideal) (grid0.coords t) (iblk m c 0 t) (iblk m c 1 t) Q')
    (h11 : Left11 (F := Ideal) (grid0.coords t) (iblk m c 3 t) S S') (h10 : Left10 (F := Ideal) (grid0.coords t) (iblk m c 2 t) S' W')
    (h11' : Left11 (F := Ideal) (grid0.coords t) (iblk m c 3 t) S S'') (h12 : Left12 (F := Ideal) (grid0.coords t) (iblk m c 0 t) C C') :
    Inv m c (t.val + 1) A' Q' W' S'' C' := by
  have key : ∀ X : Vec Ideal S448x128 .i32, Left11 (F := Ideal) (grid0.coords t) (iblk m c 3 t) S X → X = wS m c := by
    intro X hX
    by_cases h0 : t.val = 0
    · have e : t = pt 0 := by rw [← h0, pt_val]
      have := hX.1 ((isFirst_iff t).mpr h0)
      rw [this]; unfold wS; rw [e]
    · rw [hX.2 (mt (isFirst_iff t).mp h0)]; exact h.s (by omega)
  have hslot : ∀ s : Fin 2, s.val = (t.val + 1 - 1) % 2 → s = newSlot (grid0.coords t) := by
    intro s hs; refine Fin.ext ?_
    show s.val = (grid0.coords t 0).val % 2
    rw [coords_val]; omega
  refine ⟨fun _ => key _ h11', fun _ s a b hs => ?_, fun _ s a b hs => ?_, fun hn a b => ?_, fun _ => z_step m c t h h12⟩
  · rw [hslot s hs, h9 a b]; unfold qT
    rw [Nat.add_sub_cancel, pt_val]
  · rw [hslot s hs, h10 a b, key _ h11]; unfold wT
    rw [Nat.add_sub_cancel, pt_val]
  · rw [h8 a b, sum_step m c t h (by omega)]
    congr 1
-- ==== Proof.KBody.lean ====
/- The kernel run with what it computes: every step carries the invariant on, and what it leaves of the first result is the running sum. -/
module

public import proofs.«01_k».proof.Proof.Gen.KernelIdeal
public import proofs.«01_k».proof.Proof.Gen.KernelIdeal.Skeleton
public import proofs.«01_k».proof.Proof.Gen.KernelIdeal.Loops
public import Idealize.ShloMosaic.Lib.WritesUnit
public import Idealize.ShloMosaic.Lib.ValueIdx
public import Idealize.ShloMosaic.Lib.Pointwise

public import proofs.«01_k».proof.Proof.Track
public import Idealize.ShloMosaic.Lib.Pipeline.DatRel
public import Idealize.ShloMosaic.Lib.Pipeline.ArrRel

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI

open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The scratch before step `n`, holding what the steps so far have left in it. -/
def PhiV (c : Dev nD) (n : ℕ) : sProp 𝕄 :=
  iprop(∃ (A : Vec Ideal S1024x4096 .f32) (Q : Vec Ideal S2x1024x512 .bf16) (W : Vec Ideal S2x512x4096 .bf16) (S : Vec Ideal S448x128 .i32) (C : Vec Ideal S256x512 .i32), ⌜Inv m c n A Q W S C⌝ ∗ owns (c : Thread nD τ) scM0_0 fullShare A ∗ owns (c : Thread nD τ) scM0_1 fullShare Q ∗ owns (c : Thread nD τ) scM0_2 fullShare W ∗ owns (c : Thread nD τ) scM0_3 fullShare S ∗ owns (c : Thread nD τ) scM0_4 fullShare C ∗ (∃ r, prngReg c r))

/-- The proof data: inputs keep their blocks, the scratch follows the invariant. -/
def datV (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ n := PhiV m c n.val
  q _ := fullShare
  owed _ := 0

/-- What a step leaves of the first result: from the second step on, the running sum of the step before. -/
def Out4 (c : Dev nD) (t : Fin cfg0.N) (X : Vec Ideal S1024x4096 .bf16) : Prop :=
  1 ≤ t.val → ∀ (a : Fin 1024) (b : Fin 4096), X (ix2 a b) = partT m c (t.val - 1) a b

/-- What a step leaves of the codes: its own tile's. -/
def Out5 (c : Dev nD) (t : Fin cfg0.N) (X : Vec Ideal S1024x256 .i8) : Prop :=
  ∀ (a : Fin 1024) (b : Fin 256), X (ix2 a b) = cdTile (F := Ideal) (iblk m c 0 t) (iblk m c 1 t) a b

/-- What a tile of rows' last step leaves of the scales: every tile's bytes. -/
def Out6 (c : Dev nD) (t : Fin cfg0.N) (X : Vec Ideal S1024x448 .i8) : Prop :=
  min t.val 335 % 28 = 27 → ∃ C, HoldsZ m c t.val C ∧ X = k0_pay6 (F := Ideal) C

/-- What is said of the outputs. -/
def RlV (c : Dev nD) : (w : Fin cfg0.W) → Fin cfg0.N → ((cfg0.win w).block.Idx → Elt Ideal (cfg0.win w).elt) → Prop
  | ⟨4, _⟩ => fun t X => Out4 m c t X
  | ⟨5, _⟩ => fun t X => Out5 m c t X
  | ⟨6, _⟩ => fun t X => Out6 m c t X
  | _ => fun _ _ => True

theorem A_eqV (c : Dev nD) (w : Fin cfg0.W) : (datV m c).A w = V m c (Pipeline.arrRef spec0 w) := by
  dsimp only [datV]
theorem afterV_0 (c : Dev nD) (t : Fin cfg0.N) : (datV m c).after 0 t = iblk m c 0 t := by dsimp only [datV]
theorem afterV_1 (c : Dev nD) (t : Fin cfg0.N) : (datV m c).after 1 t = iblk m c 1 t := by dsimp only [datV]
theorem afterV_2 (c : Dev nD) (t : Fin cfg0.N) : (datV m c).after 2 t = iblk m c 2 t := by dsimp only [datV]
theorem afterV_3 (c : Dev nD) (t : Fin cfg0.N) : (datV m c).after 3 t = iblk m c 3 t := by dsimp only [datV]
theorem beforeV_0 (c : Dev nD) (t : Fin cfg0.N) (d) : (datV m c).before 0 t d = iblk m c 0 t :=
  before0_0_of m (datV m c) (A_eqV m c 0) (afterV_0 m c) t d
theorem beforeV_1 (c : Dev nD) (t : Fin cfg0.N) (d) : (datV m c).before 1 t d = iblk m c 1 t :=
  before0_1_of m (datV m c) (A_eqV m c 1) (afterV_1 m c) t d
theorem beforeV_2 (c : Dev nD) (t : Fin cfg0.N) (d) : (datV m c).before 2 t d = iblk m c 2 t :=
  before0_2_of m (datV m c) (A_eqV m c 2) (afterV_2 m c) t d
theorem beforeV_3 (c : Dev nD) (t : Fin cfg0.N) (d) : (datV m c).before 3 t d = iblk m c 3 t :=
  before0_3_of m (datV m c) (A_eqV m c 3) (afterV_3 m c) t d

/-- What the body is called with at point `t`, window by window, -/
def bodyPreV (c : Dev nD) (t : Fin cfg0.N) : sProp 𝕄 :=
  iprop((datV m c).Φ t.castSucc ∗ (datV m c).owesAt () t.castSucc
    ∗ (∃ d, owns (c : Thread nD τ) (ms0_0 t) fullShare ((datV m c).before 0 t d))
    ∗ (∃ d, owns (c : Thread nD τ) (ms0_1 t) fullShare ((datV m c).before 1 t d))
    ∗ (∃ d, owns (c : Thread nD τ) (ms0_2 t) fullShare ((datV m c).before 2 t d))
    ∗ (∃ d, owns (c : Thread nD τ) (ms0_3 t) fullShare ((datV m c).before 3 t d))
    ∗ (∃ d, ⌜((datV m c).toRRel forgets0 (RlV m c)).Finds 4 t d⌝ ∗ owns (c : Thread nD τ) (ms0_4 t) fullShare d)
    ∗ (∃ d, ⌜((datV m c).toRRel forgets0 (RlV m c)).Finds 5 t d⌝ ∗ owns (c : Thread nD τ) (ms0_5 t) fullShare d)
    ∗ (∃ d, ⌜((datV m c).toRRel forgets0 (RlV m c)).Finds 6 t d⌝ ∗ owns (c : Thread nD τ) (ms0_6 t) fullShare d))

/-- and what it returns. -/
def bodyPostV (c : Dev nD) (t : Fin cfg0.N) : sProp 𝕄 :=
  iprop((datV m c).Φ t.succ ∗ (datV m c).owesAt () t.succ
    ∗ owns (c : Thread nD τ) (ms0_0 t) fullShare ((datV m c).after 0 t)
    ∗ owns (c : Thread nD τ) (ms0_1 t) fullShare ((datV m c).after 1 t)
    ∗ owns (c : Thread nD τ) (ms0_2 t) fullShare ((datV m c).after 2 t)
    ∗ owns (c : Thread nD τ) (ms0_3 t) fullShare ((datV m c).after 3 t)
    ∗ (∃ d, ⌜RlV m c 4 t d⌝ ∗ owns (c : Thread nD τ) (ms0_4 t) fullShare d)
    ∗ (∃ d, ⌜RlV m c 5 t d⌝ ∗ owns (c : Thread nD τ) (ms0_5 t) fullShare d)
    ∗ (∃ d, ⌜RlV m c 6 t d⌝ ∗ owns (c : Thread nD τ) (ms0_6 t) fullShare d))

set_option maxHeartbeats 4000000 in
/-- The body at any point: `step_leaves` at the staging buffers. -/
theorem sound_bodyV (c : Dev nD) (t : Fin cfg0.N) :
    bodyPreV m c t ⊢ wp Idealize.ShloMosaic.frame (wpE (defs₀ (F := Ideal)) Variants.none c none) Set.univ (bodyAt0 t) (fun _ => bodyPostV m c t) := by
  unfold bodyPreV bodyPostV bodyAt0
  simp only [beforeV_0, beforeV_1, beforeV_2, beforeV_3, afterV_0, afterV_1, afterV_2, afterV_3]
  rw [show (datV m c).owesAt () t.succ = (datV m c).owesAt () t.castSucc from rfl]
  rw [show (datV m c).Φ t.succ = PhiV m c (t.val + 1) from rfl, show (datV m c).Φ t.castSucc = PhiV m c t.val from rfl]
  unfold PhiV
  iintro ⟨⟨%A, %Q, %W, %S, %C, %hI, HS0, HS1, HS2, HS3, HS4, Hg⟩, Ho, ⟨%d0, H0⟩, ⟨%d1, H1⟩, ⟨%d2, H2⟩, ⟨%d3, H3⟩, ⟨%d4, -, H4⟩, ⟨%d5, -, H5⟩, ⟨%d6, -, H6⟩⟩
  iapply (step_leaves c (grid0.coords t) _ _ _ _ _ _ _ _ _ _ _ _ _ _ _ _ _ _ _ _ _ _ _ _ (iblk m c 0 t) (iblk m c 1 t) (iblk m c 2 t) (iblk m c 3 t) A Q W S C Set.univ _)
  isplitl [H0]; · iexact H0
  isplitl [H1]; · iexact H1
  isplitl [H2]; · iexact H2
  isplitl [H3]; · iexact H3
  isplitl [H4]; · iexists d4; iexact H4
  isplitl [H5]; · iexists d5; iexact H5
  isplitl [H6]; · iexists d6; iexact H6
  isplitl [HS0]; · iexact HS0
  isplitl [HS1]; · iexact HS1
  isplitl [HS2]; · iexact HS2
  isplitl [HS3]; · iexact HS3
  isplitl [HS4]; · iexact HS4
  iintro ⟨H0, H1, H2, H3, ⟨%e4, %h5, H4⟩, ⟨%e5, %h6, H5⟩, ⟨%e6, %h7, H6⟩, ⟨%A', %h8, HS0⟩, ⟨%Q', %h9, HS1⟩, ⟨%W', %h10, HS2⟩, ⟨%S'', %h11, HS3⟩, ⟨%C', %h12, HS4⟩⟩
  isplitl [HS0 HS1 HS2 HS3 HS4 Hg]
  · iexists A', Q', W', S'', C'
    isplitr
    · ipureintro
      obtain ⟨S', g11, g10⟩ := h10
      exact inv_step m c t hI h8 h9 g11 g10 h11 h12
    isplitl [HS0]; · iexact HS0
    isplitl [HS1]; · iexact HS1
    isplitl [HS2]; · iexact HS2
    isplitl [HS3]; · iexact HS3
    isplitl [HS4]; · iexact HS4
    iexact Hg
  isplitl [Ho]; · iexact Ho
  isplitl [H0]; · iexact H0
  isplitl [H1]; · iexact H1
  isplitl [H2]; · iexact H2
  isplitl [H3]; · iexact H3
  isplitl [H4]
  · iexists e4; isplitr
    · ipureintro
      exact fun ht a b => (h5 a b).trans (sum_step m c t hI ht a b)
    iexact H4
  isplitl [H5]
  · iexists e5; isplitr
    · ipureintro; exact h6
    iexact H5
  iexists e6; isplitr
  · ipureintro
    intro hk
    obtain ⟨C1, g12, e⟩ := h7 ((isLastK_iff t).mpr hk)
    exact ⟨C1, z_step m c t hI g12, e⟩
  iexact H6

theorem body_obligationV (c : Dev nD) : Pipeline.BodyObligationRel (datV m c) (defs₀ (F := Ideal)) Variants.none () Set.univ forgets0 (RlV m c) := fun t => by
  rw [bigSep_W0, bigSep_W0, defs₀_row]
  exact triple_restated (sound_bodyV m c t) rfl .rfl fun _ => .rfl

/-- The scratch at anything meets the invariant before the first step, -/
theorem phi_in (c : Dev nD) : (Pipeline.ΦA spec0 c : sProp 𝕄) ⊢ PhiV m c 0 := by
  rw [PhiA0_eq]; unfold PhiV
  iintro ⟨⟨⟨%A, HS0⟩, ⟨%Q, HS1⟩, ⟨%W, HS2⟩, ⟨%S, HS3⟩, ⟨%C, HS4⟩⟩, Hg⟩
  iexists A, Q, W, S, C
  isplitr
  · ipureintro; exact inv_zero m c A Q W S C
  isplitl [HS0]; · iexact HS0
  isplitl [HS1]; · iexact HS1
  isplitl [HS2]; · iexact HS2
  isplitl [HS3]; · iexact HS3
  isplitl [HS4]; · iexact HS4
  iexact Hg

/-- and after the last it is at something. -/
theorem phi_out (c : Dev nD) (n : ℕ) : PhiV m c n ⊢ (Pipeline.ΦA spec0 c : sProp 𝕄) := by
  rw [PhiA0_eq]; unfold PhiV
  iintro ⟨%A, %Q, %W, %S, %C, %hI, HS0, HS1, HS2, HS3, HS4, Hg⟩
  isplitl [HS0 HS1 HS2 HS3 HS4]
  · isplitl [HS0]; · iexists A; iexact HS0
    isplitl [HS1]; · iexists Q; iexact HS1
    isplitl [HS2]; · iexists W; iexact HS2
    isplitl [HS3]; · iexists S; iexact HS3
    iexists C; iexact HS4
  iexact Hg

set_option backward.isDefEq.respectTransparency.types false in
set_option maxHeartbeats 800000 in
/-- The launch: what the arrays hold at the end, by the blocks that the steps left. -/
theorem run_mainV : θ_run defs (onTc (τ := τ) (main (F := Ideal))) (s₀ m ρ)
    (Pipeline.RDat.FramePost cfg0 (fun c => (datV m c).toRRel forgets0 (RlV m c)) (V m)) :=
  Pipeline.RDat.θ_run_frame_track cfgs (0 : Fin 1) launch0 defs₀ Variants.none (fun c => (datV m c).toRRel forgets0 (RlV m c)) m ρ main
    (hbody := fun c => (body_obligationV m c).toRRel) (hshare := fun c => (datV m c).share_full fun _ => rfl)
    (howed := fun _ _ => rfl) (V := V m)
    (hmain := hmain m Variants.none) (hA := A_eqV m) (hin := fun c => phi_in m c) (hout := fun c => phi_out m c _)
-- ==== Proof.QVal.lean ====
/- The quantised slice, entry by entry: the block's largest magnitude by rotations, its exponent by eight comparisons, the rounded value. -/
module

public import proofs.«01_k».proof.Proof.Gen.KernelIdeal
public import proofs.«01_k».proof.Proof.Gen.KernelIdeal.Skeleton
public import proofs.«01_k».proof.Proof.Gen.KernelIdeal.Loops
public import Idealize.ShloMosaic.Lib.WritesUnit
public import Idealize.ShloMosaic.Lib.ValueIdx
public import Idealize.ShloMosaic.Lib.Pointwise

public import proofs.«01_k».proof.Proof.Quant
public import proofs.«01_k».proof.Proof.Words
public import Idealize.ShloMosaic.Lib.Bf16Pair
public import Idealize.ShloMosaic.Lib.BitcastPair

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI

open Cert.Grad

/-! ### The largest magnitude of a block of 32 -/

/-- A vector against itself rotated along its lanes, the larger of each two. -/
def stageV (k : BitVec 32) (v : FVec Ideal S32x128 .bf16) : FVec Ideal S32x128 .bf16 :=
  maximumf
    (interleaveRows S32x128 (rowsOfParity 0 S16x128 v bitcasts_S32x128_w16_S16x128_w32) (rowsOfParity 1 S16x128 v bitcasts_S32x128_w16_S16x128_w32) bitcasts_S32x128_w16_S16x128_w32)
    (interleaveRows S32x128 (dynamicRotate 1 k none (rowsOfParity 0 S16x128 v bitcasts_S32x128_w16_S16x128_w32) rotates_S16x128_d1)
      (dynamicRotate 1 k none (rowsOfParity 1 S16x128 v bitcasts_S32x128_w16_S16x128_w32) rotates_S16x128_d1) bitcasts_S32x128_w16_S16x128_w32)

/-- The row of a 32-row vector at any lane number, around its 128 lanes. -/
def ring (v : FVec Ideal S32x128 .bf16) (r : Fin 32) (n : ℕ) : EReal := v (ix2 r ⟨n % 128, Nat.mod_lt _ (by omega)⟩)

theorem rot_read (v : FVec Ideal S32x128 .bf16) (k : BitVec 32) (s : ℕ) (hs : k.toNat + s = 128) (h1 : 1 ≤ s) (h2 : s < 128) (r : Fin 32) (n : ℕ) :
    interleaveRows S32x128 (dynamicRotate 1 k none (rowsOfParity 0 S16x128 v bitcasts_S32x128_w16_S16x128_w32) rotates_S16x128_d1)
      (dynamicRotate 1 k none (rowsOfParity 1 S16x128 v bitcasts_S32x128_w16_S16x128_w32) rotates_S16x128_d1) bitcasts_S32x128_w16_S16x128_w32
      (ix2 r ⟨n % 128, Nat.mod_lt _ (by omega)⟩) = ring v r (n + s) := by
  have hk : ∀ (p : Fin 2) (j : S16x128.Idx), dynamicRotate 1 k none (rowsOfParity p S16x128 v bitcasts_S32x128_w16_S16x128_w32) rotates_S16x128_d1 j
      = v (ix2 ⟨2 * (j 0).val + p.val, by have : (j 0).val < 16 := (j 0).isLt; have := p.isLt; omega⟩ ⟨((j 1).val + s) % 128, Nat.mod_lt _ (by omega)⟩) := by
    intro p j
    unfold dynamicRotate rowsOfParity
    refine congrArg v (funext fun a => ?_)
    match a with
    | ⟨0, _⟩ => exact Fin.ext rfl
    | ⟨1, _⟩ =>
      refine Fin.ext ?_
      show ((j 1).val + 128 - (k.toNat + 0) % 128) % 128 = ((j 1).val + s) % 128
      omega
  unfold interleaveRows ring
  show (if S32x128.row (ix2 r ⟨n % 128, _⟩) % 2 = 0 then _ else _) = _
  have hrow : S32x128.row (ix2 r ⟨n % 128, Nat.mod_lt _ (by omega)⟩) = r.val := rfl
  rw [hrow]
  by_cases h : r.val % 2 = 0
  · rw [if_pos h, hk]
    refine congrArg v (funext fun a => ?_)
    match a with
    | ⟨0, _⟩ => exact Fin.ext (by show 2 * (r.val / 2) + 0 = r.val; omega)
    | ⟨1, _⟩ => exact Fin.ext (by show (n % 128 + s) % 128 = (n + s) % 128; omega)
  · rw [if_neg h, hk]
    refine congrArg v (funext fun a => ?_)
    match a with
    | ⟨0, _⟩ => exact Fin.ext (by show 2 * (r.val / 2) + 1 = r.val; omega)
    | ⟨1, _⟩ => exact Fin.ext (by show (n % 128 + s) % 128 = (n + s) % 128; omega)

theorem stage_read (v : FVec Ideal S32x128 .bf16) (k : BitVec 32) (s : ℕ) (hs : k.toNat + s = 128) (h1 : 1 ≤ s) (h2 : s < 128) (r : Fin 32) (n : ℕ) :
    ring (stageV k v) r n = max (ring v r n) (ring v r (n + s)) := by
  rw [← rot_read v k s hs h1 h2 r n]
  unfold stageV
  rw [interleaveRows_rowsOfParity]
  rfl

theorem pay16_eq (x : Vec Ideal S32x128 .bf16) :
    k0_pay16 x = stageV 127#32 (stageV 126#32 (stageV 124#32 (stageV 120#32 (stageV 112#32 (absf (k0_pay14 x)))))) :=
  interleaveRows_rowsOfParity _ _

theorem max_pairs (g : ℕ → EReal) (n : ℕ) (z : EReal) (h1 h2 h3 h4 h5 : ℕ → EReal)
    (e1 : ∀ n, h1 n = max (g n) (g (n + 16))) (e2 : ∀ n, h2 n = max (h1 n) (h1 (n + 8))) (e3 : ∀ n, h3 n = max (h2 n) (h2 (n + 4)))
    (e4 : ∀ n, h4 n = max (h3 n) (h3 (n + 2))) (e5 : ∀ n, h5 n = max (h4 n) (h4 (n + 1))) :
    h5 n ≤ z ↔ ∀ k, k < 32 → g (n + k) ≤ z := by
  simp only [e5, e4, e3, e2, e1, max_le_iff, Nat.add_assoc, Nat.reduceAdd]
  constructor
  · intro h k hk
    interval_cases k <;> (try simp only [Nat.add_zero]) <;> simp only [h]
  · intro h
    repeat' apply And.intro
    all_goals first | exact h 0 (by norm_num) | exact h _ (by norm_num)

theorem pay14_eq (x : Vec Ideal S32x128 .bf16) : k0_pay14 x = x := by
  unfold k0_pay14; exact shapeCast_id _ _

/-- The largest magnitude: at a lane starting a block of 32, it is at most `z` exactly when the block's magnitudes are. -/
theorem amax_le (x : Vec Ideal S32x128 .bf16) (r : Fin 32) (l : Fin 128) (hl : l.val % 32 = 0) (z : EReal) :
    k0_pay16 x (ix2 r l) ≤ z ↔ ∀ k : Fin 32, max (x (ix2 r ⟨l.val + k.val, by omega⟩) : EReal) (-(x (ix2 r ⟨l.val + k.val, by omega⟩) : EReal)) ≤ z := by
  have h0 : k0_pay16 x (ix2 r l) = ring (k0_pay16 x) r l.val := by
    unfold ring
    exact congrArg (k0_pay16 x) (congrArg (ix2 r) (Fin.ext (Nat.mod_eq_of_lt l.isLt).symm))
  rw [h0, pay16_eq]
  rw [max_pairs (ring (absf (k0_pay14 x)) r) l.val z _ _ _ _ _
    (stage_read _ 112#32 16 rfl (by omega) (by omega) r) (stage_read _ 120#32 8 rfl (by omega) (by omega) r)
    (stage_read _ 124#32 4 rfl (by omega) (by omega) r) (stage_read _ 126#32 2 rfl (by omega) (by omega) r)
    (stage_read _ 127#32 1 rfl (by omega) (by omega) r)]
  have hr : ∀ k : ℕ, (hk : k < 32) → ring (absf (k0_pay14 x)) r (l.val + k)
      = max (x (ix2 r ⟨l.val + k, by omega⟩) : EReal) (-(x (ix2 r ⟨l.val + k, by omega⟩) : EReal)) := by
    intro k hk
    unfold ring
    rw [pay14_eq]
    have : (⟨(l.val + k) % 128, Nat.mod_lt _ (by omega)⟩ : Fin 128) = ⟨l.val + k, by omega⟩ := Fin.ext (Nat.mod_eq_of_lt (by omega))
    rw [this]; rfl
  constructor
  · intro h k; rw [← hr k.val k.isLt]; exact h _ k.isLt
  · intro h k hk; rw [hr k hk]; exact h ⟨k, hk⟩

/-! ### The exponent, by eight comparisons -/

/-- One comparison: the bit is kept where the pattern with it is no larger. -/
def tst (am : EReal) (b bit : BitVec 16) : BitVec 16 :=
  if Ideal.cmp .oge am (Ideal.ofBits .bf16 (b ||| bit)) = 1#1 then b ||| bit else b

/-- The scale's pattern, from the block's largest magnitude. -/
def searchW (am : EReal) : BitVec 16 :=
  if Ideal.cmp .ogt am (Ideal.ofBits .bf16 0x0000#16) = 1#1 then
    tst am (tst am (tst am (tst am (tst am (tst am (tst am (tst am 0#16 16384#16) 8192#16) 4096#16) 2048#16) 1024#16) 512#16) 256#16) 128#16 - 256#16
  else 16256#16

theorem or_words : ∀ (i : Fin 8) (k : Fin 256), (BitVec.ofNat 16 (128 * k.val) ||| BitVec.ofNat 16 (128 * 2 ^ i.val) = BitVec.ofNat 16 (128 * (k.val ||| 2 ^ i.val)))
    ∧ (k.val ||| 2 ^ i.val) < 256 := by decide +kernel

/-- The comparison's effect on the count that the pattern carries. -/
def tstN (n k i : ℕ) : ℕ := if k ||| 2 ^ i ≤ n then k ||| 2 ^ i else k

theorem tstN_lt (n k i : ℕ) (hk : k < 256) (hi : i < 8) : tstN n k i < 256 := by
  unfold tstN; split
  · exact (or_words ⟨i, hi⟩ ⟨k, hk⟩).2
  · exact hk

theorem tst_eq {am : EReal} (h0 : 0 ≤ am) (k i : ℕ) (hk : k < 256) (hi : i < 8) (bit : BitVec 16) (hb : bit = BitVec.ofNat 16 (128 * 2 ^ i)) :
    tst am (BitVec.ofNat 16 (128 * k)) bit = BitVec.ofNat 16 (128 * tstN (cnt am) k i) := by
  obtain ⟨e, hlt⟩ := or_words ⟨i, hi⟩ ⟨k, hk⟩
  unfold tst tstN
  rw [hb]
  dsimp only at e hlt
  rw [e, bf_E8]
  have hc : (Ideal.cmp .oge am (E8 (k ||| 2 ^ i)) = 1#1) ↔ (k ||| 2 ^ i) ≤ cnt am := by
    rw [← le_cnt_iff h0 (by omega)]
    unfold Ideal.cmp
    by_cases h : E8 (k ||| 2 ^ i) ≤ am <;> simp [h]
  by_cases h : (k ||| 2 ^ i) ≤ cnt am
  · rw [if_pos (hc.mpr h), if_pos h]
  · rw [if_neg (mt hc.mp h), if_neg h]

theorem search_all : ∀ n : Fin 256, tstN n (tstN n (tstN n (tstN n (tstN n (tstN n (tstN n (tstN n 0 7) 6) 5) 4) 3) 2) 1) 0 = n.val := by decide +kernel

theorem word_sub : ∀ n : Fin 256, BitVec.ofNat 16 (128 * n.val) - 256#16 = BitVec.ofNat 16 (128 * ((n.val + 510) % 512)) := by decide +kernel
theorem word_inv : ∀ n : Fin 256, 32512#16 - BitVec.ofNat 16 (128 * ((n.val + 510) % 512)) = BitVec.ofNat 16 (128 * (256 - n.val)) := by decide +kernel

theorem searchW_eq {am : EReal} (h0 : 0 ≤ am) : searchW am = BitVec.ofNat 16 (128 * scW am) := by
  have hz : Ideal.ofBits .bf16 0x0000#16 = 0 := by
    have := bf_E8 0; rw [E8_zero] at this; exact this
  unfold searchW scW
  rw [hz]
  by_cases h : am = 0
  · rw [if_pos h, if_neg (by unfold Ideal.cmp; simp [h])]
  · have hp : 0 < am := lt_of_le_of_ne h0 (Ne.symm h)
    rw [if_neg h, if_pos (by unfold Ideal.cmp; simp [hp])]
    have c0 := tst_eq h0 0 7 (by omega) (by omega) 16384#16 (by decide)
    have l0 := tstN_lt (cnt am) 0 7 (by omega) (by omega)
    have c1 := tst_eq h0 _ 6 l0 (by omega) 8192#16 (by decide)
    have l1 := tstN_lt (cnt am) _ 6 l0 (by omega)
    have c2 := tst_eq h0 _ 5 l1 (by omega) 4096#16 (by decide)
    have l2 := tstN_lt (cnt am) _ 5 l1 (by omega)
    have c3 := tst_eq h0 _ 4 l2 (by omega) 2048#16 (by decide)
    have l3 := tstN_lt (cnt am) _ 4 l2 (by omega)
    have c4 := tst_eq h0 _ 3 l3 (by omega) 1024#16 (by decide)
    have l4 := tstN_lt (cnt am) _ 3 l3 (by omega)
    have c5 := tst_eq h0 _ 2 l4 (by omega) 512#16 (by decide)
    have l5 := tstN_lt (cnt am) _ 2 l4 (by omega)
    have c6 := tst_eq h0 _ 1 l5 (by omega) 256#16 (by decide)
    have l6 := tstN_lt (cnt am) _ 1 l5 (by omega)
    have c7 := tst_eq h0 _ 0 l6 (by omega) 128#16 (by decide)
    rw [show (0#16 : BitVec 16) = BitVec.ofNat 16 (128 * 0) from rfl, c0, c1, c2, c3, c4, c5, c6, c7,
      search_all ⟨cnt am, by have := cnt_le am; omega⟩]
    exact word_sub ⟨cnt am, by have := cnt_le am; omega⟩

theorem inv_word {am : EReal} : 32512#16 - BitVec.ofNat 16 (128 * scW am) = BitVec.ofNat 16 (128 * invW am) := by
  unfold scW invW
  by_cases h : am = 0
  · rw [if_pos h, if_pos h]; decide
  · rw [if_neg h, if_neg h]
    exact word_inv ⟨cnt am, by have := cnt_le am; omega⟩

/-! ### The block's pattern, brought to each lane -/

/-- The patterns that the search leaves, lane by lane. -/
def patV (v : FVec Ideal S32x128 .bf16) : IVec S32x128 16 := fun j => searchW (v j)

theorem tst_read (v : FVec Ideal S32x128 .bf16) (b w : IVec S32x128 16) (j : S32x128.Idx) :
    select (cmpf .oge v (bitcastToFloat .bf16 (ori b w))) (ori b w) b j = tst (v j) (b j) (w j) := rfl

theorem select_read (v : FVec Ideal S32x128 .bf16) (b e w : IVec S32x128 16) (j : S32x128.Idx) :
    select (cmpf .ogt v (broadcast S32x128 (Scalar.ofBits .bf16 0x0000#16))) (subi b e) w j
      = if Ideal.cmp .ogt (v j) (Ideal.ofBits .bf16 0x0000#16) = 1#1 then b j - e j else w j := rfl

theorem pay19_eq (v : FVec Ideal S32x128 .bf16) :
    k0_pay19 v k0_pay17 k0_pay18 = bitcast S16x128 32 (patV v) bitcasts_S32x128_w16_S16x128_w32 := by
  unfold k0_pay19
  refine congrArg (fun y => bitcast S16x128 32 y bitcasts_S32x128_w16_S16x128_w32) (funext fun j => ?_)
  refine (select_read v _ _ _ j).trans ?_
  rw [tst_read, tst_read, tst_read, tst_read, tst_read, tst_read, tst_read, tst_read]
  rfl

/-- The lane that a lane's pattern is read from. -/
def laneW (l : ℕ) : BitVec 32 :=
  let a := IntOp.andi (BitVec.ofNat 32 l) 96#32
  if IntOp.cmpi .slt a 0#32 = 1#1 then IntOp.addi a 128#32 else a

theorem laneW_val : ∀ l : Fin 128, (laneW l.val).toNat % 128 = 32 * (l.val / 32) := by decide +kernel

theorem gather_idx (r : Fin 16) (l : Fin 128) :
    (shapeCast S16x128 (shapeCast S16x128x1 (select (cmpi .slt k0_pay20 (broadcast S16x128 0#32)) (addi k0_pay20 (broadcast S16x128 128#32)) k0_pay20)
      shapeCasts_S16x128_S16x128x1) shapeCasts_S16x128x1_S16x128) (ix2 r l) = laneW l.val := by
  have : ∀ y : IVec S16x128 32, (shapeCast S16x128 (shapeCast S16x128x1 y shapeCasts_S16x128_S16x128x1) shapeCasts_S16x128x1_S16x128) (ix2 r l) = y (ix2 r l) := by
    intro y; pointwise
  have hi : k0_pay20 (ix2 r l) = IntOp.andi (BitVec.ofNat 32 l.val) 96#32 := by
    unfold k0_pay20; pointwise
  rw [this]
  show (if IntOp.cmpi .slt (k0_pay20 (ix2 r l)) 0#32 = 1#1 then IntOp.addi (k0_pay20 (ix2 r l)) 128#32 else k0_pay20 (ix2 r l)) = _
  rw [hi]; rfl

theorem pay21_read (y : IVec S32x128 16) (r : Fin 32) (l : Fin 128) :
    k0_pay21 (bitcast S16x128 32 y bitcasts_S32x128_w16_S16x128_w32) k0_pay20 (ix2 r l) = y (ix2 r ⟨32 * (l.val / 32), by omega⟩) := by
  unfold k0_pay21
  refine (bitcast_32_16 _ bitcasts_S16x128_w32_S32x128_w16 (ix2 r l)).trans ?_
  have hrow : S32x128.row (ix2 r l) = r.val := rfl
  rw [dynamicGather_apply, bitcast_16_32]
  have hsrc : (bitcasts_S16x128_w32_S32x128_w16.srcIdx (ix2 r l) (S32x128.row (ix2 r l) / 2) (fun a ha => by
        have := bitcasts_S16x128_w32_S32x128_w16.pos_lt (ix2 r l) 0 (by decide) a ha; omega)) = ix2 (⟨r.val / 2, by omega⟩ : Fin 16) l := by
    funext a
    match a with
    | ⟨0, _⟩ => exact Fin.ext rfl
    | ⟨1, _⟩ => exact Fin.ext rfl
  have hg := gather_idx ⟨r.val / 2, by omega⟩ l
  rw [hsrc, hg]
  have hlane := laneW_val l
  rcases Nat.mod_two_eq_zero_or_one r.val with h | h
  · rw [hrow, h]
    rw [show (16 * 0 : ℕ) = 0 from rfl]
    refine Eq.trans (b := ?_) ?_ ?_
    rotate_left
    · apply BitVec.eq_of_getLsbD_eq; intro i hi
      rw [BitVec.getLsbD_extractLsb', BitVec.getLsbD_append]
      simp only [hi, decide_true, Bool.true_and, Nat.zero_add, if_true]
      rfl
    · refine congrArg y (funext fun a => ?_)
      match a with
      | ⟨0, _⟩ => exact Fin.ext (by show 2 * (r.val / 2) = r.val; omega)
      | ⟨1, _⟩ => exact Fin.ext hlane
  · rw [hrow, h]
    rw [show (16 * 1 : ℕ) = 16 from rfl]
    refine Eq.trans (b := ?_) ?_ ?_
    rotate_left
    · apply BitVec.eq_of_getLsbD_eq; intro i hi
      rw [BitVec.getLsbD_extractLsb', BitVec.getLsbD_append]
      simp only [hi, decide_true, Bool.true_and, if_neg (show ¬ (16 + i < 16) by omega), Nat.add_sub_cancel_left]
      rfl
    · refine congrArg y (funext fun a => ?_)
      match a with
      | ⟨0, _⟩ => exact Fin.ext (by show 2 * (r.val / 2) + 1 = r.val; omega)
      | ⟨1, _⟩ => exact Fin.ext hlane
-- ==== Proof.QDeq.lean ====
/- The quantised and dequantised entry of a slice is the entry's value by `Cert.Grad.deq`, at its block's largest magnitude. -/
module

public import proofs.«01_k».proof.Proof.Gen.KernelIdeal
public import proofs.«01_k».proof.Proof.Gen.KernelIdeal.Skeleton
public import proofs.«01_k».proof.Proof.Gen.KernelIdeal.Loops
public import Idealize.ShloMosaic.Lib.WritesUnit
public import Idealize.ShloMosaic.Lib.ValueIdx
public import Idealize.ShloMosaic.Lib.Pointwise

public import proofs.«01_k».proof.Proof.QVal

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI

open Cert.Grad

/-- The entry, of the pattern that the search leaves. -/
def kEntry (p : BitVec 16) (x : EReal) (r : BitVec 32) : EReal :=
  let a : EReal := min (max x (-x) * Ideal.ofBits .bf16 (32512#16 - p)) (Ideal.ofBits .bf16 0x40C0#16)
  let n : EReal := a * (if Ideal.cmp .olt a (Ideal.ofBits .bf16 0x4000#16) = 1#1 then Ideal.ofBits .bf16 0x4000#16
      else if Ideal.cmp .olt a (Ideal.ofBits .bf16 0x4080#16) = 1#1 then Ideal.ofBits .bf16 0x3F80#16 else Ideal.ofBits .bf16 0x3F00#16)
  let t : EReal := if Ideal.cmp .olt a (Ideal.ofBits .bf16 0x4000#16) = 1#1 then Ideal.ofBits .bf16 0x3F80#16
      else if Ideal.cmp .olt a (Ideal.ofBits .bf16 0x4080#16) = 1#1 then Ideal.ofBits .bf16 0x4000#16 else Ideal.ofBits .bf16 0x4080#16
  let f : EReal := Ideal.liftRound Int.floor n
  let u : EReal := (((r >>> 8).toInt : ℝ) : EReal) * Ideal.ofBits .f32 0x33800000#32
  let q : EReal := (if Ideal.cmp .olt u (n - f) = 1#1 then f + Ideal.ofBits .bf16 0x3F80#16 else f) * (t * Ideal.ofBits .bf16 0x3F00#16)
  (if Ideal.cmp .olt x (Ideal.ofBits .bf16 0x0000#16) = 1#1 then Ideal.ofBits .bf16 0x0000#16 - q else q) * Ideal.ofBits .bf16 p

theorem entry_read (x : Vec Ideal S32x128 .bf16) (r : IVec S32x128 32) (P : IVec S16x128 32) (l : IVec S16x128 32) (j : S32x128.Idx) :
    k0_pay30 (F := Ideal) x (k0_pay22 P l) (k0_pay24 x P l) (k0_pay26 x P l) (k0_pay27 r) (k0_pay28 x P l) j
      = kEntry (k0_pay21 P l j) (x j) (r j) := by
  have h23 : ∀ j, k0_pay23 (F := Ideal) x P l j = min (max (x j : EReal) (-(x j : EReal)) * Ideal.ofBits .bf16 (32512#16 - k0_pay21 P l j)) (Ideal.ofBits .bf16 0x40C0#16) := fun _ => rfl
  have h25 : ∀ j, k0_pay25 (F := Ideal) x P l j = (k0_pay23 (F := Ideal) x P l j : EReal) * (if Ideal.cmp .olt (k0_pay23 (F := Ideal) x P l j) (Ideal.ofBits .bf16 0x4000#16) = 1#1 then Ideal.ofBits .bf16 0x4000#16
      else if Ideal.cmp .olt (k0_pay23 (F := Ideal) x P l j) (Ideal.ofBits .bf16 0x4080#16) = 1#1 then Ideal.ofBits .bf16 0x3F80#16 else Ideal.ofBits .bf16 0x3F00#16) := fun _ => rfl
  have h24 : ∀ j, k0_pay24 (F := Ideal) x P l j = (if Ideal.cmp .olt (k0_pay23 (F := Ideal) x P l j) (Ideal.ofBits .bf16 0x4000#16) = 1#1 then Ideal.ofBits .bf16 0x3F80#16
      else if Ideal.cmp .olt (k0_pay23 (F := Ideal) x P l j) (Ideal.ofBits .bf16 0x4080#16) = 1#1 then Ideal.ofBits .bf16 0x4000#16 else Ideal.ofBits .bf16 0x4080#16) := fun _ => rfl
  have h26 : ∀ j, k0_pay26 (F := Ideal) x P l j = Ideal.liftRound Int.floor (k0_pay25 (F := Ideal) x P l j) := fun _ => rfl
  have h27 : k0_pay27 (F := Ideal) r j = (((r j >>> 8).toInt : ℝ) : EReal) * Ideal.ofBits .f32 0x33800000#32 := rfl
  have h28 : k0_pay28 (F := Ideal) x P l j = (k0_pay25 (F := Ideal) x P l j : EReal) - k0_pay26 (F := Ideal) x P l j := rfl
  have h29 : ∀ (v : FVec Ideal S32x128 .bf16) (w z : FVec Ideal S32x128 .f32), k0_pay29 (F := Ideal) v w z j
      = if Ideal.cmp .olt (w j) (z j) = 1#1 then (v j : EReal) + Ideal.ofBits .bf16 0x3F80#16 else v j := fun _ _ _ => rfl
  have h22 : k0_pay22 (F := Ideal) P l j = Ideal.ofBits .bf16 (k0_pay21 P l j) := rfl
  have h30 : ∀ (b g v : FVec Ideal S32x128 .bf16) (w z : FVec Ideal S32x128 .f32), k0_pay30 (F := Ideal) x b g v w z j
      = (if Ideal.cmp .olt (x j) (Ideal.ofBits .bf16 0x0000#16) = 1#1 then Ideal.ofBits .bf16 0x0000#16 - (k0_pay29 (F := Ideal) v w z j : EReal) * ((g j : EReal) * Ideal.ofBits .bf16 0x3F00#16)
          else (k0_pay29 (F := Ideal) v w z j : EReal) * ((g j : EReal) * Ideal.ofBits .bf16 0x3F00#16)) * (b j : EReal) := fun _ _ _ _ _ => rfl
  rw [h30, h29, h22, h28, h27, h24, h26, h25, h23]
  rfl

theorem b0 : Ideal.ofBits .bf16 0x0000#16 = 0 := by have := bf_E8 0; rw [E8_zero] at this; exact this
theorem bHalf : Ideal.ofBits .bf16 0x3F00#16 = ((1 / 2 : ℝ) : EReal) := by
  have := bf_E8 126; rw [E8_pos (by omega) (by omega)] at this; refine this.trans ?_; congr 1; norm_num
theorem b1 : Ideal.ofBits .bf16 0x3F80#16 = 1 := by
  have := bf_E8 127; rw [E8_pos (by omega) (by omega)] at this; refine this.trans ?_
  norm_num
theorem b2 : Ideal.ofBits .bf16 0x4000#16 = 2 := by
  have := bf_E8 128; rw [E8_pos (by omega) (by omega)] at this; refine this.trans ?_
  rw [show (2 : EReal) = ((2 : ℝ) : EReal) from rfl]; congr 1; norm_num
theorem b4 : Ideal.ofBits .bf16 0x4080#16 = 4 := by
  have := bf_E8 129; rw [E8_pos (by omega) (by omega)] at this; refine this.trans ?_
  rw [show (4 : EReal) = ((4 : ℝ) : EReal) from rfl]; congr 1; norm_num
theorem b6 : Ideal.ofBits .bf16 0x40C0#16 = 6 := by
  rw [show (6 : EReal) = ((6 : ℝ) : EReal) from rfl]
  simp [Ideal.ofBits, Ideal.ieee]
  rw [← EReal.coe_mul]; norm_num
theorem uBits : Ideal.ofBits .f32 0x33800000#32 = E8 103 := f32_E8 103

theorem olt_iff (x y : EReal) : (Ideal.cmp .olt x y = 1#1) ↔ x < y := by
  unfold Ideal.cmp
  by_cases h : x < y <;> simp [h]

theorem shift_int (r : BitVec 32) : (((r >>> 8).toInt : ℝ) : EReal) = (((r.toNat / 256 : ℕ) : ℝ) : EReal) := by
  have h1 : (r >>> 8).toNat = r.toNat / 256 := by rw [BitVec.toNat_ushiftRight, Nat.shiftRight_eq_div_pow]
  have h2 : (r >>> 8).toInt = ((r.toNat / 256 : ℕ) : ℤ) := by
    have := r.isLt
    rw [BitVec.toInt_eq_toNat_of_lt (by rw [h1]; omega), h1]
  rw [h2]; norm_cast

/-- The kernel's entry, at the pattern of its block, is the entry's value. -/
theorem kEntry_eq {am : EReal} (h0 : 0 ≤ am) (x : EReal) (r : BitVec 32) : kEntry (searchW am) x r = deq am x r := by
  obtain ⟨a, ha, -, -⟩ := clampA_real am x
  unfold kEntry deq
  rw [searchW_eq h0, inv_word, bf_E8, bf_E8, b0, b1, b2, b4, b6, bHalf, uBits, shift_int]
  simp only [olt_iff]
  have hk := roundK_eq a (uni r)
  rw [← ha] at hk
  rw [← hk]
  unfold roundK invP twoP clampA uni
  simp only [zero_sub]

theorem pay15_eq (r : Vec Ideal S32x128 .i32) : k0_pay15 (F := Ideal) r = r := by
  unfold k0_pay15; exact shapeCast_id _ _

theorem amax_nonneg (x : Vec Ideal S32x128 .bf16) (r : Fin 32) (l : Fin 128) (hl : l.val % 32 = 0) : (0 : EReal) ≤ k0_pay16 x (ix2 r l) := by
  have h := (amax_le x r l hl _).mp le_rfl ⟨0, by omega⟩
  refine le_trans ?_ h
  rcases le_total 0 (x (ix2 r ⟨l.val + 0, by omega⟩) : EReal) with h | h
  · exact le_max_of_le_left h
  · exact le_max_of_le_right (by simpa using h)

/-- A slice's quantised and dequantised entry. -/
theorem dqV_read (x : Vec Ideal S32x128 .bf16) (r : Vec Ideal S32x128 .i32) (a : Fin 32) (b : Fin 128) :
    dqV (F := Ideal) x r (ix2 a b) = deq (k0_pay16 x (ix2 a ⟨32 * (b.val / 32), by omega⟩)) (x (ix2 a b)) (r (ix2 a b)) := by
  unfold dqV
  rw [entry_read, pay14_eq, pay15_eq, pay19_eq, pay21_read]
  exact kEntry_eq (amax_nonneg x a _ (by show 32 * (b.val / 32) % 32 = 0; omega)) _ _
-- ==== Proof.Code.lean ====
/- The four-bit codes: what the rounded magnitude's code is, and the words that carry four of them. -/
module

public import proofs.«01_k».proof.Proof.Wt

@[expose] public section

noncomputable section

namespace Cert.Grad

open Idealize.ShloMosaic

/-- The code of a magnitude on the grid 0, 1/2, 1, 3/2, 2, 3, 4, 6. -/
def codeOf (q : EReal) : ℕ :=
  if q < ((1 / 2 : ℝ) : EReal) then 0 else if q < ((1 : ℝ) : EReal) then 1 else if q < ((3 / 2 : ℝ) : EReal) then 2 else if q < ((2 : ℝ) : EReal) then 3
  else if q < ((3 : ℝ) : EReal) then 4 else if q < ((4 : ℝ) : EReal) then 5 else if q < ((6 : ℝ) : EReal) then 6 else 7

theorem codeOf_mag (n : ℕ) (hn : n < 8) : codeOf ((magW n : ℝ) : EReal) = n := by
  unfold codeOf
  simp only [EReal.coe_lt_coe_iff]
  interval_cases n <;> norm_num [magW]

/-- THE PACKED CODE OF AN ENTRY: its rounded magnitude's code, and eight more where the entry is negative and the magnitude is not zero. -/
def nibC (am x : EReal) (r : BitVec 32) : ℕ :=
  codeOf (roundR (clampA am x) (uni r)) + if x < 0 ∧ codeOf (roundR (clampA am x) (uni r)) ≠ 0 then 8 else 0

/-- The kernel's integer grid point. -/
def idxK (a u : EReal) : EReal :=
  if u < a * invP a - Ideal.liftRound Int.floor (a * invP a) then Ideal.liftRound Int.floor (a * invP a) + 1 else Ideal.liftRound Int.floor (a * invP a)

/-- The first code of the grid point's range, less the range's first grid point. -/
def offP (a : EReal) : ℤ := if a < 2 then 0 else if a < 4 then 2 else 4

theorem roundK_idx (a u : EReal) : roundK a u = idxK a u * (twoP a * ((1 / 2 : ℝ) : EReal)) := rfl

theorem idx_real (t : ℝ) (u : EReal) : (if u < (t : EReal) - Ideal.liftRound Int.floor (t : EReal) then Ideal.liftRound Int.floor (t : EReal) + 1 else Ideal.liftRound Int.floor (t : EReal))
    = (((if u < ((t - ⌊t⌋ : ℝ) : EReal) then ⌊t⌋ + 1 else ⌊t⌋ : ℤ) : ℝ) : EReal) := by
  rw [lift_coe, ← EReal.coe_sub, show (1 : EReal) = ((1 : ℝ) : EReal) from rfl, ← EReal.coe_add]
  by_cases h : u < ((t - ⌊t⌋ : ℝ) : EReal)
  · rw [if_pos h, if_pos h]; push_cast; rfl
  · rw [if_neg h, if_neg h]

theorem natOf : Int.toNat 0 = 0 ∧ Int.toNat 1 = 1 ∧ Int.toNat 2 = 2 ∧ Int.toNat 3 = 3 ∧ Int.toNat 4 = 4 ∧ Int.toNat 5 = 5 ∧ Int.toNat 6 = 6 ∧ Int.toNat 7 = 7 := by decide

theorem idx_code (a : ℝ) (h0 : 0 ≤ a) (h6 : a ≤ 6) (u : EReal) (hu : 0 ≤ u) :
    ∃ (n : ℕ) (z : ℤ), n < 8 ∧ 0 ≤ z ∧ z ≤ 4 ∧ idxK a u = ((z : ℝ) : EReal) ∧ z + offP a = n ∧ roundR a u = ((magW n : ℝ) : EReal) := by
  have e2 : (2 : EReal) = ((2 : ℝ) : EReal) := rfl
  have e4 : (4 : EReal) = ((4 : ℝ) : EReal) := rfl
  have e1 : (1 : EReal) = ((1 : ℝ) : EReal) := rfl
  rw [← roundK_eq, roundK_idx]
  unfold idxK offP twoP invP
  simp only [e2, e4, e1, EReal.coe_lt_coe_iff]
  by_cases h2 : a < 2
  · simp only [if_pos h2, ← EReal.coe_mul]
    have hz := idx_real (a * 2) u
    rw [e1] at hz
    rw [hz]
    have l0 : 0 ≤ ⌊a * 2⌋ := Int.floor_nonneg.mpr (by linarith)
    have l1 : ⌊a * 2⌋ < 4 := Int.floor_lt.mpr (by push_cast; linarith)
    generalize hw : (if u < ((a * 2 - ⌊a * 2⌋ : ℝ) : EReal) then ⌊a * 2⌋ + 1 else ⌊a * 2⌋ : ℤ) = z
    have z0 : 0 ≤ z := by rw [← hw]; split <;> omega
    have z1 : z ≤ 4 := by rw [← hw]; split <;> omega
    refine ⟨z.toNat, z, by omega, z0, z1, rfl, by omega, ?_⟩
    rw [← EReal.coe_mul]
    refine congrArg Real.toEReal ?_
    clear hw hz
    interval_cases z <;> norm_num [magW, natOf]
  · simp only [if_neg h2]
    by_cases h4 : a < 4
    · simp only [if_pos h4, ← EReal.coe_mul]
      have hz := idx_real (a * 1) u
      rw [e1] at hz
      rw [hz]
      have l0 : 2 ≤ ⌊a * 1⌋ := Int.le_floor.mpr (by push_cast; linarith)
      have l1 : ⌊a * 1⌋ < 4 := Int.floor_lt.mpr (by push_cast; linarith)
      generalize hw : (if u < ((a * 1 - ⌊a * 1⌋ : ℝ) : EReal) then ⌊a * 1⌋ + 1 else ⌊a * 1⌋ : ℤ) = z
      have z0 : 2 ≤ z := by rw [← hw]; split <;> omega
      have z1 : z ≤ 4 := by rw [← hw]; split <;> omega
      refine ⟨(z + 2).toNat, z, by omega, by omega, z1, rfl, by omega, ?_⟩
      rw [← EReal.coe_mul]
      refine congrArg Real.toEReal ?_
      clear hw hz
      interval_cases z <;> norm_num [magW, natOf]
    · simp only [if_neg h4, ← EReal.coe_mul]
      have hz := idx_real (a * (1 / 2)) u
      rw [e1] at hz
      rw [hz]
      have l0 : 2 ≤ ⌊a * (1 / 2)⌋ := Int.le_floor.mpr (by push_cast; linarith)
      have l1 : ⌊a * (1 / 2)⌋ < 4 := Int.floor_lt.mpr (by push_cast; linarith)
      generalize hw : (if u < ((a * (1 / 2) - ⌊a * (1 / 2)⌋ : ℝ) : EReal) then ⌊a * (1 / 2)⌋ + 1 else ⌊a * (1 / 2)⌋ : ℤ) = z
      have z0 : 2 ≤ z := by rw [← hw]; split <;> omega
      have z1 : z ≤ 3 := by
        rw [← hw]
        by_cases h3 : ⌊a * (1 / 2)⌋ = 3
        · have hle : a * (1 / 2) - (⌊a * (1 / 2)⌋ : ℝ) ≤ 0 := by rw [h3]; push_cast; linarith
          rw [if_neg (not_lt.mpr (le_trans (by exact_mod_cast hle) hu)), h3]
        · split <;> omega
      refine ⟨(z + 4).toNat, z, by omega, by omega, by omega, rfl, by omega, ?_⟩
      rw [← EReal.coe_mul]
      refine congrArg Real.toEReal ?_
      clear hw hz
      interval_cases z <;> norm_num [magW, natOf]

theorem uni_nonneg (r : BitVec 32) : 0 ≤ uni r := by
  unfold uni
  exact mul_nonneg (EReal.coe_nonneg.mpr (Nat.cast_nonneg _)) (E8_nonneg (by omega))

/-- An entry's code: its grid point's number and range. -/
theorem entry_code (am x : EReal) (r : BitVec 32) : codeOf (roundR (clampA am x) (uni r)) < 8
    ∧ roundR (clampA am x) (uni r) = ((magW (codeOf (roundR (clampA am x) (uni r))) : ℝ) : EReal)
    ∧ ∃ z : ℤ, 0 ≤ z ∧ z ≤ 4 ∧ idxK (clampA am x) (uni r) = ((z : ℝ) : EReal) ∧ z + offP (clampA am x) = codeOf (roundR (clampA am x) (uni r)) := by
  obtain ⟨a, ha, h0, h6⟩ := clampA_real am x
  obtain ⟨n, z, hn, z0, z1, hi, ho, hr⟩ := idx_code a h0 h6 (uni r) (uni_nonneg r)
  rw [ha, hr, codeOf_mag n hn]
  exact ⟨hn, rfl, z, z0, z1, hi, ho⟩

theorem nibC_lt (am x : EReal) (r : BitVec 32) : nibC am x r < 16 := by
  have := (entry_code am x r).1
  unfold nibC
  split <;> omega

theorem toI16 (z : ℤ) (h0 : 0 ≤ z) (h4 : z ≤ 4) : Ideal.fptosi 16 ((z : ℝ) : EReal) = BitVec.ofInt 16 z := by
  unfold Ideal.fptosi
  rw [Ideal.toIntClamped_coe]
  have : (0 : ℝ) ≤ (z : ℝ) := by exact_mod_cast h0
  rw [if_pos this, Int.floor_intCast]
  interval_cases z <;> rfl

theorem toI32 (n : ℕ) (h : n < 8) : Ideal.fptosi 32 ((n : ℝ) : EReal) = BitVec.ofNat 32 n := by
  unfold Ideal.fptosi
  rw [Ideal.toIntClamped_coe]
  have : (0 : ℝ) ≤ (n : ℝ) := Nat.cast_nonneg n
  rw [if_pos this, Int.floor_natCast]
  interval_cases n <;> rfl

/-- The reference's code of a magnitude on the grid is its number. -/
theorem ref_code (n : ℕ) (hn : n < 8) :
    (if ((magW n : ℝ) : EReal) < 2 then ((magW n : ℝ) : EReal) * 2 else if ((magW n : ℝ) : EReal) < 4 then ((magW n : ℝ) : EReal) + 2 else if ((magW n : ℝ) : EReal) = 4 then 6 else 7) = ((n : ℝ) : EReal) := by
  have e2 : (2 : EReal) = ((2 : ℝ) : EReal) := rfl
  have e4 : (4 : EReal) = ((4 : ℝ) : EReal) := rfl
  have e6 : (6 : EReal) = ((6 : ℝ) : EReal) := rfl
  have e7 : (7 : EReal) = ((7 : ℝ) : EReal) := rfl
  rw [e2, e4, e6, e7]
  simp only [← EReal.coe_mul, ← EReal.coe_add, EReal.coe_lt_coe_iff, EReal.coe_eq_coe_iff]
  interval_cases n <;> norm_num [magW]

/-! ### The words -/

/-- A byte's code completed: the sign bit moved next to the magnitude, where that is not zero. -/
def fixB (B : BitVec 8) : BitVec 8 := (B &&& 7#8) ||| ((((B &&& 7#8) + 7#8) &&& (B >>> 4)) &&& 8#8)

theorem and_byte (W : BitVec 32) (q : ℕ) (hq : q < 4) : (W &&& 117901063#32).extractLsb' (8 * q) 8 = W.extractLsb' (8 * q) 8 &&& 7#8 := by
  apply BitVec.eq_of_getLsbD_eq
  intro i hi
  interval_cases q <;> interval_cases i <;> simp

theorem add_byte (M : BitVec 32) (h : ∀ q < 4, (M.extractLsb' (8 * q) 8).toNat ≤ 7) (q : ℕ) (hq : q < 4) :
    (M + 117901063#32).extractLsb' (8 * q) 8 = M.extractLsb' (8 * q) 8 + 7#8 := by
  have e : ∀ (X : BitVec 32) (q : ℕ), (X.extractLsb' (8 * q) 8).toNat = X.toNat / 2 ^ (8 * q) % 256 := fun X q => by
    rw [BitVec.extractLsb'_toNat, Nat.shiftRight_eq_div_pow]
  have h0 := h 0 (by omega)
  have h1 := h 1 (by omega)
  have h2 := h 2 (by omega)
  have h3 := h 3 (by omega)
  rw [e] at h0 h1 h2 h3
  have hM := M.isLt
  apply BitVec.eq_of_toNat_eq
  rw [e, BitVec.toNat_add, BitVec.toNat_add, e]
  generalize M.toNat = m at h0 h1 h2 h3 hM ⊢
  norm_num at h0 h1 h2 h3
  interval_cases q <;> norm_num <;> omega

theorem fix_byte (W : BitVec 32) (q : ℕ) (hq : q < 4) :
    ((W &&& 117901063#32) ||| ((((W &&& 117901063#32) + 117901063#32) &&& (W >>> 4)) &&& 134744072#32)).extractLsb' (8 * q) 8 = fixB (W.extractLsb' (8 * q) 8) := by
  have h7 : ∀ q < 4, ((W &&& 117901063#32).extractLsb' (8 * q) 8).toNat ≤ 7 := fun q hq => by
    rw [and_byte W q hq, BitVec.toNat_and]; exact Nat.and_le_right
  have ha := add_byte _ h7 q hq
  have hm := and_byte W q hq
  rw [hm] at ha
  generalize (W &&& 117901063#32) + 117901063#32 = S at ha
  generalize W &&& 117901063#32 = M at hm
  unfold fixB
  rw [← ha, ← hm]
  apply BitVec.eq_of_getLsbD_eq
  intro i hi
  interval_cases q <;> interval_cases i <;> simp

theorem fix_val : ∀ (n : Fin 8) (b : Bool), fixB ((BitVec.ofNat 16 (n.val + if b then 128 else 0)).setWidth 8) = BitVec.ofNat 8 (n.val + if b ∧ n.val ≠ 0 then 8 else 0) := by decide +kernel

/-- Joining two words of codes joins their bytes' codes. -/
theorem join_byte (A B : BitVec 32) (hB : ∀ q < 4, (B.extractLsb' (8 * q) 8).toNat < 16) (q : ℕ) (hq : q < 4) :
    (A ||| (B <<< 4)).extractLsb' (8 * q) 8 = A.extractLsb' (8 * q) 8 ||| (B.extractLsb' (8 * q) 8 <<< 4) := by
  have hb : ∀ q < 4, ∀ i, 4 ≤ i → i < 8 → B.getLsbD (8 * q + i) = false := by
    intro q hq i h4 h8
    have h := hB q hq
    have : (B.extractLsb' (8 * q) 8).getLsbD i = false := by
      rw [BitVec.getLsbD]
      exact Nat.testBit_lt_two_pow (lt_of_lt_of_le h (by rw [show (16 : ℕ) = 2 ^ 4 from rfl]; exact Nat.pow_le_pow_right (by omega) h4))
    rw [BitVec.getLsbD_extractLsb', decide_eq_true h8, Bool.true_and] at this
    exact this
  apply BitVec.eq_of_getLsbD_eq
  intro i hi
  have b1 := fun i => hb 0 (by omega) i
  have b2 := fun i => hb 1 (by omega) i
  have b3 := fun i => hb 2 (by omega) i
  have c4 := b1 4 (by omega) (by omega); have c5 := b1 5 (by omega) (by omega); have c6 := b1 6 (by omega) (by omega); have c7 := b1 7 (by omega) (by omega)
  have d4 := b2 4 (by omega) (by omega); have d5 := b2 5 (by omega) (by omega); have d6 := b2 6 (by omega) (by omega); have d7 := b2 7 (by omega) (by omega)
  have f4 := b3 4 (by omega) (by omega); have f5 := b3 5 (by omega) (by omega); have f6 := b3 6 (by omega) (by omega); have f7 := b3 7 (by omega) (by omega)
  norm_num at c4 c5 c6 c7 d4 d5 d6 d7 f4 f5 f6 f7
  interval_cases q <;> interval_cases i <;> simp [*]

theorem join_val : ∀ (n m : Fin 16), BitVec.ofNat 8 n.val ||| (BitVec.ofNat 8 m.val <<< 4) = BitVec.ofNat 8 (n.val + 16 * m.val) := by decide +kernel
theorem join_ref : ∀ (n m : Fin 16), (BitVec.ofNat 32 n.val ||| (BitVec.ofNat 32 m.val <<< 4)).setWidth 8 = BitVec.ofNat 8 (n.val + 16 * m.val) := by decide +kernel

end Cert.Grad

end
-- ==== Proof.CVal.lean ====
/- The kernel's packed codes: what the two slices' words of codes hold at a byte. -/
module

public import proofs.«01_k».proof.Proof.Gen.KernelIdeal
public import proofs.«01_k».proof.Proof.Gen.KernelIdeal.Skeleton
public import proofs.«01_k».proof.Proof.Gen.KernelIdeal.Loops
public import Idealize.ShloMosaic.Lib.WritesUnit
public import Idealize.ShloMosaic.Lib.ValueIdx
public import Idealize.ShloMosaic.Lib.Pointwise

public import proofs.«01_k».proof.Proof.QDeq
public import proofs.«01_k».proof.Proof.DVal
public import proofs.«01_k».proof.Proof.Codes
public import proofs.«01_k».proof.Proof.Code

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI

open Cert.Grad

/-! ### An entry's code -/

/-- The code, of the pattern that the search leaves. -/
def kCode (p : BitVec 16) (x : EReal) (r : BitVec 32) : BitVec 16 :=
  let a : EReal := min (max x (-x) * Ideal.ofBits .bf16 (32512#16 - p)) (Ideal.ofBits .bf16 0x40C0#16)
  let n : EReal := a * (if Ideal.cmp .olt a (Ideal.ofBits .bf16 0x4000#16) = 1#1 then Ideal.ofBits .bf16 0x4000#16
      else if Ideal.cmp .olt a (Ideal.ofBits .bf16 0x4080#16) = 1#1 then Ideal.ofBits .bf16 0x3F80#16 else Ideal.ofBits .bf16 0x3F00#16)
  let f : EReal := Ideal.liftRound Int.floor n
  let u : EReal := (((r >>> 8).toInt : ℝ) : EReal) * Ideal.ofBits .f32 0x33800000#32
  ((Ideal.fptosi 16 (if Ideal.cmp .olt u (n - f) = 1#1 then f + Ideal.ofBits .bf16 0x3F80#16 else f)
      + (if Ideal.cmp .olt a (Ideal.ofBits .bf16 0x4000#16) = 1#1 then 0#16 else if Ideal.cmp .olt a (Ideal.ofBits .bf16 0x4080#16) = 1#1 then 2#16 else 4#16)) &&& 15#16)
    ||| (if Ideal.cmp .olt x (Ideal.ofBits .bf16 0x0000#16) = 1#1 then 128#16 else 0#16)

/-- The codes of a slice, sixteen bits to each. -/
def code16 (x a v : FVec Ideal S32x128 .bf16) (w z : FVec Ideal S32x128 .f32) : IVec S32x128 16 :=
  ori (andi (addi (fptosi 16 (k0_pay29 v w z)) (select (cmpf .olt a (broadcast S32x128 (Scalar.ofBits .bf16 0x4000#16))) (broadcast S32x128 0#16)
      (select (cmpf .olt a (broadcast S32x128 (Scalar.ofBits .bf16 0x4080#16))) (broadcast S32x128 2#16) (broadcast S32x128 4#16)))) (broadcast S32x128 15#16))
    (select (cmpf .olt x (broadcast S32x128 (Scalar.ofBits .bf16 0x0000#16))) (broadcast S32x128 128#16) (broadcast S32x128 0#16))

theorem code16_read (x : Vec Ideal S32x128 .bf16) (r : IVec S32x128 32) (P : IVec S16x128 32) (l : IVec S16x128 32) (j : S32x128.Idx) :
    code16 x (k0_pay23 x P l) (k0_pay26 x P l) (k0_pay27 r) (k0_pay28 x P l) j = kCode (k0_pay21 P l j) (x j) (r j) := by
  have h23 : ∀ j, k0_pay23 (F := Ideal) x P l j = min (max (x j : EReal) (-(x j : EReal)) * Ideal.ofBits .bf16 (32512#16 - k0_pay21 P l j)) (Ideal.ofBits .bf16 0x40C0#16) := fun _ => rfl
  have h25 : ∀ j, k0_pay25 (F := Ideal) x P l j = (k0_pay23 (F := Ideal) x P l j : EReal) * (if Ideal.cmp .olt (k0_pay23 (F := Ideal) x P l j) (Ideal.ofBits .bf16 0x4000#16) = 1#1 then Ideal.ofBits .bf16 0x4000#16
      else if Ideal.cmp .olt (k0_pay23 (F := Ideal) x P l j) (Ideal.ofBits .bf16 0x4080#16) = 1#1 then Ideal.ofBits .bf16 0x3F80#16 else Ideal.ofBits .bf16 0x3F00#16) := fun _ => rfl
  have h26 : ∀ j, k0_pay26 (F := Ideal) x P l j = Ideal.liftRound Int.floor (k0_pay25 (F := Ideal) x P l j) := fun _ => rfl
  have h27 : k0_pay27 (F := Ideal) r j = (((r j >>> 8).toInt : ℝ) : EReal) * Ideal.ofBits .f32 0x33800000#32 := rfl
  have h28 : k0_pay28 (F := Ideal) x P l j = (k0_pay25 (F := Ideal) x P l j : EReal) - k0_pay26 (F := Ideal) x P l j := rfl
  have hc : ∀ (a v : FVec Ideal S32x128 .bf16) (w z : FVec Ideal S32x128 .f32), code16 x a v w z j
      = ((Ideal.fptosi 16 (if Ideal.cmp .olt (w j) (z j) = 1#1 then (v j : EReal) + Ideal.ofBits .bf16 0x3F80#16 else v j)
          + (if Ideal.cmp .olt (a j) (Ideal.ofBits .bf16 0x4000#16) = 1#1 then 0#16 else if Ideal.cmp .olt (a j) (Ideal.ofBits .bf16 0x4080#16) = 1#1 then 2#16 else 4#16)) &&& 15#16)
        ||| (if Ideal.cmp .olt (x j) (Ideal.ofBits .bf16 0x0000#16) = 1#1 then 128#16 else 0#16) := fun _ _ _ _ => rfl
  rw [hc, h28, h27, h26, h25, h23]
  rfl

theorem code_word : ∀ (z : Fin 5) (n : Fin 8) (b : Bool) (o : Fin 3), z.val + 2 * o.val = n.val →
    ((BitVec.ofInt 16 (z.val : ℤ) + (if o.val = 0 then 0#16 else if o.val = 1 then 2#16 else 4#16)) &&& 15#16) ||| (if b then 128#16 else 0#16)
      = BitVec.ofNat 16 (n.val + if b then 128 else 0) := by decide +kernel

theorem kCode_eq {am : EReal} (h0 : 0 ≤ am) (x : EReal) (r : BitVec 32) : kCode (searchW am) x r
    = BitVec.ofNat 16 (codeOf (roundR (clampA am x) (uni r)) + if x < 0 then 128 else 0) := by
  obtain ⟨hn, -, z, z0, z4, hi, ho⟩ := entry_code am x r
  generalize codeOf (roundR (clampA am x) (uni r)) = n at hn ho ⊢
  have hk : kCode (searchW am) x r = ((Ideal.fptosi 16 (idxK (clampA am x) (uni r)) + (if clampA am x < 2 then 0#16 else if clampA am x < 4 then 2#16 else 4#16)) &&& 15#16)
      ||| (if x < 0 then 128#16 else 0#16) := by
    unfold kCode
    rw [searchW_eq h0, inv_word, bf_E8, b0, b1, b2, b4, b6, bHalf, uBits, shift_int]
    simp only [olt_iff]
    rfl
  rw [hk, hi, toI16 z z0 z4]
  have z5 : z.toNat < 5 := by omega
  have hz : z = (((⟨z.toNat, z5⟩ : Fin 5).val : ℕ) : ℤ) := by show z = (z.toNat : ℤ); omega
  unfold offP at ho
  have key := fun o h => code_word ⟨z.toNat, z5⟩ ⟨n, hn⟩ (decide (x < 0)) o h
  simp only [decide_eq_true_eq] at key
  rw [← hz] at key
  by_cases h2 : clampA am x < 2
  · rw [if_pos h2] at ho ⊢
    exact key 0 (by show z.toNat + 0 = n; omega)
  · rw [if_neg h2] at ho ⊢
    by_cases h4 : clampA am x < 4
    · rw [if_pos h4] at ho ⊢
      exact key 1 (by show z.toNat + 2 = n; omega)
    · rw [if_neg h4] at ho ⊢
      exact key 2 (by show z.toNat + 4 = n; omega)

/-! ### The words -/

/-- Two halves joined and split again. -/
theorem halves_read (y : IVec S32x128 16) (r : Fin 32) (l : Fin 128) :
    bitcast S32x128 16 (bitcast S16x128 32 y bitcasts_S32x128_w16_S16x128_w32) bitcasts_S16x128_w32_S32x128_w16 (ix2 r l) = y (ix2 r l) := by
  apply BitVec.eq_of_getLsbD_eq
  intro i hi
  rw [bitcast_getLsbD (v := 32) _ bitcasts_S16x128_w32_S32x128_w16 (ix2 r l) i hi (by decide)]
  have hrow : S32x128.row (ix2 r l) = r.val := rfl
  have hsrc : ∀ j : S16x128.Idx, j = ix2 (⟨r.val / 2, by omega⟩ : Fin 16) l →
      (bitcast S16x128 32 y bitcasts_S32x128_w16_S16x128_w32 j).getLsbD ((S32x128.row (ix2 r l) * 16 + i) % 32) = (y (ix2 r l)).getLsbD i := by
    rintro j rfl
    have hq : (S32x128.row (ix2 r l) * 16 + i) % 32 < 32 := by omega
    rw [bitcast_getLsbD (v := 16) y bitcasts_S32x128_w16_S16x128_w32 _ _ hq (by decide)]
    have hrow' : S16x128.row (ix2 (⟨r.val / 2, by omega⟩ : Fin 16) l) = r.val / 2 := rfl
    have hb : (S16x128.row (ix2 (⟨r.val / 2, by omega⟩ : Fin 16) l) * 32 + (S32x128.row (ix2 r l) * 16 + i) % 32) % 16 = i := by rw [hrow', hrow]; omega
    rw [hb]
    refine congrArg (fun j => (y j).getLsbD i) (funext fun b => ?_)
    match b with
    | ⟨0, _⟩ => exact Fin.ext (by show (S16x128.row (ix2 (⟨r.val / 2, by omega⟩ : Fin 16) l) * 32 + (S32x128.row (ix2 r l) * 16 + i) % 32) / 16 = r.val; rw [hrow', hrow]; omega)
    | ⟨1, _⟩ => exact Fin.ext rfl
  refine hsrc _ (funext fun b => ?_)
  match b with
  | ⟨0, _⟩ => exact Fin.ext (by show (S32x128.row (ix2 r l) * 16 + i) / 32 = r.val / 2; rw [hrow]; omega)
  | ⟨1, _⟩ => exact Fin.ext rfl

theorem pay31_byte (x a v : FVec Ideal S32x128 .bf16) (w z : FVec Ideal S32x128 .f32) (b : Fin 32) (l : Fin 128) :
    (k0_pay31 x a v w z (ix2 ⟨b.val / 4, by omega⟩ l)).extractLsb' (8 * (b.val % 4)) 8 = (code16 x a v w z (ix2 b l)).setWidth 8 := by
  refine (word_byte (trunci 8 (bitcast S32x128 16 (bitcast S16x128 32 (code16 x a v w z) bitcasts_S32x128_w16_S16x128_w32) bitcasts_S16x128_w32_S32x128_w16) natLt_8_16) b l).trans ?_
  exact congrArg (BitVec.setWidth 8) (halves_read _ b l)

/-- A slice's words of codes: a byte is the entry's code. -/
theorem nW_read (x : Vec Ideal S32x128 .bf16) (r : Vec Ideal S32x128 .i32) (a : Fin 32) (l : Fin 128) :
    (nW (F := Ideal) x r (ix2 ⟨a.val / 4, by omega⟩ l)).extractLsb' (8 * (a.val % 4)) 8
      = BitVec.ofNat 8 (nibC (k0_pay16 x (ix2 a ⟨32 * (l.val / 32), by omega⟩)) (x (ix2 a l)) (r (ix2 a l))) := by
  have hw : ∀ (x a v : FVec Ideal S32x128 .bf16) (w z : FVec Ideal S32x128 .f32) (j : S8x128.Idx), k0_pay34 (k0_pay32 x a v w z) (k0_pay33 x a v w z) 134744072#32 j
      = (k0_pay31 x a v w z j &&& 117901063#32) ||| ((((k0_pay31 x a v w z j &&& 117901063#32) + 117901063#32) &&& (k0_pay31 x a v w z j >>> 4)) &&& 134744072#32) := fun _ _ _ _ _ _ => rfl
  unfold nW
  rw [hw, fix_byte _ _ (Nat.mod_lt _ (by omega)), pay31_byte, code16_read, pay14_eq, pay15_eq, pay19_eq, pay21_read]
  have ha := amax_nonneg x a ⟨32 * (l.val / 32), by omega⟩ (by show 32 * (l.val / 32) % 32 = 0; omega)
  unfold patV
  rw [kCode_eq ha]
  unfold nibC
  have hn := (entry_code (k0_pay16 x (ix2 a ⟨32 * (l.val / 32), by omega⟩)) (x (ix2 a l)) (r (ix2 a l))).1
  generalize codeOf _ = n at hn ⊢
  have := fix_val ⟨n, hn⟩ (decide ((x (ix2 a l) : EReal) < 0))
  simp only [decide_eq_true_eq] at this
  exact this

/-- All bytes of a slice's words of codes are less than 16. -/
theorem nW_small (x : Vec Ideal S32x128 .bf16) (r : Vec Ideal S32x128 .i32) (a : Fin 8) (l : Fin 128) (q : ℕ) (hq : q < 4) :
    ((nW (F := Ideal) x r (ix2 a l)).extractLsb' (8 * q) 8).toNat < 16 := by
  have h := nW_read x r ⟨4 * a.val + q, by omega⟩ l
  have e1 : (⟨(4 * a.val + q) / 4, by omega⟩ : Fin 8) = a := Fin.ext (by show (4 * a.val + q) / 4 = a.val; omega)
  have e2 : (4 * a.val + q) % 4 = q := by omega
  rw [show (nW (F := Ideal) x r (ix2 ⟨(⟨4 * a.val + q, by omega⟩ : Fin 32).val / 4, by omega⟩ l)) = nW (F := Ideal) x r (ix2 a l) from congrArg (fun b => nW (F := Ideal) x r (ix2 b l)) e1,
    show 8 * ((⟨4 * a.val + q, by omega⟩ : Fin 32).val % 4) = 8 * q from congrArg (8 * ·) e2] at h
  rw [h, BitVec.toNat_ofNat]
  exact lt_of_le_of_lt (Nat.mod_le _ _) (nibC_lt _ _ _)

/-! ### The packing -/

theorem rot32_read (x : IVec S8x128 32) (k : BitVec 32) (s : ℕ) (hs : k.toNat % 128 + s = 128) (h1 : 1 ≤ s) (r : Fin 8) (l : Fin 128) :
    dynamicRotate 1 k none x rotates_S8x128_d1 (ix2 r l) = x (ix2 r ⟨(l.val + s) % 128, Nat.mod_lt _ (by omega)⟩) := by
  unfold dynamicRotate
  refine congrArg x (funext fun a => ?_)
  match a with
  | ⟨0, _⟩ => exact Fin.ext rfl
  | ⟨1, _⟩ =>
    refine Fin.ext ?_
    show (l.val + 128 - (k.toNat + 0) % 128) % 128 = (l.val + s) % 128
    omega

theorem lane_pk : ∀ l : Fin 128, (wrapW (IntOp.ori (IntOp.andi (IntOp.muli 2#32 (BitVec.ofNat 32 l.val)) 127#32) (IntOp.shrsi .vector (BitVec.ofNat 32 l.val) 6#32))).toNat % 128
    = if l.val < 64 then 2 * l.val else 2 * (l.val - 64) + 1 := by decide +kernel

theorem lane_odd : ∀ l : Fin 128, (IntOp.cmpi .eq (IntOp.andi (BitVec.ofNat 32 l.val) 1#32) 0#32 = 1#1) ↔ l.val % 2 = 0 := by decide +kernel

/-- What a packed byte is read from: an even lane of one slice's words, and the next lane. -/
theorem pkV_read (u v : IVec S8x128 32) (a : Fin 32) (l : Fin 128) (e o : Fin 128) (he : e.val = 2 * (l.val % 64)) (ho : o.val = 2 * (l.val % 64) + 1) (s : IVec S8x128 32)
    (hs : s = if l.val < 64 then u else v) :
    pkV u v (ix2 a l) = (s (ix2 ⟨a.val / 4, by omega⟩ e) ||| (s (ix2 ⟨a.val / 4, by omega⟩ o) <<< 4)).extractLsb' (8 * (a.val % 4)) 8 := by
  have hdef : pkV u v = bitcast S32x128 8 (dynamicGather 1 (select (cmpi .eq (andi laneV (broadcast S8x128 1#32)) (broadcast S8x128 0#32))
        (ori u (shli (dynamicRotate 1 127#32 none u rotates_S8x128_d1) (broadcast S8x128 4#32))) (ori (dynamicRotate 1 1#32 none v rotates_S8x128_d1) (shli v (broadcast S8x128 4#32))))
      (wrapV (ori (andi (muli (broadcast S8x128 2#32) laneV) (broadcast S8x128 127#32)) (shrsi laneV (broadcast S8x128 6#32))))) bitcasts_S8x128_w32_S32x128_w8 := rfl
  have hsel : ∀ (p q : IVec S8x128 32) (r : Fin 8) (l : Fin 128), select (cmpi .eq (andi laneV (broadcast S8x128 1#32)) (broadcast S8x128 0#32)) p q (ix2 r l)
      = if l.val % 2 = 0 then p (ix2 r l) else q (ix2 r l) := by
    intro p q r l
    show (if IntOp.cmpi .eq (IntOp.andi (laneV (ix2 r l)) 1#32) 0#32 = 1#1 then p (ix2 r l) else q (ix2 r l)) = _
    rw [lane_read]
    exact if_congr (lane_odd l) rfl rfl
  have hidx : ∀ (r : Fin 8) (k : Fin 128), k.val = (if l.val < 64 then 2 * l.val else 2 * (l.val - 64) + 1) →
      (wrapV (ori (andi (muli (broadcast S8x128 2#32) laneV) (broadcast S8x128 127#32)) (shrsi laneV (broadcast S8x128 6#32))) (ix2 r l)).toNat % 128 = k.val := by
    intro r k hk
    rw [wrapV_read, hk, ← lane_pk l, ← lane_read r l]
    rfl
  rw [hdef, byte_word]
  refine congrArg (BitVec.extractLsb' (8 * (a.val % 4)) 8) ?_
  by_cases h : l.val < 64
  · rw [if_pos h] at hs
    subst hs
    rw [gath_read _ _ _ l e (hidx _ e (by rw [if_pos h, he]; omega)), hsel, if_pos (by omega)]
    show s (ix2 _ e) ||| (dynamicRotate 1 127#32 none s rotates_S8x128_d1 (ix2 _ e) <<< 4) = _
    rw [rot32_read s 127#32 1 (by decide) (by omega)]
    have : (⟨(e.val + 1) % 128, Nat.mod_lt _ (by omega)⟩ : Fin 128) = o := Fin.ext (by show (e.val + 1) % 128 = o.val; omega)
    rw [this]
  · rw [if_neg h] at hs
    subst hs
    rw [gath_read _ _ _ l o (hidx _ o (by rw [if_neg h, ho]; omega)), hsel, if_neg (by omega)]
    show dynamicRotate 1 1#32 none s rotates_S8x128_d1 (ix2 _ o) ||| (s (ix2 _ o) <<< 4) = _
    rw [rot32_read s 1#32 127 (by decide) (by omega)]
    have : (⟨(o.val + 127) % 128, Nat.mod_lt _ (by omega)⟩ : Fin 128) = e := Fin.ext (by show (o.val + 127) % 128 = e.val; omega)
    rw [this]

/-- A slice's two neighbouring entries packed. -/
def pkC (x : Vec Ideal S32x128 .bf16) (r : Vec Ideal S32x128 .i32) (a : Fin 32) (e o : Fin 128) : BitVec 8 :=
  BitVec.ofNat 8 (nibC (k0_pay16 x (ix2 a ⟨32 * (e.val / 32), by omega⟩)) (x (ix2 a e)) (r (ix2 a e))
    + 16 * nibC (k0_pay16 x (ix2 a ⟨32 * (o.val / 32), by omega⟩)) (x (ix2 a o)) (r (ix2 a o)))

theorem join_read (x : Vec Ideal S32x128 .bf16) (r : Vec Ideal S32x128 .i32) (a : Fin 32) (e o : Fin 128) :
    (nW (F := Ideal) x r (ix2 ⟨a.val / 4, by omega⟩ e) ||| (nW (F := Ideal) x r (ix2 ⟨a.val / 4, by omega⟩ o) <<< 4)).extractLsb' (8 * (a.val % 4)) 8 = pkC x r a e o := by
  rw [join_byte _ _ (fun q hq => nW_small x r _ o q hq) _ (Nat.mod_lt _ (by omega)), nW_read, nW_read]
  exact join_val ⟨_, nibC_lt _ _ _⟩ ⟨_, nibC_lt _ _ _⟩

theorem cdV_lo (x : Vec Ideal S32x128 .bf16) (r : Vec Ideal S32x128 .i32) (x' : Vec Ideal S32x128 .bf16) (r' : Vec Ideal S32x128 .i32) (a : Fin 32) (l : Fin 128) (h : l.val < 64)
    (e o : Fin 128) (he : e.val = 2 * (l.val % 64)) (ho : o.val = 2 * (l.val % 64) + 1) : cdV (F := Ideal) x r x' r' (ix2 a l) = pkC x r a e o := by
  unfold cdV
  rw [pkV_read _ _ a l e o he ho (nW (F := Ideal) x r) (by rw [if_pos h]), join_read]

theorem cdV_hi (x : Vec Ideal S32x128 .bf16) (r : Vec Ideal S32x128 .i32) (x' : Vec Ideal S32x128 .bf16) (r' : Vec Ideal S32x128 .i32) (a : Fin 32) (l : Fin 128) (h : ¬ l.val < 64)
    (e o : Fin 128) (he : e.val = 2 * (l.val % 64)) (ho : o.val = 2 * (l.val % 64) + 1) : cdV (F := Ideal) x r x' r' (ix2 a l) = pkC x' r' a e o := by
  unfold cdV
  rw [pkV_read _ _ a l e o he ho (nW (F := Ideal) x' r') (by rw [if_neg h]), join_read]

/-- THE PACKED CODES OF A TILE: the codes of the columns `2 b` and `2 b + 1`. -/
theorem cdTile_read (x : S1024x512.Idx → EReal) (r : S1024x512.Idx → BitVec 32) (a : Fin 1024) (b : Fin 256) :
    cdTile (F := Ideal) x r a b = pkC (sl x ⟨a.val / 32, by omega⟩ ⟨2 * b.val / 128, by omega⟩) (sl r ⟨a.val / 32, by omega⟩ ⟨2 * b.val / 128, by omega⟩)
      ⟨a.val % 32, by omega⟩ ⟨2 * b.val % 128, by omega⟩ ⟨(2 * b.val + 1) % 128, by omega⟩ := by
  unfold cdTile
  by_cases h : b.val % 128 < 64
  · have e1 : (⟨2 * (b.val / 128), by omega⟩ : Fin 4) = ⟨2 * b.val / 128, by omega⟩ := Fin.ext (by show 2 * (b.val / 128) = 2 * b.val / 128; omega)
    rw [e1]
    exact cdV_lo _ _ _ _ _ _ h _ _ (by show 2 * b.val % 128 = 2 * (b.val % 128 % 64); omega) (by show (2 * b.val + 1) % 128 = 2 * (b.val % 128 % 64) + 1; omega)
  · have e1 : (⟨2 * (b.val / 128) + 1, by omega⟩ : Fin 4) = ⟨2 * b.val / 128, by omega⟩ := Fin.ext (by show 2 * (b.val / 128) + 1 = 2 * b.val / 128; omega)
    rw [e1]
    exact cdV_hi _ _ _ _ _ _ h _ _ (by show 2 * b.val % 128 = 2 * (b.val % 128 % 64); omega) (by show (2 * b.val + 1) % 128 = 2 * (b.val % 128 % 64) + 1; omega)

end Cert.KernelIdeal.Gen

end
-- ==== Proof.SVal.lean ====
/- The kernel's scale words: a byte is the scale of the block of the row. -/
module

public import proofs.«01_k».proof.Proof.QDeq
public import proofs.«01_k».proof.Proof.CVal
public import proofs.«01_k».proof.Proof.Scales

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI

open Cert.Grad

/-- The bytes of the scale words. -/
theorem pay6_read (C : Vec Ideal S256x512 .i32) (a : Fin 1024) (b : Fin 448) :
    k0_pay6 (F := Ideal) C (ix2 a b) = (C (ix2 ⟨a.val / 4, by omega⟩ ⟨b.val, by omega⟩)).extractLsb' (8 * (a.val % 4)) 8 := by
  have hs : k0_pay6 (F := Ideal) C (ix2 a b) = bitcast S1024x512 8 C bitcasts_S256x512_w32_S1024x512_w8 (ix2 a ⟨b.val, by omega⟩) := by
    unfold k0_pay6
    refine congrArg (bitcast S1024x512 8 C bitcasts_S256x512_w32_S1024x512_w8) (funext fun d => ?_)
    match d with
    | ⟨0, _⟩ => exact Fin.ext (by show 0 + a.val = a.val; omega)
    | ⟨1, _⟩ => exact Fin.ext (by show 0 + b.val = b.val; omega)
  rw [hs]
  apply BitVec.eq_of_getLsbD_eq
  intro i hi
  rw [BitVec.getLsbD_extractLsb', decide_eq_true hi, Bool.true_and]
  rw [bitcast_getLsbD (v := 32) C bitcasts_S256x512_w32_S1024x512_w8 (ix2 a ⟨b.val, by omega⟩) i hi (by decide)]
  have hrow : S1024x512.row (ix2 a (⟨b.val, by omega⟩ : Fin 512)) = a.val := rfl
  have hb : (S1024x512.row (ix2 a (⟨b.val, by omega⟩ : Fin 512)) * 8 + i) % 32 = 8 * (a.val % 4) + i := by rw [hrow]; omega
  rw [hb]
  refine congrArg (fun j => (C j).getLsbD (8 * (a.val % 4) + i)) (funext fun d => ?_)
  match d with
  | ⟨0, _⟩ => exact Fin.ext (by show (S1024x512.row (ix2 a (⟨b.val, by omega⟩ : Fin 512)) * 8 + i) / 32 = a.val / 4; rw [hrow]; omega)
  | ⟨1, _⟩ => exact Fin.ext rfl

theorem pat_byte : ∀ n : Fin 512, ((BitVec.ofNat 16 (128 * n.val) >>> 7) &&& 255#16).setWidth 8 = BitVec.ofNat 8 n.val := by decide +kernel

theorem scW_lt (am : EReal) : scW am < 512 := by
  unfold scW
  split
  · omega
  · exact Nat.mod_lt _ (by omega)

theorem mask_half (w : BitVec 32) (p : ℕ) (hp : p < 2) :
    (IntOp.andi (IntOp.shrui .vector w 7#32) 16711935#32).extractLsb' (16 * p) 16 = (w.extractLsb' (16 * p) 16 >>> 7) &&& 255#16 := by
  have hs : IntOp.shrui .vector w 7#32 = w >>> 7 := rfl
  rw [hs]
  show ((w >>> 7) &&& 16711935#32).extractLsb' (16 * p) 16 = _
  apply BitVec.eq_of_getLsbD_eq
  intro i hi
  have hm : ∀ (p : Fin 2) (i : Fin 16), (16711935#32).getLsbD (16 * p.val + i.val) = (255#16).getLsbD i.val ∧ ((255#16).getLsbD i.val = true → i.val < 8) := by decide +kernel
  obtain ⟨h1, h2⟩ := hm ⟨p, hp⟩ ⟨i, hi⟩
  dsimp only at h1 h2
  rw [BitVec.getLsbD_extractLsb', BitVec.getLsbD_and, BitVec.getLsbD_and, h1, BitVec.getLsbD_ushiftRight, BitVec.getLsbD_ushiftRight, BitVec.getLsbD_extractLsb',
    decide_eq_true hi, Bool.true_and]
  cases h : (255#16).getLsbD i
  · rw [Bool.and_false, Bool.and_false]
  · have := h2 h
    rw [decide_eq_true (show 7 + i < 16 by omega), Bool.true_and, show 7 + (16 * p + i) = 16 * p + (7 + i) by omega]

/-- Halves shifted and masked inside their words. -/
theorem mask_read (y : IVec S32x128 16) (r : Fin 32) (l : Fin 128) :
    bitcast S32x128 16 (andi (shrui (bitcast S16x128 32 y bitcasts_S32x128_w16_S16x128_w32) (broadcast S16x128 7#32)) (broadcast S16x128 16711935#32)) bitcasts_S16x128_w32_S32x128_w16 (ix2 r l)
      = (y (ix2 r l) >>> 7) &&& 255#16 := by
  have hy := halves_read y r l
  rw [bitcast_32_16 _ bitcasts_S16x128_w32_S32x128_w16 (ix2 r l)] at hy ⊢
  rw [← hy]
  exact mask_half _ _ (Nat.mod_lt _ (by omega))

theorem pay35_eq (y : IVec S32x128 16) : k0_pay35 y = k0_pay7 (F := Ideal) (trunci 8 (bitcast S32x128 16 (andi (shrui (bitcast S16x128 32 y bitcasts_S32x128_w16_S16x128_w32) (broadcast S16x128 7#32))
    (broadcast S16x128 16711935#32)) bitcasts_S16x128_w32_S32x128_w16) natLt_8_16) := rfl

/-- A slice's scale words: a byte is the scale of the block its entry is in. -/
theorem sbW_read (x : Vec Ideal S32x128 .bf16) (a : Fin 32) (l : Fin 128) :
    (sbW (F := Ideal) x (ix2 ⟨a.val / 4, by omega⟩ l)).extractLsb' (8 * (a.val % 4)) 8
      = BitVec.ofNat 8 (scW (k0_pay16 x (ix2 a ⟨32 * (l.val / 32), by omega⟩))) := by
  unfold sbW
  rw [pay35_eq]
  refine (word_byte _ a l).trans ?_
  refine (congrArg (BitVec.setWidth 8) (mask_read _ a l)).trans ?_
  rw [pay19_eq, pay21_read]
  unfold patV
  rw [searchW_eq (amax_nonneg x a _ (by show 32 * (l.val / 32) % 32 = 0; omega))]
  exact pat_byte ⟨scW _, scW_lt _⟩

theorem lane_sel : ∀ (l : Fin 128) (n : Fin 32), (IntOp.cmpi .eq (IntOp.andi (BitVec.ofNat 32 l.val) 31#32) (BitVec.ofNat 32 n.val) = 1#1) ↔ l.val % 32 = n.val := by decide +kernel

theorem selV_read (n : Fin 32) (z y : IVec S8x128 32) (r : Fin 8) (l : Fin 128) :
    selV (BitVec.ofNat 32 n.val) z y (ix2 r l) = if l.val % 32 = n.val then z (ix2 r l) else y (ix2 r l) := by
  have h := lane_sel l n
  rw [← lane_read r l] at h
  generalize BitVec.ofNat 32 n.val = w at h ⊢
  exact if_congr h rfl rfl

/-- The lane gathered, as a number. -/
def zW (v : BitVec 32) : BitVec 32 :=
  let w := IntOp.ori (IntOp.shli .vector (IntOp.andi v 3#32) 5#32) (IntOp.andi (IntOp.shrsi .vector v 2#32) 3#32)
  if IntOp.cmpi .slt w 0#32 = 1#1 then IntOp.addi w 128#32 else w

theorem zW_val : ∀ l : Fin 128, (zW (BitVec.ofNat 32 l.val)).toNat % 128 = 32 * (l.val % 4) + l.val % 16 / 4 := by decide +kernel

/-- The scale words of four slices: lane `l` holds block `l % 16`'s. -/
theorem zV_read (x0 x1 x2 x3 : Vec Ideal S32x128 .bf16) (r : Fin 8) (l m : Fin 128) (hm : m.val = 32 * (l.val % 4) + l.val % 16 / 4) (x : Fin 4 → Vec Ideal S32x128 .bf16)
    (h0 : x 0 = x0) (h1 : x 1 = x1) (h2 : x 2 = x2) (h3 : x 3 = x3) :
    zV (F := Ideal) x0 x1 x2 x3 (ix2 r l) = sbW (F := Ideal) (x ⟨l.val % 16 / 4, by omega⟩) (ix2 r m) := by
  subst h0; subst h1; subst h2; subst h3
  have hw : (wrapV zLane (ix2 r l)).toNat % 128 = m.val := by
    rw [hm, ← zW_val l, ← lane_read r l, wrapV_read]
    rfl
  unfold zV
  rw [gath_read _ _ r l m hw]
  have s3 := selV_read 3 (sbW (F := Ideal) (x 3)) (selV 2#32 (sbW (x 2)) (selV 1#32 (sbW (x 1)) (sbW (x 0)))) r m
  have s2 := selV_read 2 (sbW (F := Ideal) (x 2)) (selV 1#32 (sbW (x 1)) (sbW (x 0))) r m
  have s1 := selV_read 1 (sbW (F := Ideal) (x 1)) (sbW (x 0)) r m
  have hq : l.val % 16 / 4 < 4 := by omega
  refine s3.trans ?_
  generalize hj : (⟨l.val % 16 / 4, by omega⟩ : Fin 4) = j
  have hj' : m.val % 32 = j.val := by rw [← hj]; show m.val % 32 = l.val % 16 / 4; omega
  rw [hj']
  match j with
  | ⟨0, _⟩ => exact (if_neg (show ¬ (0 : ℕ) = 3 by decide)).trans (s2.trans ((if_neg (by rw [hj']; show ¬ (0 : ℕ) = 2; decide)).trans (s1.trans (if_neg (by rw [hj']; show ¬ (0 : ℕ) = 1; decide)))))
  | ⟨1, _⟩ => exact (if_neg (show ¬ (1 : ℕ) = 3 by decide)).trans (s2.trans ((if_neg (by rw [hj']; show ¬ (1 : ℕ) = 2; decide)).trans (s1.trans (if_pos (by rw [hj']; rfl)))))
  | ⟨2, _⟩ => exact (if_neg (show ¬ (2 : ℕ) = 3 by decide)).trans (s2.trans (if_pos (by rw [hj']; rfl)))
  | ⟨3, _⟩ => exact if_pos rfl

/-- THE SCALE WORDS OF A TILE: a byte is the scale of the row's block. -/
theorem zTile_read (x : S1024x512.Idx → EReal) (a : Fin 1024) (l : Fin 128) :
    (zTile (F := Ideal) x ⟨a.val / 4, by omega⟩ l).extractLsb' (8 * (a.val % 4)) 8
      = BitVec.ofNat 8 (scW (k0_pay16 (F := Ideal) (sl x ⟨a.val / 32, by omega⟩ ⟨l.val % 16 / 4, by omega⟩) (ix2 ⟨a.val % 32, by omega⟩ ⟨32 * (l.val % 4), by omega⟩))) := by
  unfold zTile
  rw [zV_read _ _ _ _ ⟨a.val / 4 % 8, by omega⟩ l ⟨32 * (l.val % 4) + l.val % 16 / 4, by omega⟩ rfl (fun q => sl x ⟨a.val / 4 / 8, by omega⟩ q) rfl rfl rfl rfl]
  have h := sbW_read (sl x ⟨a.val / 4 / 8, by omega⟩ ⟨l.val % 16 / 4, by omega⟩) ⟨a.val % 32, by omega⟩ ⟨32 * (l.val % 4) + l.val % 16 / 4, by omega⟩
  have e1 : (⟨a.val % 32 / 4, by omega⟩ : Fin 8) = ⟨a.val / 4 % 8, by omega⟩ := Fin.ext (by show a.val % 32 / 4 = a.val / 4 % 8; omega)
  have e2 : a.val % 32 % 4 = a.val % 4 := by omega
  have e3 : (⟨a.val / 4 / 8, by omega⟩ : Fin 32) = ⟨a.val / 32, by omega⟩ := Fin.ext (by show a.val / 4 / 8 = a.val / 32; omega)
  have e4 : (⟨32 * ((32 * (l.val % 4) + l.val % 16 / 4) / 32), by omega⟩ : Fin 128) = ⟨32 * (l.val % 4), by omega⟩ := Fin.ext (by show 32 * ((32 * (l.val % 4) + l.val % 16 / 4) / 32) = 32 * (l.val % 4); omega)
  dsimp only at h
  rw [e1, e2, e4] at h
  rw [← e3]
  exact h

end Cert.KernelIdeal.Gen

end
-- ==== Proof.KArr.lean ====
/- The kernel's first result, entry by entry: the sum over all 14336 columns of quantised gradient times decoded weight. -/
module

public import proofs.«01_k».proof.Proof.Gen.KernelIdeal
public import proofs.«01_k».proof.Proof.Gen.KernelIdeal.Skeleton
public import proofs.«01_k».proof.Proof.Gen.KernelIdeal.Loops
public import Idealize.ShloMosaic.Lib.WritesUnit
public import Idealize.ShloMosaic.Lib.ValueIdx
public import Idealize.ShloMosaic.Lib.Pointwise

public import proofs.«01_k».proof.Proof.KBody
public import proofs.«01_k».proof.Proof.QDeq
public import proofs.«01_k».proof.Proof.DVal
public import proofs.«01_k».proof.Proof.CVal
public import proofs.«01_k».proof.Proof.SVal
public import Idealize.ShloMosaic.Lib.Pipeline.ValueKit.Point

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI

open Cert.Grad
open Idealize.ShloMosaic.Pipeline (Dat Cfg Window BodyObligation cellOf)

variable (m : (ℓ : Loc nD τ sig) → Buf (Elt Ideal) ℓ) (ρ : Dev nD → PrngReg) (c : Dev nD)

/-- The gradient at a flattened row and a column. -/
def xG (r : Fin 12288) (n : Fin 14336) : EReal := (m ((c.tc : Thread nD τ).loc main_arg0) : S8x1536x14336.Idx → EReal) (ix3 ⟨r.val / 1536, by omega⟩ ⟨r.val % 1536, by omega⟩ n)
/-- The random word there. -/
def rG (r : Fin 12288) (n : Fin 14336) : BitVec 32 := (m ((c.tc : Thread nD τ).loc main_arg1) : S8x1536x14336.Idx → BitVec 32) (ix3 ⟨r.val / 1536, by omega⟩ ⟨r.val % 1536, by omega⟩ n)
/-- The packed weight byte. -/
def wG (n : Fin 14336) (b : Fin 2048) : BitVec 8 := (m ((c.tc : Thread nD τ).loc main_arg2) : S14336x2048.Idx → BitVec 8) (ix2 n b)
/-- The weight scale byte. -/
def sG (n : Fin 448) (b : Fin 128) : BitVec 8 := (m ((c.tc : Thread nD τ).loc main_arg3) : S448x128.Idx → BitVec 8) (ix2 n b)

theorem V_v0 (r : Fin 12288) (n : Fin 14336) : (V m c main_v0 : S12288x14336.Idx → EReal) (ix2 r n) = xG m c r n := by
  entry_read
  pointwise
  rfl
theorem V_v1 (r : Fin 12288) (n : Fin 14336) : (V m c main_v1 : S12288x14336.Idx → BitVec 32) (ix2 r n) = rG m c r n := by
  entry_read
  pointwise
  rfl

theorem idx0_0 : ∀ t : Fin cfg0.N, win0_0.index t = ![(min t.val 335) / 28, (min t.val 335) % 28] := by decide +kernel
theorem idx0_1 : ∀ t : Fin cfg0.N, win0_1.index t = ![(min t.val 335) / 28, (min t.val 335) % 28] := by decide +kernel
theorem idx0_2 : ∀ t : Fin cfg0.N, win0_2.index t = ![(min t.val 335) % 28, 0] := by decide +kernel
theorem idx0_3 : ∀ t : Fin cfg0.N, win0_3.index t = ![0, 0] := by decide +kernel
theorem idx0_5 : ∀ t : Fin cfg0.N, win0_5.index t = ![(min t.val 335) / 28, (min t.val 335) % 28] := by decide +kernel
theorem idx0_6 : ∀ t : Fin cfg0.N, win0_6.index t = ![(min t.val 335) / 28, 0] := by decide +kernel
theorem idx0_4 : ∀ t : Fin cfg0.N, win0_4.index t = ![(t.val - 1) / 28, 0] := by decide +kernel

theorem iblk0_read (s : ℕ) (hs : s < 336) (a : Fin 1024) (k : Fin 512) :
    (iblk m c 0 (pt s) : S1024x512.Idx → EReal) (ix2 a k) = xG m c ⟨1024 * (s / 28) + a.val, by omega⟩ ⟨512 * (s % 28) + k.val, by omega⟩ := by
  have hp : (pt s).val = s := Nat.mod_eq_of_lt (by omega)
  rw [← V_v0]
  blk_simp [iblk]
  refine congrArg (V m c main_v0) (funext fun b => ?_)
  match b with
  | ⟨0, _⟩ => refine Fin.ext ?_; blk_simp [idx0_0]; show (min (pt s).val 335) / 28 * 1024 + a.val = 1024 * (s / 28) + a.val; omega
  | ⟨1, _⟩ => refine Fin.ext ?_; blk_simp [idx0_0]; show (min (pt s).val 335) % 28 * 512 + k.val = 512 * (s % 28) + k.val; omega

theorem iblk1_read (s : ℕ) (hs : s < 336) (a : Fin 1024) (k : Fin 512) :
    (iblk m c 1 (pt s) : S1024x512.Idx → BitVec 32) (ix2 a k) = rG m c ⟨1024 * (s / 28) + a.val, by omega⟩ ⟨512 * (s % 28) + k.val, by omega⟩ := by
  have hp : (pt s).val = s := Nat.mod_eq_of_lt (by omega)
  rw [← V_v1]
  blk_simp [iblk]
  refine congrArg (V m c main_v1) (funext fun b => ?_)
  match b with
  | ⟨0, _⟩ => refine Fin.ext ?_; blk_simp [idx0_1]; show (min (pt s).val 335) / 28 * 1024 + a.val = 1024 * (s / 28) + a.val; omega
  | ⟨1, _⟩ => refine Fin.ext ?_; blk_simp [idx0_1]; show (min (pt s).val 335) % 28 * 512 + k.val = 512 * (s % 28) + k.val; omega

theorem iblk2_read (s : ℕ) (hs : s < 336) (a : Fin 512) (b : Fin 2048) :
    (iblk m c 2 (pt s) : S512x2048.Idx → BitVec 8) (ix2 a b) = wG m c ⟨512 * (s % 28) + a.val, by omega⟩ b := by
  have hp : (pt s).val = s := Nat.mod_eq_of_lt (by omega)
  unfold wG
  rw [← V_main_arg2 m c]
  blk_simp [iblk]
  refine congrArg (V m c main_arg2) (funext fun d => ?_)
  match d with
  | ⟨0, _⟩ => refine Fin.ext ?_; blk_simp [idx0_2]; show (min (pt s).val 335) % 28 * 512 + a.val = 512 * (s % 28) + a.val; omega
  | ⟨1, _⟩ => refine Fin.ext ?_; blk_simp [idx0_2]

theorem iblk3_read (a : Fin 448) (b : Fin 128) : (iblk m c 3 (pt 0) : S448x128.Idx → BitVec 8) (ix2 a b) = sG m c a b := by
  unfold sG
  rw [← V_main_arg3 m c]
  blk_simp [iblk]
  refine congrArg (V m c main_arg3) (funext fun d => ?_)
  match d with
  | ⟨0, _⟩ => refine Fin.ext ?_; blk_simp [idx0_3]
  | ⟨1, _⟩ => refine Fin.ext ?_; blk_simp [idx0_3]

/-- What it is to be the largest magnitude of every block of 32 columns. -/
def IsMax (am : Fin 12288 → Fin 448 → EReal) : Prop := ∀ r g z, am r g ≤ z ↔ ∀ j : Fin 32, max (xG m c r ⟨32 * g.val + j.val, by omega⟩) (-(xG m c r ⟨32 * g.val + j.val, by omega⟩)) ≤ z

variable {m c}

theorem qT_read {am : Fin 12288 → Fin 448 → EReal} (ham : IsMax m c am) (s : ℕ) (hs : s < 336) (a : Fin 1024) (k : Fin 512) (R : Fin 12288) (K : Fin 14336)
    (hR : R.val = 1024 * (s / 28) + a.val) (hK : K.val = 512 * (s % 28) + k.val) :
    qT m c s a k = deq (am R ⟨K.val / 32, by omega⟩) (xG m c R K) (rG m c R K) := by
  have hx : ∀ (k' : Fin 512) (K' : Fin 14336), K'.val = 512 * (s % 28) + k'.val → (iblk m c 0 (pt s) : S1024x512.Idx → EReal) (ix2 a k') = xG m c R K' := by
    intro k' K' h
    rw [iblk0_read m c s hs]
    exact congrArg₂ (xG m c) (Fin.ext hR.symm) (Fin.ext h.symm)
  have hr : (iblk m c 1 (pt s) : S1024x512.Idx → BitVec 32) (ix2 a k) = rG m c R K := by
    rw [iblk1_read m c s hs]
    exact congrArg₂ (rG m c) (Fin.ext hR.symm) (Fin.ext hK.symm)
  have hsl : ∀ (l : Fin 128) (k' : Fin 512), k'.val = 128 * (k.val / 128) + l.val →
      sl (iblk m c 0 (pt s) : S1024x512.Idx → EReal) ⟨a.val / 32, by omega⟩ ⟨k.val / 128, by omega⟩ (ix2 ⟨a.val % 32, by omega⟩ l) = (iblk m c 0 (pt s) : S1024x512.Idx → EReal) (ix2 a k') := by
    intro l k' h
    unfold sl
    refine congrArg (iblk m c 0 (pt s) : S1024x512.Idx → EReal) (funext fun d => ?_)
    match d with
    | ⟨0, _⟩ => exact Fin.ext (by show 32 * (a.val / 32) + a.val % 32 = a.val; omega)
    | ⟨1, _⟩ => exact Fin.ext h.symm
  have hslr : sl (iblk m c 1 (pt s) : S1024x512.Idx → BitVec 32) ⟨a.val / 32, by omega⟩ ⟨k.val / 128, by omega⟩ (ix2 ⟨a.val % 32, by omega⟩ ⟨k.val % 128, by omega⟩) = (iblk m c 1 (pt s) : S1024x512.Idx → BitVec 32) (ix2 a k) := by
    unfold sl
    refine congrArg (iblk m c 1 (pt s) : S1024x512.Idx → BitVec 32) (funext fun d => ?_)
    match d with
    | ⟨0, _⟩ => exact Fin.ext (by show 32 * (a.val / 32) + a.val % 32 = a.val; omega)
    | ⟨1, _⟩ => exact Fin.ext (by show 128 * (k.val / 128) + k.val % 128 = k.val; omega)
  unfold qT dqTile
  refine (dqV_read _ _ _ _).trans ?_
  have e1 := hsl ⟨k.val % 128, by omega⟩ k (by show k.val = 128 * (k.val / 128) + k.val % 128; omega)
  have e2 : k0_pay16 (F := Ideal) (sl (iblk m c 0 (pt s) : S1024x512.Idx → EReal) ⟨a.val / 32, by omega⟩ ⟨k.val / 128, by omega⟩) (ix2 ⟨a.val % 32, by omega⟩ ⟨32 * (k.val % 128 / 32), by omega⟩)
      = am R ⟨K.val / 32, by omega⟩ := by
    have hle : ∀ z : EReal, k0_pay16 (F := Ideal) (sl (iblk m c 0 (pt s) : S1024x512.Idx → EReal) ⟨a.val / 32, by omega⟩ ⟨k.val / 128, by omega⟩) (ix2 ⟨a.val % 32, by omega⟩ ⟨32 * (k.val % 128 / 32), by omega⟩) ≤ z
        ↔ am R ⟨K.val / 32, by omega⟩ ≤ z := by
      intro z
      rw [ham]
      refine (amax_le _ _ _ (by show 32 * (k.val % 128 / 32) % 32 = 0; omega) z).trans (forall_congr' fun j => ?_)
      rw [hsl _ ⟨32 * (k.val / 32) + j.val, by omega⟩ (by show 32 * (k.val / 32) + j.val = 128 * (k.val / 128) + (32 * (k.val % 128 / 32) + j.val); omega),
        hx _ ⟨32 * (K.val / 32) + j.val, by omega⟩ (by show 32 * (K.val / 32) + j.val = 512 * (s % 28) + (32 * (k.val / 32) + j.val); omega)]
    exact le_antisymm ((hle _).mpr le_rfl) ((hle _).mp le_rfl)
  exact congr (congrArg₂ deq e2 (e1.trans (hx k K hK))) (hslr.trans hr)

/-- The decoded weight of a row and a column. -/
def wvG (m : (ℓ : Loc nD τ sig) → Buf (Elt Ideal) ℓ) (c : Dev nD) (K : Fin 14336) (b : Fin 4096) : EReal :=
  wtv (nib (wG m c K ⟨b.val / 2, by omega⟩).toNat b.val) * E8 (sG m c ⟨K.val / 32, by omega⟩ ⟨b.val / 32, by omega⟩).toNat

theorem wT_read (s : ℕ) (hs : s < 336) (k : Fin 512) (b : Fin 4096) (K : Fin 14336) (hK : K.val = 512 * (s % 28) + k.val) : wT m c s k b = wvG m c K b := by
  have hp : (pt s).val = s := Nat.mod_eq_of_lt (by omega)
  have hq : (kqOf (grid0.coords (pt s))).val = s % 28 := by
    show (min (grid0.coords (pt s) 0).val 335) % 28 = s % 28
    rw [coords_val, hp]; omega
  unfold wT wS
  refine (dwTile_read _ _ _ _ _).trans ?_
  have h2 : (iblk m c 2 (pt s) : S512x2048.Idx → BitVec 8) (ix2 k ⟨b.val / 2, by omega⟩) = wG m c K ⟨b.val / 2, by omega⟩ := by
    rw [iblk2_read m c s hs]
    exact congrArg (fun x => wG m c x _) (Fin.ext hK.symm)
  have h3 : (iblk m c 3 (pt 0) : S448x128.Idx → BitVec 8) (ix2 ⟨16 * (kqOf (grid0.coords (pt s))).val + k.val / 32, by have := (kqOf (grid0.coords (pt s))).isLt; omega⟩ ⟨b.val / 32, by omega⟩)
      = sG m c ⟨K.val / 32, by omega⟩ ⟨b.val / 32, by omega⟩ := by
    rw [iblk3_read]
    refine congrArg (fun x => sG m c x _) (Fin.ext ?_)
    show 16 * (kqOf (grid0.coords (pt s))).val + k.val / 32 = K.val / 32
    omega
  unfold wvG
  exact congrArg₂ (fun (x y : BitVec 8) => wtv (nib x.toNat b.val) * E8 y.toNat) h2 h3

/-- The gradient of the inputs: the product of quantised gradient and decoded weights. -/
def gradG (m : (ℓ : Loc nD τ sig) → Buf (Elt Ideal) ℓ) (c : Dev nD) (am : Fin 12288 → Fin 448 → EReal) (R : Fin 12288) (b : Fin 4096) : EReal :=
  ∑ K : Fin 14336, deq (am R ⟨K.val / 32, by omega⟩) (xG m c R K) (rG m c R K) * wvG m c K b

theorem partT_read {am : Fin 12288 → Fin 448 → EReal} (ham : IsMax m c am) (i : ℕ) (hi : i < 12) (a : Fin 1024) (b : Fin 4096) (R : Fin 12288) (hR : R.val = 1024 * i + a.val) :
    partT m c (28 * i + 27) a b = gradG m c am R b := by
  unfold partT gradG
  have h1 : (28 * i + 27) % 28 + 1 = 28 := by omega
  have h2 : (28 * i + 27) / 28 = i := by omega
  rw [h1, h2, Finset.sum_range]
  refine Eq.trans ?_ (Equiv.sum_comp (finProdFinEquiv (m := 28) (n := 512)) (fun K : Fin 14336 => deq (am R ⟨K.val / 32, by omega⟩) (xG m c R K) (rG m c R K) * wvG m c K b))
  rw [Fintype.sum_prod_type]
  refine Finset.sum_congr rfl fun j _ => ?_
  unfold prodT
  refine Finset.sum_congr rfl fun k _ => ?_
  have hK : (finProdFinEquiv (m := 28) (n := 512) (j, k)).val = 512 * ((28 * i + j.val) % 28) + k.val := by
    show k.val + 512 * j.val = _
    omega
  exact congrArg₂ (· * ·) (qT_read ham _ (by omega) a k R _ (by rw [hR]; omega) hK) (wT_read _ (by omega) k b _ hK)

theorem flush4 : ∀ t : Fin cfg0.N, (cfg0.win 4).flush t = true → t.val % 28 = 0 ∧ 1 ≤ t.val := by decide +kernel
theorem covers4 : (cfg0.win 4).Covers := by decide +kernel

/-- The first result as an array. -/
def dxG (m : (ℓ : Loc nD τ sig) → Buf (Elt Ideal) ℓ) (c : Dev nD) (am : Fin 12288 → Fin 448 → EReal) : S12288x4096.Idx → EReal := fun i => gradG m c am (i 0) (i 1)

/-! ### The packed codes -/

theorem iblk0_at (t : Fin cfg0.N) (a : Fin 1024) (k : Fin 512) :
    (iblk m c 0 t : S1024x512.Idx → EReal) (ix2 a k) = xG m c ⟨1024 * (min t.val 335 / 28) + a.val, by omega⟩ ⟨512 * (min t.val 335 % 28) + k.val, by omega⟩ := by
  rw [← V_v0]
  blk_simp [iblk]
  refine congrArg (V m c main_v0) (funext fun b => ?_)
  match b with
  | ⟨0, _⟩ => refine Fin.ext ?_; blk_simp [idx0_0]; show (min t.val 335) / 28 * 1024 + a.val = 1024 * (min t.val 335 / 28) + a.val; omega
  | ⟨1, _⟩ => refine Fin.ext ?_; blk_simp [idx0_0]; show (min t.val 335) % 28 * 512 + k.val = 512 * (min t.val 335 % 28) + k.val; omega

theorem iblk1_at (t : Fin cfg0.N) (a : Fin 1024) (k : Fin 512) :
    (iblk m c 1 t : S1024x512.Idx → BitVec 32) (ix2 a k) = rG m c ⟨1024 * (min t.val 335 / 28) + a.val, by omega⟩ ⟨512 * (min t.val 335 % 28) + k.val, by omega⟩ := by
  rw [← V_v1]
  blk_simp [iblk]
  refine congrArg (V m c main_v1) (funext fun b => ?_)
  match b with
  | ⟨0, _⟩ => refine Fin.ext ?_; blk_simp [idx0_1]; show (min t.val 335) / 28 * 1024 + a.val = 1024 * (min t.val 335 / 28) + a.val; omega
  | ⟨1, _⟩ => refine Fin.ext ?_; blk_simp [idx0_1]; show (min t.val 335) % 28 * 512 + k.val = 512 * (min t.val 335 % 28) + k.val; omega

theorem slice_x (t : Fin cfg0.N) (g : Fin 32) (q : Fin 4) (a : Fin 32) (l : Fin 128) (R : Fin 12288) (K : Fin 14336)
    (hR : R.val = 1024 * (min t.val 335 / 28) + (32 * g.val + a.val)) (hK : K.val = 512 * (min t.val 335 % 28) + (128 * q.val + l.val)) :
    sl (iblk m c 0 t : S1024x512.Idx → EReal) g q (ix2 a l) = xG m c R K := by
  unfold sl
  refine (iblk0_at t ⟨32 * g.val + a.val, by omega⟩ ⟨128 * q.val + l.val, by omega⟩).trans ?_
  exact congrArg₂ (xG m c) (Fin.ext hR.symm) (Fin.ext hK.symm)

theorem slice_r (t : Fin cfg0.N) (g : Fin 32) (q : Fin 4) (a : Fin 32) (l : Fin 128) (R : Fin 12288) (K : Fin 14336)
    (hR : R.val = 1024 * (min t.val 335 / 28) + (32 * g.val + a.val)) (hK : K.val = 512 * (min t.val 335 % 28) + (128 * q.val + l.val)) :
    sl (iblk m c 1 t : S1024x512.Idx → BitVec 32) g q (ix2 a l) = rG m c R K := by
  unfold sl
  refine (iblk1_at t ⟨32 * g.val + a.val, by omega⟩ ⟨128 * q.val + l.val, by omega⟩).trans ?_
  exact congrArg₂ (rG m c) (Fin.ext hR.symm) (Fin.ext hK.symm)

theorem slice_am {am : Fin 12288 → Fin 448 → EReal} (ham : IsMax m c am) (t : Fin cfg0.N) (g : Fin 32) (q : Fin 4) (a : Fin 32) (l : Fin 128) (R : Fin 12288) (G : Fin 448)
    (hR : R.val = 1024 * (min t.val 335 / 28) + (32 * g.val + a.val)) (hl : l.val % 32 = 0) (hG : 32 * G.val = 512 * (min t.val 335 % 28) + (128 * q.val + l.val)) :
    k0_pay16 (F := Ideal) (sl (iblk m c 0 t : S1024x512.Idx → EReal) g q) (ix2 a l) = am R G := by
  have hle : ∀ z : EReal, k0_pay16 (F := Ideal) (sl (iblk m c 0 t : S1024x512.Idx → EReal) g q) (ix2 a l) ≤ z ↔ am R G ≤ z := by
    intro z
    rw [ham]
    refine (amax_le _ _ _ hl z).trans (forall_congr' fun j => ?_)
    rw [slice_x t g q a _ R ⟨32 * G.val + j.val, by omega⟩ hR (by show 32 * G.val + j.val = 512 * (min t.val 335 % 28) + (128 * q.val + (l.val + j.val)); omega)]
  exact le_antisymm ((hle _).mpr le_rfl) ((hle _).mp le_rfl)

/-- The code of an entry. -/
def nibG (m : (ℓ : Loc nD τ sig) → Buf (Elt Ideal) ℓ) (c : Dev nD) (am : Fin 12288 → Fin 448 → EReal) (R : Fin 12288) (K : Fin 14336) : ℕ :=
  nibC (am R ⟨K.val / 32, by omega⟩) (xG m c R K) (rG m c R K)

/-- The second result as an array. -/
def codesG (m : (ℓ : Loc nD τ sig) → Buf (Elt Ideal) ℓ) (c : Dev nD) (am : Fin 12288 → Fin 448 → EReal) (R : Fin 12288) (B : Fin 7168) : BitVec 8 :=
  BitVec.ofNat 8 (nibG m c am R ⟨2 * B.val, by omega⟩ + 16 * nibG m c am R ⟨2 * B.val + 1, by omega⟩)

theorem nib_at {am : Fin 12288 → Fin 448 → EReal} (ham : IsMax m c am) (t : Fin cfg0.N) (g : Fin 32) (q : Fin 4) (a : Fin 32) (l : Fin 128) (R : Fin 12288) (K : Fin 14336)
    (hR : R.val = 1024 * (min t.val 335 / 28) + (32 * g.val + a.val)) (hK : K.val = 512 * (min t.val 335 % 28) + (128 * q.val + l.val)) :
    nibC (k0_pay16 (F := Ideal) (sl (iblk m c 0 t : S1024x512.Idx → EReal) g q) (ix2 a ⟨32 * (l.val / 32), by omega⟩))
      (sl (iblk m c 0 t : S1024x512.Idx → EReal) g q (ix2 a l)) (sl (iblk m c 1 t : S1024x512.Idx → BitVec 32) g q (ix2 a l)) = nibG m c am R K := by
  unfold nibG
  exact congr (congrArg₂ nibC (slice_am ham t g q a _ R ⟨K.val / 32, by omega⟩ hR (by show 32 * (l.val / 32) % 32 = 0; omega)
    (by show 32 * (K.val / 32) = 512 * (min t.val 335 % 28) + (128 * q.val + 32 * (l.val / 32)); omega)) (slice_x t g q a l R K hR hK)) (slice_r t g q a l R K hR hK)

theorem codes_at {am : Fin 12288 → Fin 448 → EReal} (ham : IsMax m c am) (t : Fin cfg0.N) (a : Fin 1024) (b : Fin 256) (R : Fin 12288) (B : Fin 7168)
    (hR : R.val = 1024 * (min t.val 335 / 28) + a.val) (hB : B.val = 256 * (min t.val 335 % 28) + b.val) :
    cdTile (F := Ideal) (iblk m c 0 t) (iblk m c 1 t) a b = codesG m c am R B := by
  refine (cdTile_read _ _ a b).trans ?_
  unfold pkC codesG
  have hR' : R.val = 1024 * (min t.val 335 / 28) + (32 * (a.val / 32) + a.val % 32) := by omega
  refine congrArg (BitVec.ofNat 8) (congrArg₂ (fun x y : ℕ => x + 16 * y) ?_ ?_)
  · exact nib_at ham t ⟨a.val / 32, by omega⟩ ⟨2 * b.val / 128, by omega⟩ ⟨a.val % 32, by omega⟩ ⟨2 * b.val % 128, by omega⟩ R ⟨2 * B.val, by omega⟩ hR'
      (by show 2 * B.val = 512 * (min t.val 335 % 28) + (128 * (2 * b.val / 128) + 2 * b.val % 128); omega)
  · exact nib_at ham t ⟨a.val / 32, by omega⟩ ⟨2 * b.val / 128, by omega⟩ ⟨a.val % 32, by omega⟩ ⟨(2 * b.val + 1) % 128, by omega⟩ R ⟨2 * B.val + 1, by omega⟩ hR'
      (by show 2 * B.val + 1 = 512 * (min t.val 335 % 28) + (128 * (2 * b.val / 128) + (2 * b.val + 1) % 128); omega)

theorem covers5 : (cfg0.win 5).Covers := by decide +kernel

/-- The second result as an array over its indices. -/
def cdG (m : (ℓ : Loc nD τ sig) → Buf (Elt Ideal) ℓ) (c : Dev nD) (am : Fin 12288 → Fin 448 → EReal) : S12288x7168.Idx → BitVec 8 := fun i => codesG m c am (i 0) (i 1)

/-! ### The scale bytes -/

theorem flush6 : ∀ t : Fin cfg0.N, (cfg0.win 6).flush t = true → min t.val 335 % 28 = 27 := by decide +kernel
theorem covers6 : (cfg0.win 6).Covers := by decide +kernel

/-- The third result, entry by entry: the block's scale, biased by 127. -/
def scalesG (am : Fin 12288 → Fin 448 → EReal) (R : Fin 12288) (G : Fin 448) : BitVec 8 := BitVec.ofNat 8 (scW (am R G))
/-- The third result as an array. -/
def scG (am : Fin 12288 → Fin 448 → EReal) : S12288x448.Idx → BitVec 8 := fun i => scalesG am (i 0) (i 1)

theorem scales_at {am : Fin 12288 → Fin 448 → EReal} (ham : IsMax m c am) (t : Fin cfg0.N) (ht : min t.val 335 % 28 = 27) (C : Vec Ideal S256x512 .i32) (hC : HoldsZ m c t.val C)
    (a : Fin 1024) (b : Fin 448) (R : Fin 12288) (hR : R.val = 1024 * (min t.val 335 / 28) + a.val) :
    k0_pay6 (F := Ideal) C (ix2 a b) = scalesG am R b := by
  obtain ⟨s, hs, hc⟩ := hC ⟨a.val / 4, by omega⟩ ⟨b.val, by omega⟩ (by show b.val / 16 ≤ _; omega)
  dsimp only at hs
  rw [pay6_read, hc]
  refine (zTile_read _ a ⟨b.val % 128, by omega⟩).trans ?_
  unfold scalesG
  refine congrArg (fun x : EReal => BitVec.ofNat 8 (scW x)) ?_
  have hb := b.isLt
  exact slice_am ham s ⟨a.val / 32, by omega⟩ ⟨b.val % 128 % 16 / 4, by omega⟩ ⟨a.val % 32, by omega⟩ ⟨32 * (b.val % 128 % 4), by omega⟩ R b
    (by show R.val = 1024 * (min s.val 335 / 28) + (32 * (a.val / 32) + a.val % 32); omega)
    (by show 32 * (b.val % 128 % 4) % 32 = 0; omega)
    (by show 32 * b.val = 512 * (min s.val 335 % 28) + (128 * (b.val % 128 % 16 / 4) + 32 * (b.val % 128 % 4)); omega)

variable (m)

set_option maxHeartbeats 800000 in
/-- THE KERNEL'S RUN: the first result is the gradient's product with the decoded weights, the second the packed codes, the third the scale bytes, the arguments unchanged. -/
theorem run_value (am : Dev nD → Fin 12288 → Fin 448 → EReal) (ham : ∀ c, IsMax m c (am c)) :
    θ_run defs (onTc (τ := τ) (main (F := Ideal))) ⟨m, fun _ => 0, ρ⟩ (fun r => ∀ c : Dev nD,
      r.2.mem ((c.tc : Thread nD τ).loc main_v2_0) = dxG m c (am c)
      ∧ r.2.mem ((c.tc : Thread nD τ).loc main_v2_1) = cdG m c (am c)
      ∧ r.2.mem ((c.tc : Thread nD τ).loc main_v2_2) = scG (am c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨?_, ?_, ?_,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((A_eqV m c 2).trans (V_main_arg2 m c)),
      (Pipeline.RDat.FramePost.arr_in h c 3 rfl).trans ((A_eqV m c 3).trans (V_main_arg3 m c))⟩) (run_mainV m ρ)
  · obtain ⟨after, hL, hA⟩ := Pipeline.RDat.FramePost.exists_exact h c
    refine (hA 4).trans ?_
    refine Dat.arrAt_eq_of_covers (((datV m c).toRRel forgets0 (RlV m c)).withAfter after) 4 (dxG m c (am c)) covers4 fun t hf y => ?_
    have hX : Out4 m c t (after 4 t) := Dat.toRRel_leaves (datV m c) rfl (hL 4 t hf)
    obtain ⟨h28, h1⟩ := flush4 t hf
    blk_simp
    have ht : t.val < 337 := t.isLt
    have hy0 : (y 0).val < 1024 := (y 0).isLt
    have hval := (congrArg (after 4 t) (show y = ix2 (y 0) (y 1) from funext fun d => match d with | ⟨0, _⟩ => rfl | ⟨1, _⟩ => rfl)).trans (hX h1 (y 0) (y 1))
    refine hval.trans ?_
    have ht1 : t.val - 1 = 28 * ((t.val - 1) / 28) + 27 := by omega
    rw [ht1]
    refine (partT_read (ham c) ((t.val - 1) / 28) (by omega) (y 0) (y 1) ⟨1024 * ((t.val - 1) / 28) + (y 0).val, by omega⟩ rfl).trans ?_
    unfold dxG
    refine congrArg₂ (gradG m c (am c)) (Fin.ext ?_) (Fin.ext ?_)
    · blk_simp [idx0_4]
      show 1024 * ((t.val - 1) / 28) + (y 0).val = (t.val - 1) / 28 * 1024 + (y 0).val
      omega
    · blk_simp [idx0_4]
  · obtain ⟨after, hL, hA⟩ := Pipeline.RDat.FramePost.exists_exact h c
    refine (hA 5).trans ?_
    refine Dat.arrAt_eq_of_covers (((datV m c).toRRel forgets0 (RlV m c)).withAfter after) 5 (cdG m c (am c)) covers5 fun t hf y => ?_
    have hX : Out5 m c t (after 5 t) := Dat.toRRel_leaves (datV m c) rfl (hL 5 t hf)
    blk_simp
    have ht : t.val < 337 := t.isLt
    have hy0 : (y 0).val < 1024 := (y 0).isLt
    have hy1 : (y 1).val < 256 := (y 1).isLt
    have hval := (congrArg (after 5 t) (show y = ix2 (y 0) (y 1) from funext fun d => match d with | ⟨0, _⟩ => rfl | ⟨1, _⟩ => rfl)).trans (hX (y 0) (y 1))
    refine hval.trans ?_
    refine (codes_at (ham c) t (y 0) (y 1) ⟨1024 * (min t.val 335 / 28) + (y 0).val, by omega⟩ ⟨256 * (min t.val 335 % 28) + (y 1).val, by omega⟩ rfl rfl).trans ?_
    unfold cdG
    refine congrArg₂ (codesG m c (am c)) (Fin.ext ?_) (Fin.ext ?_)
    · blk_simp [idx0_5]
      show 1024 * (min t.val 335 / 28) + (y 0).val = min t.val 335 / 28 * 1024 + (y 0).val
      omega
    · blk_simp [idx0_5]
      show 256 * (min t.val 335 % 28) + (y 1).val = min t.val 335 % 28 * 256 + (y 1).val
      omega
  · obtain ⟨after, hL, hA⟩ := Pipeline.RDat.FramePost.exists_exact h c
    refine (hA 6).trans ?_
    refine Dat.arrAt_eq_of_covers (((datV m c).toRRel forgets0 (RlV m c)).withAfter after) 6 (scG (am c)) covers6 fun t hf y => ?_
    have hX : Out6 m c t (after 6 t) := Dat.toRRel_leaves (datV m c) rfl (hL 6 t hf)
    have h27 := flush6 t hf
    obtain ⟨C, hC, hE⟩ := hX h27
    blk_simp
    have ht : t.val < 337 := t.isLt
    have hy0 : (y 0).val < 1024 := (y 0).isLt
    have hval := (congrArg (after 6 t) (show y = ix2 (y 0) (y 1) from funext fun d => match d with | ⟨0, _⟩ => rfl | ⟨1, _⟩ => rfl)).trans (congrFun hE (ix2 (y 0) (y 1)))
    refine hval.trans ?_
    refine (scales_at (ham c) t h27 C hC (y 0) (y 1) ⟨1024 * (min t.val 335 / 28) + (y 0).val, by omega⟩ rfl).trans ?_
    unfold scG
    refine congrArg₂ (scalesG (am c)) (Fin.ext ?_) (Fin.ext ?_)
    · blk_simp [idx0_6]
      show 1024 * (min t.val 335 / 28) + (y 0).val = min t.val 335 / 28 * 1024 + (y 0).val
      omega
    · blk_simp [idx0_6]

end Cert.KernelIdeal.Gen

end
-- ==== Proof.RefQ.lean ====
/- The reference's quantised and dequantised gradient, entry by entry. -/
module

public import proofs.«01_k».proof.Proof.Gen.ReferenceIdeal.Read
public import proofs.«01_k».proof.Proof.Words
public import Idealize.ShloMosaic.Lib.Pointwise
public import Idealize.ShloMosaic.Lib.IndicatorCount

@[expose] public section

set_option maxRecDepth 16384

noncomputable section

namespace Cert.ReferenceIdeal.Read

open Cert.ReferenceIdeal Cert.ReferenceIdeal.Gen Idealize.ShloMosaic Idealize.ShloMosaic.TcCoe Cert.Grad

variable (x0 : (⟨S8x1536x14336, .bf16⟩ : BufTy).Contents (Elt Ideal)) (x1 : (⟨S8x1536x14336, .i32⟩ : BufTy).Contents (Elt Ideal))

/-- Where a row and column of the flattened gradient lie in the argument. -/
def xAt (r : Fin 12288) (n : Fin 14336) : S8x1536x14336.Idx := ix3 ⟨r.val / 1536, by omega⟩ ⟨r.val % 1536, by omega⟩ n

theorem idx_v1 (r : Fin 12288) (g : Fin 448) (k : Fin 32) : idx_main_v1 (ix3 r g k) = xAt r ⟨32 * g.val + k.val, by omega⟩ := by
  funext a
  match a with
  | ⟨0, _⟩ => exact Fin.ext (by show ((r.val * 448 + g.val) * 32 + k.val) / 22020096 = r.val / 1536; omega)
  | ⟨1, _⟩ => exact Fin.ext (by show ((r.val * 448 + g.val) * 32 + k.val) / 14336 % 1536 = r.val % 1536; omega)
  | ⟨2, _⟩ => exact Fin.ext (by show ((r.val * 448 + g.val) * 32 + k.val) % 14336 = 32 * g.val + k.val; omega)

theorem v1_at (r : Fin 12288) (g : Fin 448) (k : Fin 32) : val_main_v1 (F := Ideal) x0 (ix3 r g k) = x0 (xAt r ⟨32 * g.val + k.val, by omega⟩) := by
  rw [val_main_v1_apply, val_main_v0_apply, idx_v1]; rfl

theorem v70_at (r : Fin 12288) (g : Fin 448) (k : Fin 32) : val_main_v70 (F := Ideal) x1 (ix3 r g k) = x1 (xAt r ⟨32 * g.val + k.val, by omega⟩) := by
  rw [val_main_v70_apply]; exact congrArg x1 (idx_v1 r g k)

/-! ### The constants -/

theorem f0 : Ideal.ofBits .f32 0x00000000#32 = 0 := by have := f32_E8 0; rw [E8_zero] at this; exact this
theorem fBot : Ideal.ofBits .f32 0xFF800000#32 = ⊥ := by
  have := f32_E8 511; refine this.trans ?_; unfold E8; norm_num
theorem fHalf : Ideal.ofBits .f32 0x3F000000#32 = ((1 / 2 : ℝ) : EReal) := by
  have := f32_E8 126; rw [E8_pos (by omega) (by omega)] at this; refine this.trans ?_; congr 1; norm_num
theorem f1 : Ideal.ofBits .f32 0x3F800000#32 = 1 := by
  have := f32_E8 127; rw [E8_pos (by omega) (by omega)] at this; refine this.trans ?_
  norm_num
theorem f2 : Ideal.ofBits .f32 0x40000000#32 = 2 := by
  have := f32_E8 128; rw [E8_pos (by omega) (by omega)] at this; refine this.trans ?_
  rw [show (2 : EReal) = ((2 : ℝ) : EReal) from rfl]; congr 1; norm_num
theorem f4 : Ideal.ofBits .f32 0x40800000#32 = 4 := by
  have := f32_E8 129; rw [E8_pos (by omega) (by omega)] at this; refine this.trans ?_
  rw [show (4 : EReal) = ((4 : ℝ) : EReal) from rfl]; congr 1; norm_num
theorem f6 : Ideal.ofBits .f32 0x40C00000#32 = 6 := by
  rw [show (6 : EReal) = ((6 : ℝ) : EReal) from rfl]
  simp [Ideal.ofBits, Ideal.ieee]
  rw [← EReal.coe_mul]; norm_num
theorem fU : Ideal.ofBits .f32 0x33800000#32 = E8 103 := f32_E8 103

theorem sel_olt (x y a b : EReal) : Scalar.select (FloatOps.cmpf (F := Ideal) (φ := .f32) .olt x y) a b = if x < y then a else b := by
  show (if Ideal.cmp .olt x y = 1#1 then a else b) = _
  by_cases h : x < y
  · rw [if_pos h, if_pos (by unfold Ideal.cmp; simp [h])]
  · rw [if_neg h, if_neg (by unfold Ideal.cmp; simp [h])]

theorem ite_lt_eq {x x' y y' a a' b b' : EReal} (hx : x = x') (hy : y = y') (ha : a = a') (hb : b = b') :
    (if x < y then a else b) = if x' < y' then a' else b' := by subst hx hy ha hb; rfl

/-! ### The block's largest magnitude and its exponent -/

theorem amaxR_le (r : Fin 12288) (g : Fin 448) (z : EReal) :
    val_main_v3 (F := Ideal) x0 (ix2 r g) ≤ z ↔ ∀ k : Fin 32, max (x0 (xAt r ⟨32 * g.val + k.val, by omega⟩) : EReal) (-(x0 (xAt r ⟨32 * g.val + k.val, by omega⟩) : EReal)) ≤ z := by
  have h : val_main_v3 (F := Ideal) x0 (ix2 r g) = (Finset.univ : Finset (Fin 32)).fold (max : EReal → EReal → EReal) (Ideal.ofBits .f32 0xFF800000#32)
      (fun k => max (x0 (xAt r ⟨32 * g.val + k.val, by omega⟩) : EReal) (-(x0 (xAt r ⟨32 * g.val + k.val, by omega⟩) : EReal))) := by
    unfold val_main_v3
    rw [Host.reduce_eq_fold, Shape.ReducesTo.fold_fiber_r3_a2]
    refine congrArg (fun f => (Finset.univ : Finset (Fin 32)).fold (max : EReal → EReal → EReal) (Ideal.ofBits .f32 0xFF800000#32) f) (funext fun k => ?_)
    have e : val_main_v2 (F := Ideal) x0 (ix3 r g k) = max (val_main_v1 (F := Ideal) x0 (ix3 r g k) : EReal) (-(val_main_v1 (F := Ideal) x0 (ix3 r g k) : EReal)) := by
      rw [val_main_v2_apply]; rfl
    rw [v1_at] at e
    exact e
  rw [h, Finset.fold_max_le, fBot]
  exact ⟨fun h k => h.2 k (Finset.mem_univ k), fun h => ⟨bot_le, fun k _ => h k⟩⟩

theorem pow_word : ∀ k : Fin 255, IntOp.shli .host (IntOp.addi (IntOp.addi 4294967170#32 (BitVec.ofNat 32 k.val)) 127#32) 23#32 = BitVec.ofNat 32 (8388608 * (k.val + 1)) := by decide +kernel

theorem v18_at (r : Fin 12288) (g : Fin 448) : val_main_v18 (F := Ideal) x0 (ix2 r g) = BitVec.ofNat 32 (cnt (val_main_v3 (F := Ideal) x0 (ix2 r g))) := by
  have hp : ∀ k : Fin 255, (val_main_v16 (F := Ideal) x0 (ix3 r g k) = 1#1) ↔ E8 (k.val + 1) ≤ val_main_v3 (F := Ideal) x0 (ix2 r g) := by
    intro k
    have h15 : val_main_v15 (F := Ideal) (ix3 r g k) = E8 (k.val + 1) := by
      rw [val_main_v15_apply, val_main_v13_apply, val_main_v11_apply, val_main_v10_apply, val_main_v8_apply, val_main_v6_apply,
        val_main_v5_apply, val_main_c_apply, val_main_v4_apply, val_main_v7_apply, val_main_c_0_apply, val_main_v9_apply, val_main_c_1_apply]
      exact (congrArg (Ideal.ofBits .f32) (pow_word k)).trans (f32_E8 _)
    have h14 : val_main_v14 (F := Ideal) x0 (ix3 r g k) = val_main_v3 (F := Ideal) x0 (ix2 r g) := by
      rw [val_main_v14_apply, val_main_v12_apply]
      refine congrArg (val_main_v3 (F := Ideal) x0) (funext fun a => ?_)
      match a with
      | ⟨0, _⟩ => rfl
      | ⟨1, _⟩ => rfl
    rw [val_main_v16_apply, h15, h14]
    show Ideal.cmp .oge _ _ = 1#1 ↔ _
    unfold Ideal.cmp
    by_cases h : E8 (k.val + 1) ≤ val_main_v3 (F := Ideal) x0 (ix2 r g) <;> simp [h]
  unfold val_main_v18
  rw [Host.reduce_eq_fold, Shape.ReducesTo.fold_fiber_r3_a2]
  refine (IndicatorCount.fold_addi_setWidth_eq_card (w := 32) (fun k : Fin 255 => val_main_v16 (F := Ideal) x0 (ix3 r g k)) Finset.univ).trans ?_
  refine congrArg (BitVec.ofNat 32) ?_
  unfold cnt
  refine Finset.card_bij (fun k _ => k.val) (fun k hk => ?_) (fun a _ b _ h => Fin.ext h) (fun b hb => ?_)
  · rw [Finset.mem_filter, Finset.mem_range]
    exact ⟨k.isLt, (hp k).mp (Finset.mem_filter.mp hk).2⟩
  · rw [Finset.mem_filter, Finset.mem_range] at hb
    exact ⟨⟨b, hb.1⟩, Finset.mem_filter.mpr ⟨Finset.mem_univ _, (hp ⟨b, hb.1⟩).mpr hb.2⟩, rfl⟩

theorem inv_pos_word : ∀ n : Fin 256, IntOp.shli .host (IntOp.addi (-(IntOp.subi (IntOp.subi (BitVec.ofNat 32 n.val) 126#32) 3#32)) 127#32) 23#32
    = BitVec.ofNat 32 (8388608 * (256 - n.val)) := by decide +kernel
theorem sc_pos_word : ∀ n : Fin 256, IntOp.shli .host (IntOp.addi (IntOp.subi (IntOp.subi (BitVec.ofNat 32 n.val) 126#32) 3#32) 127#32) 23#32
    = BitVec.ofNat 32 (8388608 * ((n.val + 510) % 512)) := by decide +kernel

theorem v25_at (r : Fin 12288) (g : Fin 448) : val_main_v25 (F := Ideal) x0 (ix2 r g)
    = if val_main_v3 (F := Ideal) x0 (ix2 r g) = (0 : EReal) then 0#32
      else IntOp.subi (IntOp.subi (BitVec.ofNat 32 (cnt (val_main_v3 (F := Ideal) x0 (ix2 r g)))) 126#32) 3#32 := by
  rw [val_main_v25_apply, val_main_v24_apply, val_main_v20_apply, v18_at, val_main_v19_apply, val_main_c_3_apply, val_main_v23_apply, val_main_c_5_apply,
    val_main_call0_v1_apply, val_main_call0_v0_apply, val_main_c_6_apply, val_main_v22_apply, val_main_v21_apply, val_main_cst_4_apply]
  show (if Ideal.cmp .oeq (val_main_v3 (F := Ideal) x0 (ix2 r g)) (Ideal.ofBits .f32 0x00000000#32) = 1#1 then _ else _) = _
  rw [f0]
  by_cases h : val_main_v3 (F := Ideal) x0 (ix2 r g) = (0 : EReal)
  · rw [if_pos h, if_pos (by unfold Ideal.cmp; simp [h])]
  · rw [if_neg h, if_neg (by unfold Ideal.cmp; simp [h])]

theorem v32_at (r : Fin 12288) (g : Fin 448) : val_main_v32 (F := Ideal) x0 (ix2 r g) = E8 (invW (val_main_v3 (F := Ideal) x0 (ix2 r g))) := by
  rw [val_main_v32_apply, val_main_v31_apply, val_main_v29_apply, val_main_v27_apply, v25_at, val_main_v28_apply, val_main_c_7_apply, val_main_v30_apply, val_main_c_8_apply, ← f32_E8]
  refine congrArg (Ideal.ofBits .f32) ?_
  unfold invW
  by_cases h : val_main_v3 (F := Ideal) x0 (ix2 r g) = (0 : EReal)
  · rw [if_pos h, if_pos h]; decide
  · rw [if_neg h, if_neg h]
    have hc := cnt_le (val_main_v3 (F := Ideal) x0 (ix2 r g))
    generalize cnt (val_main_v3 (F := Ideal) x0 (ix2 r g)) = n at hc ⊢
    have hw := inv_pos_word ⟨n, by omega⟩
    rw [hw]

theorem v89_at (r : Fin 12288) (g : Fin 448) : val_main_v89 (F := Ideal) x0 (ix2 r g) = E8 (scW (val_main_v3 (F := Ideal) x0 (ix2 r g))) := by
  rw [val_main_v89_apply, val_main_v88_apply, val_main_v86_apply, v25_at, val_main_v85_apply, val_main_c_27_apply, val_main_v87_apply, val_main_c_28_apply, ← f32_E8]
  refine congrArg (Ideal.ofBits .f32) ?_
  unfold scW
  by_cases h : val_main_v3 (F := Ideal) x0 (ix2 r g) = (0 : EReal)
  · rw [if_pos h, if_pos h]; decide
  · rw [if_neg h, if_neg h]
    have hc := cnt_le (val_main_v3 (F := Ideal) x0 (ix2 r g))
    generalize cnt (val_main_v3 (F := Ideal) x0 (ix2 r g)) = n at hc ⊢
    have hw := sc_pos_word ⟨n, by omega⟩
    rw [hw]

/-! ### The entry -/

theorem v37_at (r : Fin 12288) (g : Fin 448) (k : Fin 32) : val_main_v37 (F := Ideal) x0 (ix3 r g k)
    = clampA (val_main_v3 (F := Ideal) x0 (ix2 r g)) (x0 (xAt r ⟨32 * g.val + k.val, by omega⟩)) := by
  have h34 : val_main_v34 (F := Ideal) x0 (ix3 r g k) = E8 (invW (val_main_v3 (F := Ideal) x0 (ix2 r g))) := by
    rw [val_main_v34_apply, val_main_v33_apply, ← v32_at]
    refine congrArg (val_main_v32 (F := Ideal) x0) (funext fun a => ?_)
    match a with
    | ⟨0, _⟩ => rfl
    | ⟨1, _⟩ => rfl
  rw [val_main_v37_apply, val_main_v36_apply, val_main_cst_9_apply, val_main_v35_apply, val_main_v26_apply, v1_at, h34]
  show min _ (Ideal.ofBits .f32 0x40C00000#32) = _
  rw [f6]; rfl

theorem v43_at (i : S12288x448x32.Idx) : val_main_v43 (F := Ideal) x0 i = stepR (val_main_v37 (F := Ideal) x0 i) := by
  rw [val_main_v43_apply, val_main_v42_apply, val_main_v39_apply, val_main_v41_apply, val_main_v38_apply, val_main_cst_10_apply, val_main_v40_apply, val_main_cst_11_apply,
    val_main_call1_v0_apply, val_main_cst_12_apply, val_main_call1_v1_apply, val_main_cst_13_apply, val_main_call2_v0_apply, val_main_cst_14_apply, sel_olt, sel_olt]
  unfold stepR
  exact ite_lt_eq rfl f2 fHalf (ite_lt_eq rfl f4 f1 f2)

theorem v64_at (i : S12288x448x32.Idx) : val_main_v64 (F := Ideal) x0 i = loR (val_main_v37 (F := Ideal) x0 i) := by
  rw [val_main_v64_apply, val_main_v63_apply, val_main_v45_apply, val_main_v52_apply, val_main_v44_apply, val_main_cst_15_apply, val_main_v51_apply, val_main_cst_18_apply,
    val_main_v50_apply, val_main_v48_apply, val_main_v47_apply, val_main_v46_apply, val_main_cst_16_apply, val_main_v49_apply, val_main_cst_17_apply,
    val_main_v53_apply, val_main_v62_apply, val_main_v61_apply, val_main_cst_22_apply, val_main_v60_apply, val_main_v59_apply, val_main_cst_21_apply, val_main_v58_apply,
    val_main_v57_apply, val_main_v55_apply, val_main_v54_apply, val_main_cst_19_apply, val_main_v56_apply, val_main_cst_20_apply, sel_olt, sel_olt]
  generalize val_main_v37 (F := Ideal) x0 i = a
  unfold loR
  refine ite_lt_eq rfl f2 ?_ (ite_lt_eq rfl f4 rfl ?_)
  · show Ideal.liftRound Int.floor ((a : EReal) * Ideal.ofBits .f32 0x40000000#32) * Ideal.ofBits .f32 0x3F000000#32 = _
    rw [f2, fHalf]
  · show Ideal.ofBits .f32 0x40800000#32 + Ideal.ofBits .f32 0x40000000#32 * Ideal.liftRound Int.floor (((a : EReal) - Ideal.ofBits .f32 0x40800000#32) * Ideal.ofBits .f32 0x3F000000#32) = _
    rw [f2, f4, fHalf]

theorem v75_at (r : Fin 12288) (g : Fin 448) (k : Fin 32) : val_main_v75 (F := Ideal) x1 (ix3 r g k) = uni (x1 (xAt r ⟨32 * g.val + k.val, by omega⟩)) := by
  rw [val_main_v75_apply, val_main_v74_apply, val_main_cst_25_apply, val_main_v73_apply, val_main_v72_apply, v70_at, val_main_v71_apply, val_main_c_24_apply]
  generalize x1 (xAt r ⟨32 * g.val + k.val, by omega⟩) = w
  have hw : IntOp.shrui .host w 8#32 = w >>> 8 := by
    unfold IntOp.shrui; rfl
  rw [hw]
  show (((w >>> 8 : BitVec 32).toNat : ℝ) : EReal) * Ideal.ofBits .f32 0x33800000#32 = _
  rw [fU, BitVec.toNat_ushiftRight, Nat.shiftRight_eq_div_pow]
  rfl

theorem v79_at (r : Fin 12288) (g : Fin 448) (k : Fin 32) : val_main_v79 (F := Ideal) x0 x1 (ix3 r g k)
    = roundR (clampA (val_main_v3 (F := Ideal) x0 (ix2 r g)) (x0 (xAt r ⟨32 * g.val + k.val, by omega⟩))) (uni (x1 (xAt r ⟨32 * g.val + k.val, by omega⟩))) := by
  rw [val_main_v79_apply, val_main_v78_apply, val_main_v77_apply, val_main_v76_apply, val_main_v69_apply, val_main_v68_apply, val_main_v67_apply, val_main_v66_apply, val_main_cst_23_apply,
    val_main_v65_apply, v75_at, v43_at, v64_at, v37_at, sel_olt]
  exact ite_lt_eq rfl (congrArg (fun o : EReal => _ * Ideal.div o _) f1) rfl rfl

/-- THE REFERENCE'S QUANTISED AND DEQUANTISED GRADIENT. -/
theorem v94_at (r : Fin 12288) (n : Fin 14336) : val_main_v94 (F := Ideal) x0 x1 (ix2 r n)
    = deq (val_main_v3 (F := Ideal) x0 (ix2 r ⟨n.val / 32, by omega⟩)) (x0 (xAt r n)) (x1 (xAt r n)) := by
  have hn : (⟨32 * (n.val / 32) + n.val % 32, by omega⟩ : Fin 14336) = n := Fin.ext (Nat.div_add_mod _ _)
  have hi : idx_main_v94 (ix2 r n) = ix3 r (⟨n.val / 32, by omega⟩ : Fin 448) (⟨n.val % 32, by omega⟩ : Fin 32) := by
    funext a
    match a with
    | ⟨0, _⟩ => exact Fin.ext (by show (r.val * 14336 + n.val) / 14336 = r.val; omega)
    | ⟨1, _⟩ => exact Fin.ext (by show (r.val * 14336 + n.val) / 32 % 448 = n.val / 32; omega)
    | ⟨2, _⟩ => exact Fin.ext (by show (r.val * 14336 + n.val) % 32 = n.val % 32; omega)
  have h92 : ∀ (g : Fin 448) (k : Fin 32), val_main_v92 (F := Ideal) x0 (ix3 r g k) = E8 (scW (val_main_v3 (F := Ideal) x0 (ix2 r g))) := by
    intro g k
    rw [val_main_v92_apply, val_main_v91_apply, val_main_v90_apply, ← v89_at]
    refine congrArg (val_main_v89 (F := Ideal) x0) (funext fun a => ?_)
    match a with
    | ⟨0, _⟩ => rfl
    | ⟨1, _⟩ => rfl
  rw [val_main_v94_apply, hi, val_main_v93_apply, h92, val_main_v84_apply, val_main_v83_apply, val_main_v82_apply, val_main_v81_apply, val_main_v80_apply, val_main_cst_26_apply, v79_at, v1_at, hn, sel_olt]
  unfold deq
  generalize roundR _ _ = R
  generalize E8 _ = s
  show (if (x0 (xAt r n) : EReal) < Ideal.ofBits .f32 0x00000000#32 then -R else R) * s = (if (x0 (xAt r n) : EReal) < 0 then -R else R) * s
  rw [ite_lt_eq rfl f0 rfl rfl]

end Cert.ReferenceIdeal.Read

end
-- ==== Proof.RefD.lean ====
/- The reference's decoded weight, entry by entry, and its result as a sum. -/
module

public import proofs.«01_k».proof.Proof.RefQ
public import proofs.«01_k».proof.Proof.Wt

@[expose] public section

set_option maxRecDepth 16384

noncomputable section

namespace Cert.ReferenceIdeal.Read

open Cert.ReferenceIdeal Cert.ReferenceIdeal.Gen Idealize.ShloMosaic Idealize.ShloMosaic.TcCoe Cert.Grad

variable (x2 : (⟨S14336x2048, .i8⟩ : BufTy).Contents (Elt Ideal)) (x3 : (⟨S448x128, .i8⟩ : BufTy).Contents (Elt Ideal))

/-! ### Words -/

theorem nib_word : ∀ (B : Fin 256) (p : Fin 2), IntOp.andi (IntOp.shrsi .host (BitVec.ofNat 32 B.val) (IntOp.muli 4#32 (BitVec.ofNat 32 p.val))) 15#32 = BitVec.ofNat 32 (nib B.val p.val) := by
  unfold nib; decide +kernel
theorem exp_word : ∀ n : Fin 16, IntOp.shli .host (IntOp.addi (IntOp.subi (IntOp.andi (IntOp.shrsi .host (BitVec.ofNat 32 n.val) 1#32) 3#32) 1#32) 127#32) 23#32
    = BitVec.ofNat 32 (8388608 * (126 + n.val % 8 / 2)) := by decide +kernel
theorem man_word : ∀ n : Fin 16, (IntOp.andi (BitVec.ofNat 32 n.val) 1#32).toInt = (n.val % 2 : ℕ) := by decide +kernel
theorem sub_word : ∀ n : Fin 16, (IntOp.cmpi .eq (IntOp.andi (IntOp.shrsi .host (BitVec.ofNat 32 n.val) 1#32) 3#32) 0#32 = 1#1) ↔ n.val % 8 / 2 = 0 := by decide +kernel
theorem sgn_word : ∀ n : Fin 16, (IntOp.cmpi .ne (IntOp.andi (BitVec.ofNat 32 n.val) 8#32) 0#32 = 1#1) ↔ n.val / 8 = 1 := by decide +kernel
theorem sc_word : ∀ s : Fin 256, IntOp.shli .host (IntOp.addi (IntOp.subi (BitVec.ofNat 32 s.val) 127#32) 127#32) 23#32 = BitVec.ofNat 32 (8388608 * s.val) := by decide +kernel

theorem setWidth8 (x : BitVec 8) : x.setWidth 32 = BitVec.ofNat 32 x.toNat := by
  apply BitVec.eq_of_toNat_eq
  have := x.isLt
  simp

/-- A code's magnitude from its fields. -/
theorem mag_fields (n : ℕ) (hn : n < 16) :
    (if n % 8 / 2 = 0 then ((1 / 2 : ℝ) : EReal) * (((n % 2 : ℕ) : ℝ) : EReal) else (1 + ((1 / 2 : ℝ) : EReal) * (((n % 2 : ℕ) : ℝ) : EReal)) * E8 (126 + n % 8 / 2)) = ((magW (n % 8) : ℝ) : EReal) := by
  have h1 : (1 : EReal) = ((1 : ℝ) : EReal) := rfl
  split
  · rw [← EReal.coe_mul]
    refine congrArg Real.toEReal ?_
    interval_cases n <;> simp_all [magW]
  · rw [E8_pos (by omega) (by omega), h1, ← EReal.coe_mul, ← EReal.coe_add, ← EReal.coe_mul]
    refine congrArg Real.toEReal ?_
    interval_cases n <;> simp_all [magW] <;> norm_num

/-! ### Entries -/

theorem v105_at (K : Fin 14336) (b : Fin 2048) (p : Fin 2) : val_main_v105 (F := Ideal) x2 (ix3 K b p) = BitVec.ofNat 32 (nib (x2 (ix2 K b)).toNat p.val) := by
  have h101 : val_main_v101 (F := Ideal) x2 (ix3 K b p) = BitVec.ofNat 32 (x2 (ix2 K b)).toNat := by
    rw [val_main_v101_apply, val_main_v96_apply, val_main_v95_apply]
    refine Eq.trans ?_ (setWidth8 _)
    refine congrArg (fun j => (x2 j).setWidth 32) (funext fun a => ?_)
    match a with
    | ⟨0, _⟩ => rfl
    | ⟨1, _⟩ => rfl
  have h102 : val_main_v102 (F := Ideal) (ix3 K b p) = IntOp.muli 4#32 (BitVec.ofNat 32 p.val) := by
    rw [val_main_v102_apply, val_main_v100_apply, val_main_v99_apply, val_main_v98_apply, val_main_c_29_apply, val_main_v97_apply]
    rfl
  rw [val_main_v105_apply, val_main_v103_apply, h101, h102, val_main_v104_apply, val_main_c_30_apply]
  exact nib_word ⟨(x2 (ix2 K b)).toNat, (x2 (ix2 K b)).isLt⟩ p

theorem nib_lt (B : BitVec 8) (p : ℕ) : nib B.toNat p < 16 := by
  have := B.isLt
  unfold nib; split <;> omega

theorem v134_at (K : Fin 14336) (b : Fin 2048) (p : Fin 2) : val_main_v134 (F := Ideal) x2 (ix3 K b p) = wtv (nib (x2 (ix2 K b)).toNat p.val) := by
  have hn := nib_lt (x2 (ix2 K b)) p.val
  have h105 := v105_at x2 K b p
  generalize nib (x2 (ix2 K b)).toNat p.val = n at hn h105
  have h114 : val_main_v114 (F := Ideal) x2 (ix3 K b p) = ((1 / 2 : ℝ) : EReal) * (((n % 2 : ℕ) : ℝ) : EReal) := by
    rw [val_main_v114_apply, val_main_v113_apply, val_main_cst_34_apply, val_main_v112_apply, val_main_v111_apply, h105, val_main_v110_apply, val_main_c_33_apply]
    show Ideal.ofBits .f32 0x3F000000#32 * (((IntOp.andi (BitVec.ofNat 32 n) 1#32).toInt : ℝ) : EReal) = _
    have hm := man_word ⟨n, hn⟩
    rw [fHalf, hm]; rfl
  have h109 : val_main_v109 (F := Ideal) x2 (ix3 K b p) = IntOp.andi (IntOp.shrsi .host (BitVec.ofNat 32 n) 1#32) 3#32 := by
    rw [val_main_v109_apply, val_main_v107_apply, h105, val_main_v106_apply, val_main_c_31_apply, val_main_v108_apply, val_main_c_32_apply]
  have h126 : val_main_v126 (F := Ideal) x2 (ix3 K b p) = (1 + ((1 / 2 : ℝ) : EReal) * (((n % 2 : ℕ) : ℝ) : EReal)) * E8 (126 + n % 8 / 2) := by
    rw [val_main_v126_apply, val_main_v118_apply, val_main_v117_apply, val_main_cst_36_apply, h114, val_main_v125_apply, val_main_v124_apply, val_main_v122_apply, val_main_v120_apply, h109,
      val_main_v119_apply, val_main_c_37_apply, val_main_v121_apply, val_main_c_38_apply, val_main_v123_apply, val_main_c_39_apply]
    have hw := exp_word ⟨n, hn⟩
    rw [hw, ← f32_E8, ← f1]
    rfl
  have h127 : val_main_v127 (F := Ideal) x2 (ix3 K b p) = ((magW (n % 8) : ℝ) : EReal) := by
    rw [← mag_fields n hn, val_main_v127_apply, val_main_v116_apply, h109, h114, h126, val_main_v115_apply, val_main_c_35_apply]
    show (if IntOp.cmpi .eq (IntOp.andi (IntOp.shrsi .host (BitVec.ofNat 32 n) 1#32) 3#32) 0#32 = 1#1 then _ else _) = _
    have hs := sub_word ⟨n, hn⟩
    by_cases h : n % 8 / 2 = 0
    · rw [if_pos h, if_pos (hs.mpr h)]
    · rw [if_neg h, if_neg fun h' => h (hs.mp h')]
  rw [val_main_v134_apply, val_main_v133_apply, val_main_v132_apply, h127, val_main_v131_apply, val_main_v129_apply, h105, val_main_v128_apply, val_main_c_40_apply, val_main_v130_apply, val_main_c_41_apply]
  show (if IntOp.cmpi .ne (IntOp.andi (BitVec.ofNat 32 n) 8#32) 0#32 = 1#1 then -((magW (n % 8) : ℝ) : EReal) else ((magW (n % 8) : ℝ) : EReal)) = _
  have hs := sgn_word ⟨n, hn⟩
  unfold wtv
  by_cases h : n / 8 = 1
  · rw [if_pos h, if_pos (hs.mpr h), EReal.coe_neg]
  · rw [if_neg h, if_neg fun h' => h (hs.mp h')]

theorem v144_at (k : Fin 448) (b : Fin 128) : val_main_v144 (F := Ideal) x3 (ix2 k b) = E8 (x3 (ix2 k b)).toNat := by
  rw [val_main_v144_apply, val_main_v143_apply, val_main_v142_apply, val_main_v140_apply, val_main_v138_apply, val_main_v136_apply, val_main_v137_apply, val_main_c_42_apply,
    val_main_v139_apply, val_main_c_43_apply, val_main_v141_apply, val_main_c_44_apply, ← f32_E8]
  refine congrArg (Ideal.ofBits .f32) ?_
  have hw := sc_word ⟨(x3 (ix2 k b)).toNat, (x3 (ix2 k b)).isLt⟩
  refine Eq.trans ?_ hw
  exact congrArg (fun w => IntOp.shli .host (IntOp.addi (IntOp.subi w 127#32) 127#32) 23#32) (setWidth8 _)

/-- THE REFERENCE'S DECODED WEIGHT. -/
theorem v148_at (K : Fin 14336) (b : Fin 4096) : val_main_v148 (F := Ideal) x2 x3 (ix2 K b)
    = wtv (nib (x2 (ix2 K ⟨b.val / 2, by omega⟩)).toNat b.val) * E8 (x3 (ix2 ⟨K.val / 32, by omega⟩ ⟨b.val / 32, by omega⟩)).toNat := by
  have h135 : val_main_v135 (F := Ideal) x2 (idx_main_v148 (ix2 K b)) = wtv (nib (x2 (ix2 K ⟨b.val / 2, by omega⟩)).toNat (b.val % 2)) := by
    rw [val_main_v135_apply]
    refine Eq.trans ?_ (v134_at x2 K ⟨b.val / 2, by omega⟩ ⟨b.val % 2, by omega⟩)
    refine congrArg (val_main_v134 (F := Ideal) x2) (funext fun a => ?_)
    have e : ((((K.val * 4096 + b.val) / 131072) * 32 + (K.val * 4096 + b.val) / 4096 % 32) * 128 + (K.val * 4096 + b.val) / 32 % 128) * 32 + (K.val * 4096 + b.val) % 32 = K.val * 4096 + b.val := by omega
    match a with
    | ⟨0, _⟩ => exact Fin.ext ((congrArg (· / 4096) e).trans (by show (K.val * 4096 + b.val) / 4096 = K.val; omega))
    | ⟨1, _⟩ => exact Fin.ext ((congrArg (· / 2 % 2048) e).trans (by show (K.val * 4096 + b.val) / 2 % 2048 = b.val / 2; omega))
    | ⟨2, _⟩ => exact Fin.ext ((congrArg (· % 2) e).trans (by show (K.val * 4096 + b.val) % 2 = b.val % 2; omega))
  have h146 : val_main_v146 (F := Ideal) x3 (idx_main_v148 (ix2 K b)) = E8 (x3 (ix2 ⟨K.val / 32, by omega⟩ ⟨b.val / 32, by omega⟩)).toNat := by
    rw [val_main_v146_apply, val_main_v145_apply]
    refine Eq.trans ?_ (v144_at x3 ⟨K.val / 32, by omega⟩ ⟨b.val / 32, by omega⟩)
    refine congrArg (val_main_v144 (F := Ideal) x3) (funext fun a => ?_)
    match a with
    | ⟨0, _⟩ => exact Fin.ext (by show (K.val * 4096 + b.val) / 131072 = K.val / 32; omega)
    | ⟨1, _⟩ => exact Fin.ext (by show (K.val * 4096 + b.val) / 32 % 128 = b.val / 32; omega)
  have hn : nib (x2 (ix2 K ⟨b.val / 2, by omega⟩)).toNat (b.val % 2) = nib (x2 (ix2 K ⟨b.val / 2, by omega⟩)).toNat b.val := by
    unfold nib; rw [Nat.mod_mod]
  rw [val_main_v148_apply, val_main_v147_apply, h135, h146, hn]
  rfl

/-- THE REFERENCE'S RESULT at a row and a column. -/
theorem v150_at (x0 : (⟨S8x1536x14336, .bf16⟩ : BufTy).Contents (Elt Ideal)) (x1 : (⟨S8x1536x14336, .i32⟩ : BufTy).Contents (Elt Ideal)) (i : S12288x4096.Idx) :
    val_main_v150 (F := Ideal) x0 x1 x2 x3 i = ∑ K : Fin 14336,
      deq (val_main_v3 (F := Ideal) x0 (ix2 (i 0) ⟨K.val / 32, by omega⟩)) (x0 (xAt (i 0) K)) (x1 (xAt (i 0) K))
        * (wtv (nib (x2 (ix2 K ⟨(i 1).val / 2, by have : (i 1).val < 4096 := (i 1).isLt; omega⟩)).toNat (i 1).val)
          * E8 (x3 (ix2 ⟨K.val / 32, by omega⟩ ⟨(i 1).val / 32, by have : (i 1).val < 4096 := (i 1).isLt; omega⟩)).toNat) := by
  rw [val_main_v150_apply, val_main_v149_apply]
  refine Finset.sum_congr rfl fun K _ => ?_
  have hl : lidx_main_v149 i K = ix2 (i 0) K := funext fun a => match a with | ⟨0, _⟩ => rfl | ⟨1, _⟩ => rfl
  have hr : ridx_main_v149 i K = ix2 K (i 1) := funext fun a => match a with | ⟨0, _⟩ => rfl | ⟨1, _⟩ => rfl
  rw [hl, hr]
  exact congrArg₂ (· * ·) (v94_at x0 x1 (i 0) K) (v148_at x2 x3 K (i 1))

end Cert.ReferenceIdeal.Read

end
-- ==== Proof.RefC.lean ====
/- The reference's packed codes, entry by entry. -/
module

public import proofs.«01_k».proof.Proof.RefQ
public import proofs.«01_k».proof.Proof.Code

@[expose] public section

set_option maxRecDepth 16384

noncomputable section

namespace Cert.ReferenceIdeal.Read

open Cert.ReferenceIdeal Cert.ReferenceIdeal.Gen Idealize.ShloMosaic Idealize.ShloMosaic.TcCoe Cert.Grad

variable (x0 : (⟨S8x1536x14336, .bf16⟩ : BufTy).Contents (Elt Ideal)) (x1 : (⟨S8x1536x14336, .i32⟩ : BufTy).Contents (Elt Ideal))

theorem f7 : Ideal.ofBits .f32 0x40E00000#32 = 7 := by
  rw [show (7 : EReal) = ((7 : ℝ) : EReal) from rfl]
  simp [Ideal.ofBits, Ideal.ieee]
  rw [← EReal.coe_mul]; norm_num

theorem sel_oeq (x y a b : EReal) : Scalar.select (FloatOps.cmpf (F := Ideal) (φ := .f32) .oeq x y) a b = if x = y then a else b := by
  show (if Ideal.cmp .oeq x y = 1#1 then a else b) = _
  by_cases h : x = y
  · rw [if_pos h, if_pos (by unfold Ideal.cmp; simp [h])]
  · rw [if_neg h, if_neg (by unfold Ideal.cmp; simp [h])]

theorem v163_at (i : S12288x448x32.Idx) : val_main_v163 (F := Ideal) x0 x1 i
    = if (val_main_v79 (F := Ideal) x0 x1 i : EReal) < 2 then (val_main_v79 (F := Ideal) x0 x1 i : EReal) * 2
      else if (val_main_v79 (F := Ideal) x0 x1 i : EReal) < 4 then (val_main_v79 (F := Ideal) x0 x1 i : EReal) + 2
      else if (val_main_v79 (F := Ideal) x0 x1 i : EReal) = 4 then 6 else 7 := by
  rw [val_main_v163_apply, val_main_v152_apply, val_main_v151_apply, val_main_cst_45_apply, val_main_v154_apply, val_main_v153_apply, val_main_cst_46_apply,
    val_main_v162_apply, val_main_v156_apply, val_main_v155_apply, val_main_cst_47_apply, val_main_v158_apply, val_main_v157_apply, val_main_cst_48_apply,
    val_main_call10_v0_apply, val_main_v161_apply, val_main_v160_apply, val_main_v159_apply, val_main_cst_49_apply,
    val_main_call9_v0_apply, val_main_cst_50_apply, val_main_call9_v1_apply, val_main_cst_51_apply, sel_olt, sel_olt, sel_oeq]
  generalize val_main_v79 (F := Ideal) x0 x1 i = q
  refine ite_lt_eq rfl f2 (congrArg (fun o : EReal => (q : EReal) * o) f2) (ite_lt_eq rfl f4 (congrArg (fun o : EReal => (q : EReal) + o) f2) ?_)
  show (if (q : EReal) = Ideal.ofBits .f32 0x40800000#32 then Ideal.ofBits .f32 0x40C00000#32 else Ideal.ofBits .f32 0x40E00000#32) = _
  rw [f4, f6, f7]

theorem sign_word : ∀ (n : Fin 8) (b d : Bool), IntOp.ori (BitVec.ofNat 32 n.val) (IntOp.shli .host ((IntOp.andi (if b then 1#1 else 0#1) (if d then 1#1 else 0#1)).setWidth 32) 3#32)
    = BitVec.ofNat 32 (n.val + if b ∧ d then 8 else 0) := by decide +kernel

theorem mag_pos (n : ℕ) (hn : n < 8) : 0 < ((magW n : ℝ) : EReal) ↔ n ≠ 0 := by
  rw [show (0 : EReal) = ((0 : ℝ) : EReal) from rfl, EReal.coe_lt_coe_iff]
  interval_cases n <;> norm_num [magW]

/-- The reference's code of an entry. -/
theorem v173_at (r : Fin 12288) (g : Fin 448) (k : Fin 32) : val_main_v173 (F := Ideal) x0 x1 (ix3 r g k)
    = BitVec.ofNat 32 (nibC (val_main_v3 (F := Ideal) x0 (ix2 r g)) (x0 (xAt r ⟨32 * g.val + k.val, by omega⟩)) (x1 (xAt r ⟨32 * g.val + k.val, by omega⟩))) := by
  rw [val_main_v173_apply, val_main_v164_apply, v163_at, val_main_v172_apply, val_main_v171_apply, val_main_c_54_apply, val_main_v170_apply, val_main_v169_apply,
    val_main_v166_apply, val_main_v165_apply, val_main_cst_52_apply, val_main_v168_apply, val_main_v167_apply, val_main_cst_53_apply, v79_at, v1_at]
  unfold nibC
  obtain ⟨hn, hq, -⟩ := entry_code (val_main_v3 (F := Ideal) x0 (ix2 r g)) (x0 (xAt r ⟨32 * g.val + k.val, by omega⟩)) (x1 (xAt r ⟨32 * g.val + k.val, by omega⟩))
  generalize codeOf _ = n at hn hq ⊢
  rw [hq, ref_code n hn]
  have hp := mag_pos n hn
  generalize ((magW n : ℝ) : EReal) = q at hp ⊢
  generalize x0 (xAt r ⟨32 * g.val + k.val, by omega⟩) = x
  have e1 : (FloatOps.cmpf (F := Ideal) (φ := .f32) .olt x (FloatOps.ofBits (F := Ideal) .f32 0x00000000#32)) = if decide ((x : EReal) < 0) then 1#1 else 0#1 := by
    show Ideal.cmp .olt x (Ideal.ofBits .f32 0x00000000#32) = _
    rw [f0]; unfold Ideal.cmp; by_cases h : (x : EReal) < 0 <;> simp [h]
  have e2 : (FloatOps.cmpf (F := Ideal) (φ := .f32) .ogt q (FloatOps.ofBits (F := Ideal) .f32 0x00000000#32)) = if decide (n ≠ 0) then 1#1 else 0#1 := by
    show Ideal.cmp .ogt q (Ideal.ofBits .f32 0x00000000#32) = _
    rw [f0]; unfold Ideal.cmp; by_cases h : n = 0
    · have : ¬ 0 < q := fun h' => hp.mp h' h
      simp [h, this]
    · have : 0 < q := hp.mpr h
      simp [h, this]
  have e3 := sign_word ⟨n, hn⟩ (decide ((x : EReal) < 0)) (decide (n ≠ 0))
  rw [← e1, ← e2, ← toI32 n hn] at e3
  simp only [decide_eq_true_eq] at e3
  exact e3

/-- THE REFERENCE'S PACKED CODES. -/
theorem v182_at (r : Fin 12288) (b : Fin 7168) : val_main_v182 (F := Ideal) x0 x1 (ix2 r b)
    = BitVec.ofNat 8 (nibC (val_main_v3 (F := Ideal) x0 (ix2 r ⟨2 * b.val / 32, by omega⟩)) (x0 (xAt r ⟨2 * b.val, by omega⟩)) (x1 (xAt r ⟨2 * b.val, by omega⟩))
      + 16 * nibC (val_main_v3 (F := Ideal) x0 (ix2 r ⟨(2 * b.val + 1) / 32, by omega⟩)) (x0 (xAt r ⟨2 * b.val + 1, by omega⟩)) (x1 (xAt r ⟨2 * b.val + 1, by omega⟩))) := by
  have h174 : ∀ (p : Fin 2) (n : Fin 14336), n.val = 2 * b.val + p.val → val_main_v174 (F := Ideal) x0 x1 (ix3 r b p)
      = BitVec.ofNat 32 (nibC (val_main_v3 (F := Ideal) x0 (ix2 r ⟨n.val / 32, by omega⟩)) (x0 (xAt r n)) (x1 (xAt r n))) := by
    intro p n hn
    have hi : idx_main_v174 (ix3 r b p) = ix3 r (⟨n.val / 32, by omega⟩ : Fin 448) (⟨n.val % 32, by omega⟩ : Fin 32) := by
      funext a
      match a with
      | ⟨0, _⟩ => exact Fin.ext (by show ((r.val * 7168 + b.val) * 2 + p.val) / 14336 = r.val; omega)
      | ⟨1, _⟩ => exact Fin.ext (by show ((r.val * 7168 + b.val) * 2 + p.val) / 32 % 448 = n.val / 32; omega)
      | ⟨2, _⟩ => exact Fin.ext (by show ((r.val * 7168 + b.val) * 2 + p.val) % 32 = n.val % 32; omega)
    have hn' : (⟨32 * (n.val / 32) + n.val % 32, by omega⟩ : Fin 14336) = n := Fin.ext (Nat.div_add_mod _ _)
    rw [val_main_v174_apply, hi, v173_at, hn']
  have i0 : idx_main_v175 (idx_main_v176 (ix2 r b)) = ix3 r b (0 : Fin 2) := by
    funext a
    match a with
    | ⟨0, _⟩ => exact Fin.ext (by show (r.val * 7168 + b.val) / 7168 = r.val; omega)
    | ⟨1, _⟩ => exact Fin.ext (by show (r.val * 7168 + b.val) / 1 % 7168 = b.val; omega)
    | ⟨2, _⟩ => exact Fin.ext rfl
  have i1 : idx_main_v177 (idx_main_v178 (ix2 r b)) = ix3 r b (1 : Fin 2) := by
    funext a
    match a with
    | ⟨0, _⟩ => exact Fin.ext (by show (r.val * 7168 + b.val) / 7168 = r.val; omega)
    | ⟨1, _⟩ => exact Fin.ext (by show (r.val * 7168 + b.val) / 1 % 7168 = b.val; omega)
    | ⟨2, _⟩ => exact Fin.ext rfl
  rw [val_main_v182_apply, val_main_v181_apply, val_main_v176_apply, val_main_v175_apply, i0, val_main_v180_apply, val_main_v179_apply, val_main_c_55_apply,
    val_main_v178_apply, val_main_v177_apply, i1, h174 0 ⟨2 * b.val, by omega⟩ rfl, h174 1 ⟨2 * b.val + 1, by omega⟩ rfl]
  exact join_ref ⟨_, nibC_lt _ _ _⟩ ⟨_, nibC_lt _ _ _⟩

end Cert.ReferenceIdeal.Read

end
-- ==== Proof.RefS.lean ====
/- The reference's scale bytes, entry by entry. -/
module

public import proofs.«01_k».proof.Proof.RefQ

@[expose] public section

set_option maxRecDepth 16384

noncomputable section

namespace Cert.ReferenceIdeal.Read

open Cert.ReferenceIdeal Cert.ReferenceIdeal.Gen Idealize.ShloMosaic Idealize.ShloMosaic.TcCoe Cert.Grad

variable (x0 : (⟨S8x1536x14336, .bf16⟩ : BufTy).Contents (Elt Ideal))

theorem sc_byte : ∀ n : Fin 256, (IntOp.addi (IntOp.subi (IntOp.subi (BitVec.ofNat 32 n.val) 126#32) 3#32) 127#32).setWidth 8
    = BitVec.ofNat 8 ((n.val + 510) % 512) := by decide +kernel

/-- THE REFERENCE'S SCALE BYTES. -/
theorem v185_at (r : Fin 12288) (g : Fin 448) : val_main_v185 (F := Ideal) x0 (ix2 r g) = BitVec.ofNat 8 (scW (val_main_v3 (F := Ideal) x0 (ix2 r g))) := by
  rw [val_main_v185_apply, val_main_v184_apply, v25_at, val_main_v183_apply, val_main_c_56_apply]
  unfold scW
  by_cases h : val_main_v3 (F := Ideal) x0 (ix2 r g) = (0 : EReal)
  · rw [if_pos h, if_pos h]; decide
  · rw [if_neg h, if_neg h]
    have hc := cnt_le (val_main_v3 (F := Ideal) x0 (ix2 r g))
    generalize cnt (val_main_v3 (F := Ideal) x0 (ix2 r g)) = n at hc ⊢
    exact sc_byte ⟨n, by omega⟩

end Cert.ReferenceIdeal.Read

end
-- ==== Proof.Algebraic.lean ====
/- The kernel's results and the reference's are the same arrays over the extended reals. -/
module

public import proofs.«01_k».proof.Defs
public import proofs.«01_k».proof.Proof.Gen.ReferenceIdeal.Run
public import proofs.«01_k».proof.Proof.KArr
public import proofs.«01_k».proof.Proof.RefD
public import proofs.«01_k».proof.Proof.RefC
public import proofs.«01_k».proof.Proof.RefS

@[expose] public section

set_option maxRecDepth 16384

noncomputable section

namespace Cert.Algebraic

open Idealize.ShloMosaic Idealize.ShloMosaic.TcCoe Idealize.SL.Sem Cert.KernelIdeal.Gen Cert.ReferenceIdeal.Read

variable (m : (ℓ : Loc Cert.KernelIdeal.nD Cert.KernelIdeal.τ Cert.KernelIdeal.sig) → Buf (Elt Ideal) ℓ) (c : Dev Cert.KernelIdeal.nD)

/-- A block's largest magnitude, as the reference computes it from the gradient. -/
def amG (r : Fin 12288) (g : Fin 448) : EReal :=
  val_main_v3 (F := Ideal) (m ((c.tc : Thread Cert.KernelIdeal.nD Cert.KernelIdeal.τ).loc Cert.KernelIdeal.main_arg0)) (ix2 r g)

theorem amG_isMax : IsMax m c (amG m c) := fun r g z => amaxR_le _ r g z

/-- The reference's result is the array the kernel leaves. -/
theorem ref_eq : val_main_v150 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) = dxG m c (amG m c) := by
  funext i
  refine (v150_at _ _ _ _ i).trans ?_
  exact Finset.sum_congr rfl fun K _ => rfl

/-- The reference's codes are those the kernel leaves. -/
theorem ref_codes : val_main_v182 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = cdG m c (amG m c) := by
  funext i
  refine (congrArg (val_main_v182 (F := Ideal) _ _) (show i = ix2 (i 0) (i 1) from funext fun d => match d with | ⟨0, _⟩ => rfl | ⟨1, _⟩ => rfl)).trans ?_
  exact v182_at _ _ (i 0) (i 1)

/-- The reference's scale bytes are those the kernel leaves. -/
theorem ref_scales : val_main_v185 (F := Ideal)
      (m ((c.tc : Thread Cert.KernelIdeal.nD Cert.KernelIdeal.τ).loc Cert.KernelIdeal.main_arg0)) = scG (amG m c) := by
  funext i
  refine (congrArg (val_main_v185 (F := Ideal) _) (show i = ix2 (i 0) (i 1) from funext fun d => match d with | ⟨0, _⟩ => rfl | ⟨1, _⟩ => rfl)).trans ?_
  exact v185_at _ (i 0) (i 1)

/-- THE VALUE CLAIM. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => dxG m c (amG m c), fun c => cdG m c (amG m c), fun c => scG (amG m c), run_value m g (fun c => amG m c) (fun c => amG_isMax m c), ?_⟩
  refine (θ_run Cert.ReferenceIdeal.defs _ _).mono (fun r h c => ⟨?_, ?_, ?_, (h c).2.2.2⟩) (Cert.ReferenceIdeal.Value.run (F := Ideal) m' g')
  · refine ((h c).1.trans ?_).trans (ref_eq m c)
    obtain ⟨h0, h1, h2, h3⟩ := hm c
    rw [← h0, ← h1, ← h2, ← h3]
    exact val_main_v150_eq _
  · refine ((h c).2.1.trans ?_).trans (ref_codes m c)
    obtain ⟨h0, h1, -, -⟩ := hm c
    rw [← h0, ← h1]
    exact val_main_v182_eq _
  · refine ((h c).2.2.1.trans ?_).trans (ref_scales m c)
    obtain ⟨h0, -, -, -⟩ := hm c
    rw [← h0]
    exact val_main_v185_eq _

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.FrameKernel
public import proofs.«01_k».proof.Proof.FrameKernelIdeal
public import proofs.«01_k».proof.Proof.Algebraic
public import Idealize.ShloMosaic.Lib.Bf16Pair
public import Idealize.ShloMosaic.Adequacy
public import Idealize.ShloMosaic.Init

@[expose] public section

noncomputable section

namespace Cert.Proof

open Idealize.ShloMosaic Idealize.SL.Sem

/-- The reference's frame: its host run read at the arguments; it declares no semaphore. -/
theorem frame_ref : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The ledger of the idealization: every site is the word-pair rule at one pair of shapes. -/
theorem preserves : Cert.preserves_Kernel_KernelIdeal :=
  IdealRules.bf16_pair.statement Cert.KernelIdeal.S32x128 Cert.KernelIdeal.S16x128

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_ref, preserves, Cert.Algebraic.algebraic⟩

end Cert.Proof

end
